-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v43_0)) (v1 : (c : Dev Cert.Kernel2Ideal.nD) → Buf (Elt Ideal) ((c.tc : Thread Cert.Kernel2Ideal.nD Cert.Kernel2Ideal.τ).loc Cert.Kernel2Ideal.main_v43_1)) (v2 : (c : Dev Cert.Kernel2Ideal.nD) → Buf (Elt Ideal) ((c.tc : Thread Cert.Kernel2Ideal.nD Cert.Kernel2Ideal.τ).loc Cert.Kernel2Ideal.main_v43_2)) (v3 : (c : Dev Cert.Kernel2Ideal.nD) → Buf (Elt Ideal) ((c.tc : Thread Cert.Kernel2Ideal.nD Cert.Kernel2Ideal.τ).loc Cert.Kernel2Ideal.main_v43_3)) (v4 : (c : Dev Cert.Kernel2Ideal.nD) → Buf (Elt Ideal) ((c.tc : Thread Cert.Kernel2Ideal.nD Cert.Kernel2Ideal.τ).loc Cert.Kernel2Ideal.main_v43_4)) (v5 : (c : Dev Cert.Kernel2Ideal.nD) → Buf (Elt Ideal) ((c.tc : Thread Cert.Kernel2Ideal.nD Cert.Kernel2Ideal.τ).loc Cert.Kernel2Ideal.main_v43_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v43_0) = v0 c
          ∧ r.2.mem ((c.tc : Thread Cert.Kernel2Ideal.nD Cert.Kernel2Ideal.τ).loc Cert.Kernel2Ideal.main_v43_1) = v1 c
          ∧ r.2.mem ((c.tc : Thread Cert.Kernel2Ideal.nD Cert.Kernel2Ideal.τ).loc Cert.Kernel2Ideal.main_v43_2) = v2 c
          ∧ r.2.mem ((c.tc : Thread Cert.Kernel2Ideal.nD Cert.Kernel2Ideal.τ).loc Cert.Kernel2Ideal.main_v43_3) = v3 c
          ∧ r.2.mem ((c.tc : Thread Cert.Kernel2Ideal.nD Cert.Kernel2Ideal.τ).loc Cert.Kernel2Ideal.main_v43_4) = v4 c
          ∧ r.2.mem ((c.tc : Thread Cert.Kernel2Ideal.nD Cert.Kernel2Ideal.τ).loc Cert.Kernel2Ideal.main_v43_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v135) = v0 c
          ∧ r.2.mem ((c.tc : Thread Cert.Reference2Ideal.nD Cert.Reference2Ideal.τ).loc Cert.Reference2Ideal.main_v137) = v1 c
          ∧ r.2.mem ((c.tc : Thread Cert.Reference2Ideal.nD Cert.Reference2Ideal.τ).loc Cert.Reference2Ideal.main_v140) = v2 c
          ∧ r.2.mem ((c.tc : Thread Cert.Reference2Ideal.nD Cert.Reference2Ideal.τ).loc Cert.Reference2Ideal.main_v141) = v3 c
          ∧ r.2.mem ((c.tc : Thread Cert.Reference2Ideal.nD Cert.Reference2Ideal.τ).loc Cert.Reference2Ideal.main_v142) = v4 c
          ∧ r.2.mem ((c.tc : Thread Cert.Reference2Ideal.nD Cert.Reference2Ideal.τ).loc Cert.Reference2Ideal.main_v130) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v17_0)) (v1 : (c : Dev Cert.Kernel3Ideal.nD) → Buf (Elt Ideal) ((c.tc : Thread Cert.Kernel3Ideal.nD Cert.Kernel3Ideal.τ).loc Cert.Kernel3Ideal.main_v17_1)) (v2 : (c : Dev Cert.Kernel3Ideal.nD) → Buf (Elt Ideal) ((c.tc : Thread Cert.Kernel3Ideal.nD Cert.Kernel3Ideal.τ).loc Cert.Kernel3Ideal.main_v17_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v17_0) = v0 c
          ∧ r.2.mem ((c.tc : Thread Cert.Kernel3Ideal.nD Cert.Kernel3Ideal.τ).loc Cert.Kernel3Ideal.main_v17_1) = v1 c
          ∧ r.2.mem ((c.tc : Thread Cert.Kernel3Ideal.nD Cert.Kernel3Ideal.τ).loc Cert.Kernel3Ideal.main_v17_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v49) = v0 c
          ∧ r.2.mem ((c.tc : Thread Cert.Reference3Ideal.nD Cert.Reference3Ideal.τ).loc Cert.Reference3Ideal.main_v53) = v1 c
          ∧ r.2.mem ((c.tc : Thread Cert.Reference3Ideal.nD Cert.Reference3Ideal.τ).loc Cert.Reference3Ideal.main_v56) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_scores.lean ====
abbrev S16x2048x512 : Shape := ⟨3, ![16, 2048, 512]⟩
abbrev S_ : Shape := ⟨0, ![]⟩

class Facts : Prop where
  bcast_S_S16x2048x512 : S_.BroadcastsInDim S16x2048x512 (![] : Fin 0 → Fin S16x2048x512.rank)
  reducesTo_S16x2048x512_S_d0_1_2 : S16x2048x512.ReducesTo [0, 1, 2] S_
  h_S_ : 0 < S_.numel

variable [Facts]

def fn {F : FTy → Type} [FloatOps F] (main_arg0 : FVec F S16x2048x512 .f32) (main_arg1 : FVec F S16x2048x512 .f32) (main_arg2 : FVec F S16x2048x512 .f32) : IVec S_ 1 :=
  let main_v0 : FVec F S16x2048x512 .f32 := Host.absf main_arg0
  let main_cst : FVec F S_ .f32 := constant S_ .f32 0x7F800000#32
  let main_v1 : FVec F S16x2048x512 .f32 := broadcastInDim S16x2048x512 ![] bcast_S_S16x2048x512 main_cst
  let main_v2 : IVec S16x2048x512 1 := cmpf .olt main_v0 main_v1
  let main_c : IVec S_ 1 := constantI S_ 1 1#1
  let main_v3 : IVec S_ 1 := (fun x v => Host.reduce IntOp.andi x v reducesTo_S16x2048x512_S_d0_1_2 h_S_) main_v2 main_c
  let main_v4 : FVec F S16x2048x512 .f32 := Host.absf main_arg1
  let main_cst_0 : FVec F S_ .f32 := constant S_ .f32 0x7F800000#32
  let main_v5 : FVec F S16x2048x512 .f32 := broadcastInDim S16x2048x512 ![] bcast_S_S16x2048x512 main_cst_0
  let main_v6 : IVec S16x2048x512 1 := cmpf .olt main_v4 main_v5
  let main_c_1 : IVec S_ 1 := constantI S_ 1 1#1
  let main_v7 : IVec S_ 1 := (fun x v => Host.reduce IntOp.andi x v reducesTo_S16x2048x512_S_d0_1_2 h_S_) main_v6 main_c_1
  let main_v8 : IVec S_ 1 := andi main_v3 main_v7
  main_v8
-- ==== Kernel.lean ====
abbrev S16x2048x512 : Shape := ⟨3, ![16, 2048, 512]⟩
abbrev S32768x512 : Shape := ⟨2, ![32768, 512]⟩
abbrev S_ : Shape := ⟨0, ![]⟩
abbrev S128x256x512 : Shape := ⟨3, ![128, 256, 512]⟩
abbrev S128x512 : Shape := ⟨2, ![128, 512]⟩
abbrev S128x1x512 : Shape := ⟨3, ![128, 1, 512]⟩
abbrev S128x512x256 : Shape := ⟨3, ![128, 512, 256]⟩
abbrev S256x512 : Shape := ⟨2, ![256, 512]⟩
abbrev S2048x512 : Shape := ⟨2, ![2048, 512]⟩
abbrev S8x512x256 : Shape := ⟨3, ![8, 512, 256]⟩
abbrev S8x1x512 : Shape := ⟨3, ![8, 1, 512]⟩
abbrev S8x8x256 : Shape := ⟨3, ![8, 8, 256]⟩
abbrev S8x256 : Shape := ⟨2, ![8, 256]⟩
abbrev S8x256x256 : Shape := ⟨3, ![8, 256, 256]⟩
abbrev S512x256 : Shape := ⟨2, ![512, 256]⟩
abbrev S256x256 : Shape := ⟨2, ![256, 256]⟩
abbrev S256x64 : Shape := ⟨2, ![256, 64]⟩
abbrev S8x1x64 : Shape := ⟨3, ![8, 1, 64]⟩
abbrev S8x64 : Shape := ⟨2, ![8, 64]⟩
abbrev S1x256 : Shape := ⟨2, ![1, 256]⟩
abbrev S1x8x256 : Shape := ⟨3, ![1, 8, 256]⟩
abbrev S256 : Shape := ⟨1, ![256]⟩
abbrev S1x256x256 : Shape := ⟨3, ![1, 256, 256]⟩
abbrev S1x64x256 : Shape := ⟨3, ![1, 64, 256]⟩
abbrev S64x256 : Shape := ⟨2, ![64, 256]⟩
abbrev S1x1x256 : Shape := ⟨3, ![1, 1, 256]⟩

abbrev nBuf : Space → Nat
  | .hbm => 21
  | .vmem => 16
  | .smem => 0
  | _ => 0

abbrev bufTy : (tb : Table) → Fin (tcTables nBuf tb) → BufTy
  | .hbm, ⟨0, _⟩ => ⟨S16x2048x512, .f32⟩
  | .hbm, ⟨1, _⟩ => ⟨S16x2048x512, .f32⟩
  | .hbm, ⟨2, _⟩ => ⟨S16x2048x512, .f32⟩
  | .hbm, ⟨3, _⟩ => ⟨S32768x512, .f32⟩
  | .hbm, ⟨4, _⟩ => ⟨S32768x512, .f32⟩
  | .hbm, ⟨5, _⟩ => ⟨S_, .f32⟩
  | .hbm, ⟨6, _⟩ => ⟨S32768x512, .f32⟩
  | .hbm, ⟨7, _⟩ => ⟨S32768x512, .f32⟩
  | .hbm, ⟨8, _⟩ => ⟨S32768x512, .bf16⟩
  | .hbm, ⟨9, _⟩ => ⟨S32768x512, .bf16⟩
  | .hbm, ⟨10, _⟩ => ⟨S128x256x512, .f32⟩
  | .hbm, ⟨11, _⟩ => ⟨S_, .f32⟩
  | .hbm, ⟨12, _⟩ => ⟨S128x512, .f32⟩
  | .hbm, ⟨13, _⟩ => ⟨S128x1x512, .f32⟩
  | .hbm, ⟨14, _⟩ => ⟨S_, .f32⟩
  | .hbm, ⟨15, _⟩ => ⟨S128x1x512, .f32⟩
  | .hbm, ⟨16, _⟩ => ⟨S128x1x512, .f32⟩
  | .hbm, ⟨17, _⟩ => ⟨S128x256x512, .f32⟩
  | .hbm, ⟨18, _⟩ => ⟨S128x512x256, .f32⟩
  | .hbm, ⟨19, _⟩ => ⟨S128x512x256, .bf16⟩
  | .hbm, ⟨20, _⟩ => ⟨S32768x512, .bf16⟩
  | .local _ .vmem, ⟨0, _⟩ => ⟨S256x512, .bf16⟩
  | .local _ .vmem, ⟨1, _⟩ => ⟨S256x512, .bf16⟩
  | .local _ .vmem, ⟨2, _⟩ => ⟨S2048x512, .bf16⟩
  | .local _ .vmem, ⟨3, _⟩ => ⟨S2048x512, .bf16⟩
  | .local _ .vmem, ⟨4, _⟩ => ⟨S8x512x256, .bf16⟩
  | .local _ .vmem, ⟨5, _⟩ => ⟨S8x512x256, .bf16⟩
  | .local _ .vmem, ⟨6, _⟩ => ⟨S8x1x512, .f32⟩
  | .local _ .vmem, ⟨7, _⟩ => ⟨S8x1x512, .f32⟩
  | .local _ .vmem, ⟨8, _⟩ => ⟨S256x512, .bf16⟩
  | .local _ .vmem, ⟨9, _⟩ => ⟨S256x512, .bf16⟩
  | .local _ .vmem, ⟨10, _⟩ => ⟨S8x8x256, .f32⟩
  | .local _ .vmem, ⟨11, _⟩ => ⟨S8x256, .f32⟩
  | .local _ .vmem, ⟨12, _⟩ => ⟨S8x256, .f32⟩
  | .local _ .vmem, ⟨13, _⟩ => ⟨S8x256, .f32⟩
  | .local _ .vmem, ⟨14, _⟩ => ⟨S8x256x256, .bf16⟩
  | .local _ .vmem, ⟨15, _⟩ => ⟨S512x256, .f32⟩
  | _, _ => ⟨S16x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let arg1 : BitVec 32 := BitVec.ofNat 32 (i 1).val
  let c256_i32 : BitVec 32 := 256#32
  let v1118 : BitVec 32 := Scalar.muli arg1 c256_i32
  v1118
def k0_off1 (i : grid0.Coords) : Fin 2 → Nat :=
  let arg1 : BitVec 32 := BitVec.ofNat 32 (i 1).val
  let c256_i32 : BitVec 32 := 256#32
  let v1118 : BitVec 32 := Scalar.muli arg1 c256_i32
  let v1119 : BitVec 32 := v1118
  let v1120 : Index := Scalar.indexCast v1119
  let c0_416 : Index := 0#32
  ![v1120.toNat, 0]
def k0_off2 (i : grid0.Coords) : Fin 2 → Nat :=
  let arg1 : BitVec 32 := BitVec.ofNat 32 (i 1).val
  let c256_i32 : BitVec 32 := 256#32
  let v1118 : BitVec 32 := Scalar.muli arg1 c256_i32
  let v1119 : BitVec 32 := v1118
  let v1126 : Index := Scalar.indexCast v1119
  let c64_420 : Index := 64#32
  ![v1126.toNat, 64]
def k0_off3 (i : grid0.Coords) : Fin 2 → Nat :=
  let arg1 : BitVec 32 := BitVec.ofNat 32 (i 1).val
  let c256_i32 : BitVec 32 := 256#32
  let v1118 : BitVec 32 := Scalar.muli arg1 c256_i32
  let v1119 : BitVec 32 := v1118
  let v1132 : Index := Scalar.indexCast v1119
  let c128_424 : Index := 128#32
  ![v1132.toNat, 128]
def k0_off4 (i : grid0.Coords) : Fin 2 → Nat :=
  let arg1 : BitVec 32 := BitVec.ofNat 32 (i 1).val
  let c256_i32 : BitVec 32 := 256#32
  let v1118 : BitVec 32 := Scalar.muli arg1 c256_i32
  let v1119 : BitVec 32 := v1118
  let v1138 : Index := Scalar.indexCast v1119
  let c192_428 : Index := 192#32
  ![v1138.toNat, 192]
def k0_off5 (i : grid0.Coords) : Fin 2 → Nat :=
  let arg1 : BitVec 32 := BitVec.ofNat 32 (i 1).val
  let c256_i32 : BitVec 32 := 256#32
  let v1118 : BitVec 32 := Scalar.muli arg1 c256_i32
  let v1119 : BitVec 32 := v1118
  let v1144 : Index := Scalar.indexCast v1119
  let c256_432 : Index := 256#32
  ![v1144.toNat, 256]
def k0_off6 (i : grid0.Coords) : Fin 2 → Nat :=
  let arg1 : BitVec 32 := BitVec.ofNat 32 (i 1).val
  let c256_i32 : BitVec 32 := 256#32
  let v1118 : BitVec 32 := Scalar.muli arg1 c256_i32
  let v1119 : BitVec 32 := v1118
  let v1150 : Index := Scalar.indexCast v1119
  let c320_436 : Index := 320#32
  ![v1150.toNat, 320]
def k0_off7 (i : grid0.Coords) : Fin 2 → Nat :=
  let arg1 : BitVec 32 := BitVec.ofNat 32 (i 1).val
  let c256_i32 : BitVec 32 := 256#32
  let v1118 : BitVec 32 := Scalar.muli arg1 c256_i32
  let v1119 : BitVec 32 := v1118
  let v1156 : Index := Scalar.indexCast v1119
  let c384_440 : Index := 384#32
  ![v1156.toNat, 384]
def k0_off8 (i : grid0.Coords) : Fin 2 → Nat :=
  let arg1 : BitVec 32 := BitVec.ofNat 32 (i 1).val
  let c256_i32 : BitVec 32 := 256#32
  let v1118 : BitVec 32 := Scalar.muli arg1 c256_i32
  let v1119 : BitVec 32 := v1118
  let v1162 : Index := Scalar.indexCast v1119
  let c448_444 : Index := 448#32
  ![v1162.toNat, 448]
def k0_off9 (i : grid0.Coords) : Fin 3 → Nat :=
  let arg1 : BitVec 32 := BitVec.ofNat 32 (i 1).val
  let v1320 : Index := Scalar.indexCast arg1
  let c0_528 : Index := 0#32
  let c0_529 : Index := 0#32
  ![v1320.toNat, 0, 0]
def k0_off10 (i : grid0.Coords) : Fin 3 → Nat :=
  let arg1 : BitVec 32 := BitVec.ofNat 32 (i 1).val
  let v1329 : Index := Scalar.indexCast arg1
  let c64_536 : Index := 64#32
  let c0_537 : Index := 0#32
  ![v1329.toNat, 64, 0]
def k0_off11 (i : grid0.Coords) : Fin 3 → Nat :=
  let arg1 : BitVec 32 := BitVec.ofNat 32 (i 1).val
  let v1338 : Index := Scalar.indexCast arg1
  let c128_544 : Index := 128#32
  let c0_545 : Index := 0#32
  ![v1338.toNat, 128, 0]
def k0_off12 (i : grid0.Coords) : Fin 3 → Nat :=
  let arg1 : BitVec 32 := BitVec.ofNat 32 (i 1).val
  let v1347 : Index := Scalar.indexCast arg1
  let c192_552 : Index := 192#32
  let c0_553 : Index := 0#32
  ![v1347.toNat, 192, 0]
def k0_off13 (i : grid0.Coords) : Fin 3 → Nat :=
  let arg1 : BitVec 32 := BitVec.ofNat 32 (i 1).val
  let v1356 : Index := Scalar.indexCast arg1
  let c256_560 : Index := 256#32
  let c0_561 : Index := 0#32
  ![v1356.toNat, 256, 0]
def k0_off14 (i : grid0.Coords) : Fin 3 → Nat :=
  let arg1 : BitVec 32 := BitVec.ofNat 32 (i 1).val
  let v1365 : Index := Scalar.indexCast arg1
  let c320_568 : Index := 320#32
  let c0_569 : Index := 0#32
  ![v1365.toNat, 320, 0]
def k0_off15 (i : grid0.Coords) : Fin 3 → Nat :=
  let arg1 : BitVec 32 := BitVec.ofNat 32 (i 1).val
  let v1374 : Index := Scalar.indexCast arg1
  let c384_576 : Index := 384#32
  let c0_577 : Index := 0#32
  ![v1374.toNat, 384, 0]
def k0_off16 (i : grid0.Coords) : Fin 3 → Nat :=
  let arg1 : BitVec 32 := BitVec.ofNat 32 (i 1).val
  let v1383 : Index := Scalar.indexCast arg1
  let c448_584 : Index := 448#32
  let c0_585 : Index := 0#32
  ![v1383.toNat, 448, 0]
@[reducible] def k0_t1_loop (i : grid0.Coords) : Scf.Loop 32 :=
  let c0_i32_593 : BitVec 32 := 0#32
  let arg1 : BitVec 32 := BitVec.ofNat 32 (i 1).val
  let v1392 : BitVec 32 := Scalar.subi arg1 c0_i32_593
  let c1_i32_594 : BitVec 32 := 1#32
  let v1394 : BitVec 32 := Scalar.divsi v1392 c1_i32_594
  let v1395 : BitVec 32 := Scalar.muli v1394 c1_i32_594
  let v1396 : BitVec 32 := Scalar.addi c0_i32_593 v1395
  let c1_i32_595 : BitVec 32 := 1#32
  ⟨c0_i32_593, v1396, c1_i32_595⟩
def k0_mult2 (i : grid0.Coords) (k0_t1 : Fin (k0_t1_loop i).trips) : BitVec 32 :=
  let c0_i32_593 : BitVec 32 := 0#32
  let c1_i32_595 : BitVec 32 := 1#32
  let arg13 : BitVec 32 := Scf.iv c0_i32_593 c1_i32_595 k0_t1
  let c256_i32_649 : BitVec 32 := 256#32
  let v1457 : BitVec 32 := Scalar.muli arg13 c256_i32_649
  v1457
def k0_off17 (i : grid0.Coords) (k0_t1 : Fin (k0_t1_loop i).trips) : Fin 2 → Nat :=
  let c0_i32_593 : BitVec 32 := 0#32
  let c1_i32_595 : BitVec 32 := 1#32
  let arg13 : BitVec 32 := Scf.iv c0_i32_593 c1_i32_595 k0_t1
  let c256_i32_649 : BitVec 32 := 256#32
  let v1457 : BitVec 32 := Scalar.muli arg13 c256_i32_649
  let v1458 : BitVec 32 := v1457
  let v1459 : Index := Scalar.indexCast v1458
  let c0_650 : Index := 0#32
  ![v1459.toNat, 0]
def k0_off18 (i : grid0.Coords) (k0_t1 : Fin (k0_t1_loop i).trips) : Fin 2 → Nat :=
  let c0_i32_593 : BitVec 32 := 0#32
  let c1_i32_595 : BitVec 32 := 1#32
  let arg13 : BitVec 32 := Scf.iv c0_i32_593 c1_i32_595 k0_t1
  let c256_i32_649 : BitVec 32 := 256#32
  let v1457 : BitVec 32 := Scalar.muli arg13 c256_i32_649
  let v1458 : BitVec 32 := v1457
  let v1465 : Index := Scalar.indexCast v1458
  let c64_654 : Index := 64#32
  ![v1465.toNat, 64]
def k0_off19 (i : grid0.Coords) (k0_t1 : Fin (k0_t1_loop i).trips) : Fin 2 → Nat :=
  let c0_i32_593 : BitVec 32 := 0#32
  let c1_i32_595 : BitVec 32 := 1#32
  let arg13 : BitVec 32 := Scf.iv c0_i32_593 c1_i32_595 k0_t1
  let c256_i32_649 : BitVec 32 := 256#32
  let v1457 : BitVec 32 := Scalar.muli arg13 c256_i32_649
  let v1458 : BitVec 32 := v1457
  let v1471 : Index := Scalar.indexCast v1458
  let c128_658 : Index := 128#32
  ![v1471.toNat, 128]
def k0_off20 (i : grid0.Coords) (k0_t1 : Fin (k0_t1_loop i).trips) : Fin 2 → Nat :=
  let c0_i32_593 : BitVec 32 := 0#32
  let c1_i32_595 : BitVec 32 := 1#32
  let arg13 : BitVec 32 := Scf.iv c0_i32_593 c1_i32_595 k0_t1
  let c256_i32_649 : BitVec 32 := 256#32
  let v1457 : BitVec 32 := Scalar.muli arg13 c256_i32_649
  let v1458 : BitVec 32 := v1457
  let v1477 : Index := Scalar.indexCast v1458
  let c192_662 : Index := 192#32
  ![v1477.toNat, 192]
def k0_off21 (i : grid0.Coords) (k0_t1 : Fin (k0_t1_loop i).trips) : Fin 2 → Nat :=
  let c0_i32_593 : BitVec 32 := 0#32
  let c1_i32_595 : BitVec 32 := 1#32
  let arg13 : BitVec 32 := Scf.iv c0_i32_593 c1_i32_595 k0_t1
  let c256_i32_649 : BitVec 32 := 256#32
  let v1457 : BitVec 32 := Scalar.muli arg13 c256_i32_649
  let v1458 : BitVec 32 := v1457
  let v1483 : Index := Scalar.indexCast v1458
  let c256_666 : Index := 256#32
  ![v1483.toNat, 256]
def k0_off22 (i : grid0.Coords) (k0_t1 : Fin (k0_t1_loop i).trips) : Fin 2 → Nat :=
  let c0_i32_593 : BitVec 32 := 0#32
  let c1_i32_595 : BitVec 32 := 1#32
  let arg13 : BitVec 32 := Scf.iv c0_i32_593 c1_i32_595 k0_t1
  let c256_i32_649 : BitVec 32 := 256#32
  let v1457 : BitVec 32 := Scalar.muli arg13 c256_i32_649
  let v1458 : BitVec 32 := v1457
  let v1489 : Index := Scalar.indexCast v1458
  let c320_670 : Index := 320#32
  ![v1489.toNat, 320]
def k0_off23 (i : grid0.Coords) (k0_t1 : Fin (k0_t1_loop i).trips) : Fin 2 → Nat :=
  let c0_i32_593 : BitVec 32 := 0#32
  let c1_i32_595 : BitVec 32 := 1#32
  let arg13 : BitVec 32 := Scf.iv c0_i32_593 c1_i32_595 k0_t1
  let c256_i32_649 : BitVec 32 := 256#32
  let v1457 : BitVec 32 := Scalar.muli arg13 c256_i32_649
  let v1458 : BitVec 32 := v1457
  let v1495 : Index := Scalar.indexCast v1458
  let c384_674 : Index := 384#32
  ![v1495.toNat, 384]
def k0_off24 (i : grid0.Coords) (k0_t1 : Fin (k0_t1_loop i).trips) : Fin 2 → Nat :=
  let c0_i32_593 : BitVec 32 := 0#32
  let c1_i32_595 : BitVec 32 := 1#32
  let arg13 : BitVec 32 := Scf.iv c0_i32_593 c1_i32_595 k0_t1
  let c256_i32_649 : BitVec 32 := 256#32
  let v1457 : BitVec 32 := Scalar.muli arg13 c256_i32_649
  let v1458 : BitVec 32 := v1457
  let v1501 : Index := Scalar.indexCast v1458
  let c448_678 : Index := 448#32
  ![v1501.toNat, 448]
def k0_off25 (i : grid0.Coords) (k0_t1 : Fin (k0_t1_loop i).trips) : Fin 3 → Nat :=
  let c0_682 : Index := 0#32
  let c0_i32_593 : BitVec 32 := 0#32
  let c1_i32_595 : BitVec 32 := 1#32
  let arg13 : BitVec 32 := Scf.iv c0_i32_593 c1_i32_595 k0_t1
  let v1507 : Index := Scalar.indexCast arg13
  let c0_683 : Index := 0#32
  ![0, v1507.toNat, 0]
def k0_off26 (i : grid0.Coords) (k0_t1 : Fin (k0_t1_loop i).trips) : Fin 3 → Nat :=
  let c1_699 : Index := 1#32
  let c0_i32_593 : BitVec 32 := 0#32
  let c1_i32_595 : BitVec 32 := 1#32
  let arg13 : BitVec 32 := Scf.iv c0_i32_593 c1_i32_595 k0_t1
  let v1539 : Index := Scalar.indexCast arg13
  let c0_700 : Index := 0#32
  ![1, v1539.toNat, 0]
def k0_off27 (i : grid0.Coords) (k0_t1 : Fin (k0_t1_loop i).trips) : Fin 3 → Nat :=
  let c2_716 : Index := 2#32
  let c0_i32_593 : BitVec 32 := 0#32
  let c1_i32_595 : BitVec 32 := 1#32
  let arg13 : BitVec 32 := Scf.iv c0_i32_593 c1_i32_595 k0_t1
  let v1571 : Index := Scalar.indexCast arg13
  let c0_717 : Index := 0#32
  ![2, v1571.toNat, 0]
def k0_off28 (i : grid0.Coords) (k0_t1 : Fin (k0_t1_loop i).trips) : Fin 3 → Nat :=
  let c3_733 : Index := 3#32
  let c0_i32_593 : BitVec 32 := 0#32
  let c1_i32_595 : BitVec 32 := 1#32
  let arg13 : BitVec 32 := Scf.iv c0_i32_593 c1_i32_595 k0_t1
  let v1603 : Index := Scalar.indexCast arg13
  let c0_734 : Index := 0#32
  ![3, v1603.toNat, 0]
def k0_off29 (i : grid0.Coords) (k0_t1 : Fin (k0_t1_loop i).trips) : Fin 3 → Nat :=
  let c4_750 : Index := 4#32
  let c0_i32_593 : BitVec 32 := 0#32
  let c1_i32_595 : BitVec 32 := 1#32
  let arg13 : BitVec 32 := Scf.iv c0_i32_593 c1_i32_595 k0_t1
  let v1635 : Index := Scalar.indexCast arg13
  let c0_751 : Index := 0#32
  ![4, v1635.toNat, 0]
def k0_off30 (i : grid0.Coords) (k0_t1 : Fin (k0_t1_loop i).trips) : Fin 3 → Nat :=
  let c5_767 : Index := 5#32
  let c0_i32_593 : BitVec 32 := 0#32
  let c1_i32_595 : BitVec 32 := 1#32
  let arg13 : BitVec 32 := Scf.iv c0_i32_593 c1_i32_595 k0_t1
  let v1667 : Index := Scalar.indexCast arg13
  let c0_768 : Index := 0#32
  ![5, v1667.toNat, 0]
def k0_off31 (i : grid0.Coords) (k0_t1 : Fin (k0_t1_loop i).trips) : Fin 3 → Nat :=
  let c6_784 : Index := 6#32
  let c0_i32_593 : BitVec 32 := 0#32
  let c1_i32_595 : BitVec 32 := 1#32
  let arg13 : BitVec 32 := Scf.iv c0_i32_593 c1_i32_595 k0_t1
  let v1699 : Index := Scalar.indexCast arg13
  let c0_785 : Index := 0#32
  ![6, v1699.toNat, 0]
def k0_off32 (i : grid0.Coords) (k0_t1 : Fin (k0_t1_loop i).trips) : Fin 3 → Nat :=
  let c7_801 : Index := 7#32
  let c0_i32_593 : BitVec 32 := 0#32
  let c1_i32_595 : BitVec 32 := 1#32
  let arg13 : BitVec 32 := Scf.iv c0_i32_593 c1_i32_595 k0_t1
  let v1731 : Index := Scalar.indexCast arg13
  let c0_802 : Index := 0#32
  ![7, v1731.toNat, 0]
def k0_off33 (i : grid0.Coords) (k0_t1 : Fin (k0_t1_loop i).trips) : Fin 3 → Nat :=
  let c0_i32_593 : BitVec 32 := 0#32
  let c1_i32_595 : BitVec 32 := 1#32
  let arg13 : BitVec 32 := Scf.iv c0_i32_593 c1_i32_595 k0_t1
  let v1763 : Index := Scalar.indexCast arg13
  let c0_818 : Index := 0#32
  let c0_819 : Index := 0#32
  ![v1763.toNat, 0, 0]
def k0_off34 (i : grid0.Coords) (k0_t1 : Fin (k0_t1_loop i).trips) : Fin 3 → Nat :=
  let c0_i32_593 : BitVec 32 := 0#32
  let c1_i32_595 : BitVec 32 := 1#32
  let arg13 : BitVec 32 := Scf.iv c0_i32_593 c1_i32_595 k0_t1
  let v1769 : Index := Scalar.indexCast arg13
  let c64_824 : Index := 64#32
  let c0_825 : Index := 0#32
  ![v1769.toNat, 64, 0]
def k0_off35 (i : grid0.Coords) (k0_t1 : Fin (k0_t1_loop i).trips) : Fin 3 → Nat :=
  let c0_i32_593 : BitVec 32 := 0#32
  let c1_i32_595 : BitVec 32 := 1#32
  let arg13 : BitVec 32 := Scf.iv c0_i32_593 c1_i32_595 k0_t1
  let v1775 : Index := Scalar.indexCast arg13
  let c128_830 : Index := 128#32
  let c0_831 : Index := 0#32
  ![v1775.toNat, 128, 0]
def k0_off36 (i : grid0.Coords) (k0_t1 : Fin (k0_t1_loop i).trips) : Fin 3 → Nat :=
  let c0_i32_593 : BitVec 32 := 0#32
  let c1_i32_595 : BitVec 32 := 1#32
  let arg13 : BitVec 32 := Scf.iv c0_i32_593 c1_i32_595 k0_t1
  let v1781 : Index := Scalar.indexCast arg13
  let c192_836 : Index := 192#32
  let c0_837 : Index := 0#32
  ![v1781.toNat, 192, 0]
def k0_off37 (i : grid0.Coords) (k0_t1 : Fin (k0_t1_loop i).trips) : Fin 3 → Nat :=
  let c0_i32_593 : BitVec 32 := 0#32
  let c1_i32_595 : BitVec 32 := 1#32
  let arg13 : BitVec 32 := Scf.iv c0_i32_593 c1_i32_595 k0_t1
  let v1787 : Index := Scalar.indexCast arg13
  let c256_842 : Index := 256#32
  let c0_843 : Index := 0#32
  ![v1787.toNat, 256, 0]
def k0_off38 (i : grid0.Coords) (k0_t1 : Fin (k0_t1_loop i).trips) : Fin 3 → Nat :=
  let c0_i32_593 : BitVec 32 := 0#32
  let c1_i32_595 : BitVec 32 := 1#32
  let arg13 : BitVec 32 := Scf.iv c0_i32_593 c1_i32_595 k0_t1
  let v1793 : Index := Scalar.indexCast arg13
  let c320_848 : Index := 320#32
  let c0_849 : Index := 0#32
  ![v1793.toNat, 320, 0]
def k0_off39 (i : grid0.Coords) (k0_t1 : Fin (k0_t1_loop i).trips) : Fin 3 → Nat :=
  let c0_i32_593 : BitVec 32 := 0#32
  let c1_i32_595 : BitVec 32 := 1#32
  let arg13 : BitVec 32 := Scf.iv c0_i32_593 c1_i32_595 k0_t1
  let v1799 : Index := Scalar.indexCast arg13
  let c384_854 : Index := 384#32
  let c0_855 : Index := 0#32
  ![v1799.toNat, 384, 0]
def k0_off40 (i : grid0.Coords) (k0_t1 : Fin (k0_t1_loop i).trips) : Fin 3 → Nat :=
  let c0_i32_593 : BitVec 32 := 0#32
  let c1_i32_595 : BitVec 32 := 1#32
  let arg13 : BitVec 32 := Scf.iv c0_i32_593 c1_i32_595 k0_t1
  let v1805 : Index := Scalar.indexCast arg13
  let c448_860 : Index := 448#32
  let c0_861 : Index := 0#32
  ![v1805.toNat, 448, 0]
@[reducible] def k0_t2_loop (i : grid0.Coords) : Scf.Loop 32 :=
  let c0_i32_593 : BitVec 32 := 0#32
  let arg1 : BitVec 32 := BitVec.ofNat 32 (i 1).val
  let v1392 : BitVec 32 := Scalar.subi arg1 c0_i32_593
  let c1_i32_594 : BitVec 32 := 1#32
  let v1394 : BitVec 32 := Scalar.divsi v1392 c1_i32_594
  let v1395 : BitVec 32 := Scalar.muli v1394 c1_i32_594
  let v1396 : BitVec 32 := Scalar.addi c0_i32_593 v1395
  let v1393 : BitVec 32 := Scalar.addi c0_i32_593 v1392
  let c1_i32_596 : BitVec 32 := 1#32
  ⟨v1396, v1393, c1_i32_596⟩
def k0_mult3 (i : grid0.Coords) (k0_t2 : Fin (k0_t2_loop i).trips) : BitVec 32 :=
  let c0_i32_593 : BitVec 32 := 0#32
  let arg1 : BitVec 32 := BitVec.ofNat 32 (i 1).val
  let v1392 : BitVec 32 := Scalar.subi arg1 c0_i32_593
  let c1_i32_594 : BitVec 32 := 1#32
  let v1394 : BitVec 32 := Scalar.divsi v1392 c1_i32_594
  let v1395 : BitVec 32 := Scalar.muli v1394 c1_i32_594
  let v1396 : BitVec 32 := Scalar.addi c0_i32_593 v1395
  let c1_i32_596 : BitVec 32 := 1#32
  let arg13 : BitVec 32 := Scf.iv v1396 c1_i32_596 k0_t2
  let c256_i32_649 : BitVec 32 := 256#32
  let v1457 : BitVec 32 := Scalar.muli arg13 c256_i32_649
  v1457
def k0_off41 (i : grid0.Coords) (k0_t2 : Fin (k0_t2_loop i).trips) : Fin 2 → Nat :=
  let c0_i32_593 : BitVec 32 := 0#32
  let arg1 : BitVec 32 := BitVec.ofNat 32 (i 1).val
  let v1392 : BitVec 32 := Scalar.subi arg1 c0_i32_593
  let c1_i32_594 : BitVec 32 := 1#32
  let v1394 : BitVec 32 := Scalar.divsi v1392 c1_i32_594
  let v1395 : BitVec 32 := Scalar.muli v1394 c1_i32_594
  let v1396 : BitVec 32 := Scalar.addi c0_i32_593 v1395
  let c1_i32_596 : BitVec 32 := 1#32
  let arg13 : BitVec 32 := Scf.iv v1396 c1_i32_596 k0_t2
  let c256_i32_649 : BitVec 32 := 256#32
  let v1457 : BitVec 32 := Scalar.muli arg13 c256_i32_649
  let v1458 : BitVec 32 := v1457
  let v1459 : Index := Scalar.indexCast v1458
  let c0_650 : Index := 0#32
  ![v1459.toNat, 0]
def k0_off42 (i : grid0.Coords) (k0_t2 : Fin (k0_t2_loop i).trips) : Fin 2 → Nat :=
  let c0_i32_593 : BitVec 32 := 0#32
  let arg1 : BitVec 32 := BitVec.ofNat 32 (i 1).val
  let v1392 : BitVec 32 := Scalar.subi arg1 c0_i32_593
  let c1_i32_594 : BitVec 32 := 1#32
  let v1394 : BitVec 32 := Scalar.divsi v1392 c1_i32_594
  let v1395 : BitVec 32 := Scalar.muli v1394 c1_i32_594
  let v1396 : BitVec 32 := Scalar.addi c0_i32_593 v1395
  let c1_i32_596 : BitVec 32 := 1#32
  let arg13 : BitVec 32 := Scf.iv v1396 c1_i32_596 k0_t2
  let c256_i32_649 : BitVec 32 := 256#32
  let v1457 : BitVec 32 := Scalar.muli arg13 c256_i32_649
  let v1458 : BitVec 32 := v1457
  let v1465 : Index := Scalar.indexCast v1458
  let c64_654 : Index := 64#32
  ![v1465.toNat, 64]
def k0_off43 (i : grid0.Coords) (k0_t2 : Fin (k0_t2_loop i).trips) : Fin 2 → Nat :=
  let c0_i32_593 : BitVec 32 := 0#32
  let arg1 : BitVec 32 := BitVec.ofNat 32 (i 1).val
  let v1392 : BitVec 32 := Scalar.subi arg1 c0_i32_593
  let c1_i32_594 : BitVec 32 := 1#32
  let v1394 : BitVec 32 := Scalar.divsi v1392 c1_i32_594
  let v1395 : BitVec 32 := Scalar.muli v1394 c1_i32_594
  let v1396 : BitVec 32 := Scalar.addi c0_i32_593 v1395
  let c1_i32_596 : BitVec 32 := 1#32
  let arg13 : BitVec 32 := Scf.iv v1396 c1_i32_596 k0_t2
  let c256_i32_649 : BitVec 32 := 256#32
  let v1457 : BitVec 32 := Scalar.muli arg13 c256_i32_649
  let v1458 : BitVec 32 := v1457
  let v1471 : Index := Scalar.indexCast v1458
  let c128_658 : Index := 128#32
  ![v1471.toNat, 128]
def k0_off44 (i : grid0.Coords) (k0_t2 : Fin (k0_t2_loop i).trips) : Fin 2 → Nat :=
  let c0_i32_593 : BitVec 32 := 0#32
  let arg1 : BitVec 32 := BitVec.ofNat 32 (i 1).val
  let v1392 : BitVec 32 := Scalar.subi arg1 c0_i32_593
  let c1_i32_594 : BitVec 32 := 1#32
  let v1394 : BitVec 32 := Scalar.divsi v1392 c1_i32_594
  let v1395 : BitVec 32 := Scalar.muli v1394 c1_i32_594
  let v1396 : BitVec 32 := Scalar.addi c0_i32_593 v1395
  let c1_i32_596 : BitVec 32 := 1#32
  let arg13 : BitVec 32 := Scf.iv v1396 c1_i32_596 k0_t2
  let c256_i32_649 : BitVec 32 := 256#32
  let v1457 : BitVec 32 := Scalar.muli arg13 c256_i32_649
  let v1458 : BitVec 32 := v1457
  let v1477 : Index := Scalar.indexCast v1458
  let c192_662 : Index := 192#32
  ![v1477.toNat, 192]
def k0_off45 (i : grid0.Coords) (k0_t2 : Fin (k0_t2_loop i).trips) : Fin 2 → Nat :=
  let c0_i32_593 : BitVec 32 := 0#32
  let arg1 : BitVec 32 := BitVec.ofNat 32 (i 1).val
  let v1392 : BitVec 32 := Scalar.subi arg1 c0_i32_593
  let c1_i32_594 : BitVec 32 := 1#32
  let v1394 : BitVec 32 := Scalar.divsi v1392 c1_i32_594
  let v1395 : BitVec 32 := Scalar.muli v1394 c1_i32_594
  let v1396 : BitVec 32 := Scalar.addi c0_i32_593 v1395
  let c1_i32_596 : BitVec 32 := 1#32
  let arg13 : BitVec 32 := Scf.iv v1396 c1_i32_596 k0_t2
  let c256_i32_649 : BitVec 32 := 256#32
  let v1457 : BitVec 32 := Scalar.muli arg13 c256_i32_649
  let v1458 : BitVec 32 := v1457
  let v1483 : Index := Scalar.indexCast v1458
  let c256_666 : Index := 256#32
  ![v1483.toNat, 256]
def k0_off46 (i : grid0.Coords) (k0_t2 : Fin (k0_t2_loop i).trips) : Fin 2 → Nat :=
  let c0_i32_593 : BitVec 32 := 0#32
  let arg1 : BitVec 32 := BitVec.ofNat 32 (i 1).val
  let v1392 : BitVec 32 := Scalar.subi arg1 c0_i32_593
  let c1_i32_594 : BitVec 32 := 1#32
  let v1394 : BitVec 32 := Scalar.divsi v1392 c1_i32_594
  let v1395 : BitVec 32 := Scalar.muli v1394 c1_i32_594
  let v1396 : BitVec 32 := Scalar.addi c0_i32_593 v1395
  let c1_i32_596 : BitVec 32 := 1#32
  let arg13 : BitVec 32 := Scf.iv v1396 c1_i32_596 k0_t2
  let c256_i32_649 : BitVec 32 := 256#32
  let v1457 : BitVec 32 := Scalar.muli arg13 c256_i32_649
  let v1458 : BitVec 32 := v1457
  let v1489 : Index := Scalar.indexCast v1458
  let c320_670 : Index := 320#32
  ![v1489.toNat, 320]
def k0_off47 (i : grid0.Coords) (k0_t2 : Fin (k0_t2_loop i).trips) : Fin 2 → Nat :=
  let c0_i32_593 : BitVec 32 := 0#32
  let arg1 : BitVec 32 := BitVec.ofNat 32 (i 1).val
  let v1392 : BitVec 32 := Scalar.subi arg1 c0_i32_593
  let c1_i32_594 : BitVec 32 := 1#32
  let v1394 : BitVec 32 := Scalar.divsi v1392 c1_i32_594
  let v1395 : BitVec 32 := Scalar.muli v1394 c1_i32_594
  let v1396 : BitVec 32 := Scalar.addi c0_i32_593 v1395
  let c1_i32_596 : BitVec 32 := 1#32
  let arg13 : BitVec 32 := Scf.iv v1396 c1_i32_596 k0_t2
  let c256_i32_649 : BitVec 32 := 256#32
  let v1457 : BitVec 32 := Scalar.muli arg13 c256_i32_649
  let v1458 : BitVec 32 := v1457
  let v1495 : Index := Scalar.indexCast v1458
  let c384_674 : Index := 384#32
  ![v1495.toNat, 384]
def k0_off48 (i : grid0.Coords) (k0_t2 : Fin (k0_t2_loop i).trips) : Fin 2 → Nat :=
  let c0_i32_593 : BitVec 32 := 0#32
  let arg1 : BitVec 32 := BitVec.ofNat 32 (i 1).val
  let v1392 : BitVec 32 := Scalar.subi arg1 c0_i32_593
  let c1_i32_594 : BitVec 32 := 1#32
  let v1394 : BitVec 32 := Scalar.divsi v1392 c1_i32_594
  let v1395 : BitVec 32 := Scalar.muli v1394 c1_i32_594
  let v1396 : BitVec 32 := Scalar.addi c0_i32_593 v1395
  let c1_i32_596 : BitVec 32 := 1#32
  let arg13 : BitVec 32 := Scf.iv v1396 c1_i32_596 k0_t2
  let c256_i32_649 : BitVec 32 := 256#32
  let v1457 : BitVec 32 := Scalar.muli arg13 c256_i32_649
  let v1458 : BitVec 32 := v1457
  let v1501 : Index := Scalar.indexCast v1458
  let c448_678 : Index := 448#32
  ![v1501.toNat, 448]
def k0_off49 (i : grid0.Coords) (k0_t2 : Fin (k0_t2_loop i).trips) : Fin 3 → Nat :=
  let c0_682 : Index := 0#32
  let c0_i32_593 : BitVec 32 := 0#32
  let arg1 : BitVec 32 := BitVec.ofNat 32 (i 1).val
  let v1392 : BitVec 32 := Scalar.subi arg1 c0_i32_593
  let c1_i32_594 : BitVec 32 := 1#32
  let v1394 : BitVec 32 := Scalar.divsi v1392 c1_i32_594
  let v1395 : BitVec 32 := Scalar.muli v1394 c1_i32_594
  let v1396 : BitVec 32 := Scalar.addi c0_i32_593 v1395
  let c1_i32_596 : BitVec 32 := 1#32
  let arg13 : BitVec 32 := Scf.iv v1396 c1_i32_596 k0_t2
  let v1507 : Index := Scalar.indexCast arg13
  let c0_683 : Index := 0#32
  ![0, v1507.toNat, 0]
def k0_off50 (i : grid0.Coords) (k0_t2 : Fin (k0_t2_loop i).trips) : Fin 3 → Nat :=
  let c1_699 : Index := 1#32
  let c0_i32_593 : BitVec 32 := 0#32
  let arg1 : BitVec 32 := BitVec.ofNat 32 (i 1).val
  let v1392 : BitVec 32 := Scalar.subi arg1 c0_i32_593
  let c1_i32_594 : BitVec 32 := 1#32
  let v1394 : BitVec 32 := Scalar.divsi v1392 c1_i32_594
  let v1395 : BitVec 32 := Scalar.muli v1394 c1_i32_594
  let v1396 : BitVec 32 := Scalar.addi c0_i32_593 v1395
  let c1_i32_596 : BitVec 32 := 1#32
  let arg13 : BitVec 32 := Scf.iv v1396 c1_i32_596 k0_t2
  let v1539 : Index := Scalar.indexCast arg13
  let c0_700 : Index := 0#32
  ![1, v1539.toNat, 0]
def k0_off51 (i : grid0.Coords) (k0_t2 : Fin (k0_t2_loop i).trips) : Fin 3 → Nat :=
  let c2_716 : Index := 2#32
  let c0_i32_593 : BitVec 32 := 0#32
  let arg1 : BitVec 32 := BitVec.ofNat 32 (i 1).val
  let v1392 : BitVec 32 := Scalar.subi arg1 c0_i32_593
  let c1_i32_594 : BitVec 32 := 1#32
  let v1394 : BitVec 32 := Scalar.divsi v1392 c1_i32_594
  let v1395 : BitVec 32 := Scalar.muli v1394 c1_i32_594
  let v1396 : BitVec 32 := Scalar.addi c0_i32_593 v1395
  let c1_i32_596 : BitVec 32 := 1#32
  let arg13 : BitVec 32 := Scf.iv v1396 c1_i32_596 k0_t2
  let v1571 : Index := Scalar.indexCast arg13
  let c0_717 : Index := 0#32
  ![2, v1571.toNat, 0]
def k0_off52 (i : grid0.Coords) (k0_t2 : Fin (k0_t2_loop i).trips) : Fin 3 → Nat :=
  let c3_733 : Index := 3#32
  let c0_i32_593 : BitVec 32 := 0#32
  let arg1 : BitVec 32 := BitVec.ofNat 32 (i 1).val
  let v1392 : BitVec 32 := Scalar.subi arg1 c0_i32_593
  let c1_i32_594 : BitVec 32 := 1#32
  let v1394 : BitVec 32 := Scalar.divsi v1392 c1_i32_594
  let v1395 : BitVec 32 := Scalar.muli v1394 c1_i32_594
  let v1396 : BitVec 32 := Scalar.addi c0_i32_593 v1395
  let c1_i32_596 : BitVec 32 := 1#32
  let arg13 : BitVec 32 := Scf.iv v1396 c1_i32_596 k0_t2
  let v1603 : Index := Scalar.indexCast arg13
  let c0_734 : Index := 0#32
  ![3, v1603.toNat, 0]
def k0_off53 (i : grid0.Coords) (k0_t2 : Fin (k0_t2_loop i).trips) : Fin 3 → Nat :=
  let c4_750 : Index := 4#32
  let c0_i32_593 : BitVec 32 := 0#32
  let arg1 : BitVec 32 := BitVec.ofNat 32 (i 1).val
  let v1392 : BitVec 32 := Scalar.subi arg1 c0_i32_593
  let c1_i32_594 : BitVec 32 := 1#32
  let v1394 : BitVec 32 := Scalar.divsi v1392 c1_i32_594
  let v1395 : BitVec 32 := Scalar.muli v1394 c1_i32_594
  let v1396 : BitVec 32 := Scalar.addi c0_i32_593 v1395
  let c1_i32_596 : BitVec 32 := 1#32
  let arg13 : BitVec 32 := Scf.iv v1396 c1_i32_596 k0_t2
  let v1635 : Index := Scalar.indexCast arg13
  let c0_751 : Index := 0#32
  ![4, v1635.toNat, 0]
def k0_off54 (i : grid0.Coords) (k0_t2 : Fin (k0_t2_loop i).trips) : Fin 3 → Nat :=
  let c5_767 : Index := 5#32
  let c0_i32_593 : BitVec 32 := 0#32
  let arg1 : BitVec 32 := BitVec.ofNat 32 (i 1).val
  let v1392 : BitVec 32 := Scalar.subi arg1 c0_i32_593
  let c1_i32_594 : BitVec 32 := 1#32
  let v1394 : BitVec 32 := Scalar.divsi v1392 c1_i32_594
  let v1395 : BitVec 32 := Scalar.muli v1394 c1_i32_594
  let v1396 : BitVec 32 := Scalar.addi c0_i32_593 v1395
  let c1_i32_596 : BitVec 32 := 1#32
  let arg13 : BitVec 32 := Scf.iv v1396 c1_i32_596 k0_t2
  let v1667 : Index := Scalar.indexCast arg13
  let c0_768 : Index := 0#32
  ![5, v1667.toNat, 0]
def k0_off55 (i : grid0.Coords) (k0_t2 : Fin (k0_t2_loop i).trips) : Fin 3 → Nat :=
  let c6_784 : Index := 6#32
  let c0_i32_593 : BitVec 32 := 0#32
  let arg1 : BitVec 32 := BitVec.ofNat 32 (i 1).val
  let v1392 : BitVec 32 := Scalar.subi arg1 c0_i32_593
  let c1_i32_594 : BitVec 32 := 1#32
  let v1394 : BitVec 32 := Scalar.divsi v1392 c1_i32_594
  let v1395 : BitVec 32 := Scalar.muli v1394 c1_i32_594
  let v1396 : BitVec 32 := Scalar.addi c0_i32_593 v1395
  let c1_i32_596 : BitVec 32 := 1#32
  let arg13 : BitVec 32 := Scf.iv v1396 c1_i32_596 k0_t2
  let v1699 : Index := Scalar.indexCast arg13
  let c0_785 : Index := 0#32
  ![6, v1699.toNat, 0]
def k0_off56 (i : grid0.Coords) (k0_t2 : Fin (k0_t2_loop i).trips) : Fin 3 → Nat :=
  let c7_801 : Index := 7#32
  let c0_i32_593 : BitVec 32 := 0#32
  let arg1 : BitVec 32 := BitVec.ofNat 32 (i 1).val
  let v1392 : BitVec 32 := Scalar.subi arg1 c0_i32_593
  let c1_i32_594 : BitVec 32 := 1#32
  let v1394 : BitVec 32 := Scalar.divsi v1392 c1_i32_594
  let v1395 : BitVec 32 := Scalar.muli v1394 c1_i32_594
  let v1396 : BitVec 32 := Scalar.addi c0_i32_593 v1395
  let c1_i32_596 : BitVec 32 := 1#32
  let arg13 : BitVec 32 := Scf.iv v1396 c1_i32_596 k0_t2
  let v1731 : Index := Scalar.indexCast arg13
  let c0_802 : Index := 0#32
  ![7, v1731.toNat, 0]
def k0_off57 (i : grid0.Coords) (k0_t2 : Fin (k0_t2_loop i).trips) : Fin 3 → Nat :=
  let c0_i32_593 : BitVec 32 := 0#32
  let arg1 : BitVec 32 := BitVec.ofNat 32 (i 1).val
  let v1392 : BitVec 32 := Scalar.subi arg1 c0_i32_593
  let c1_i32_594 : BitVec 32 := 1#32
  let v1394 : BitVec 32 := Scalar.divsi v1392 c1_i32_594
  let v1395 : BitVec 32 := Scalar.muli v1394 c1_i32_594
  let v1396 : BitVec 32 := Scalar.addi c0_i32_593 v1395
  let c1_i32_596 : BitVec 32 := 1#32
  let arg13 : BitVec 32 := Scf.iv v1396 c1_i32_596 k0_t2
  let v1763 : Index := Scalar.indexCast arg13
  let c0_818 : Index := 0#32
  let c0_819 : Index := 0#32
  ![v1763.toNat, 0, 0]
def k0_off58 (i : grid0.Coords) (k0_t2 : Fin (k0_t2_loop i).trips) : Fin 3 → Nat :=
  let c0_i32_593 : BitVec 32 := 0#32
  let arg1 : BitVec 32 := BitVec.ofNat 32 (i 1).val
  let v1392 : BitVec 32 := Scalar.subi arg1 c0_i32_593
  let c1_i32_594 : BitVec 32 := 1#32
  let v1394 : BitVec 32 := Scalar.divsi v1392 c1_i32_594
  let v1395 : BitVec 32 := Scalar.muli v1394 c1_i32_594
  let v1396 : BitVec 32 := Scalar.addi c0_i32_593 v1395
  let c1_i32_596 : BitVec 32 := 1#32
  let arg13 : BitVec 32 := Scf.iv v1396 c1_i32_596 k0_t2
  let v1769 : Index := Scalar.indexCast arg13
  let c64_824 : Index := 64#32
  let c0_825 : Index := 0#32
  ![v1769.toNat, 64, 0]
def k0_off59 (i : grid0.Coords) (k0_t2 : Fin (k0_t2_loop i).trips) : Fin 3 → Nat :=
  let c0_i32_593 : BitVec 32 := 0#32
  let arg1 : BitVec 32 := BitVec.ofNat 32 (i 1).val
  let v1392 : BitVec 32 := Scalar.subi arg1 c0_i32_593
  let c1_i32_594 : BitVec 32 := 1#32
  let v1394 : BitVec 32 := Scalar.divsi v1392 c1_i32_594
  let v1395 : BitVec 32 := Scalar.muli v1394 c1_i32_594
  let v1396 : BitVec 32 := Scalar.addi c0_i32_593 v1395
  let c1_i32_596 : BitVec 32 := 1#32
  let arg13 : BitVec 32 := Scf.iv v1396 c1_i32_596 k0_t2
  let v1775 : Index := Scalar.indexCast arg13
  let c128_830 : Index := 128#32
  let c0_831 : Index := 0#32
  ![v1775.toNat, 128, 0]
def k0_off60 (i : grid0.Coords) (k0_t2 : Fin (k0_t2_loop i).trips) : Fin 3 → Nat :=
  let c0_i32_593 : BitVec 32 := 0#32
  let arg1 : BitVec 32 := BitVec.ofNat 32 (i 1).val
  let v1392 : BitVec 32 := Scalar.subi arg1 c0_i32_593
  let c1_i32_594 : BitVec 32 := 1#32
  let v1394 : BitVec 32 := Scalar.divsi v1392 c1_i32_594
  let v1395 : BitVec 32 := Scalar.muli v1394 c1_i32_594
  let v1396 : BitVec 32 := Scalar.addi c0_i32_593 v1395
  let c1_i32_596 : BitVec 32 := 1#32
  let arg13 : BitVec 32 := Scf.iv v1396 c1_i32_596 k0_t2
  let v1781 : Index := Scalar.indexCast arg13
  let c192_836 : Index := 192#32
  let c0_837 : Index := 0#32
  ![v1781.toNat, 192, 0]
def k0_off61 (i : grid0.Coords) (k0_t2 : Fin (k0_t2_loop i).trips) : Fin 3 → Nat :=
  let c0_i32_593 : BitVec 32 := 0#32
  let arg1 : BitVec 32 := BitVec.ofNat 32 (i 1).val
  let v1392 : BitVec 32 := Scalar.subi arg1 c0_i32_593
  let c1_i32_594 : BitVec 32 := 1#32
  let v1394 : BitVec 32 := Scalar.divsi v1392 c1_i32_594
  let v1395 : BitVec 32 := Scalar.muli v1394 c1_i32_594
  let v1396 : BitVec 32 := Scalar.addi c0_i32_593 v1395
  let c1_i32_596 : BitVec 32 := 1#32
  let arg13 : BitVec 32 := Scf.iv v1396 c1_i32_596 k0_t2
  let v1787 : Index := Scalar.indexCast arg13
  let c256_842 : Index := 256#32
  let c0_843 : Index := 0#32
  ![v1787.toNat, 256, 0]
def k0_off62 (i : grid0.Coords) (k0_t2 : Fin (k0_t2_loop i).trips) : Fin 3 → Nat :=
  let c0_i32_593 : BitVec 32 := 0#32
  let arg1 : BitVec 32 := BitVec.ofNat 32 (i 1).val
  let v1392 : BitVec 32 := Scalar.subi arg1 c0_i32_593
  let c1_i32_594 : BitVec 32 := 1#32
  let v1394 : BitVec 32 := Scalar.divsi v1392 c1_i32_594
  let v1395 : BitVec 32 := Scalar.muli v1394 c1_i32_594
  let v1396 : BitVec 32 := Scalar.addi c0_i32_593 v1395
  let c1_i32_596 : BitVec 32 := 1#32
  let arg13 : BitVec 32 := Scf.iv v1396 c1_i32_596 k0_t2
  let v1793 : Index := Scalar.indexCast arg13
  let c320_848 : Index := 320#32
  let c0_849 : Index := 0#32
  ![v1793.toNat, 320, 0]
def k0_off63 (i : grid0.Coords) (k0_t2 : Fin (k0_t2_loop i).trips) : Fin 3 → Nat :=
  let c0_i32_593 : BitVec 32 := 0#32
  let arg1 : BitVec 32 := BitVec.ofNat 32 (i 1).val
  let v1392 : BitVec 32 := Scalar.subi arg1 c0_i32_593
  let c1_i32_594 : BitVec 32 := 1#32
  let v1394 : BitVec 32 := Scalar.divsi v1392 c1_i32_594
  let v1395 : BitVec 32 := Scalar.muli v1394 c1_i32_594
  let v1396 : BitVec 32 := Scalar.addi c0_i32_593 v1395
  let c1_i32_596 : BitVec 32 := 1#32
  let arg13 : BitVec 32 := Scf.iv v1396 c1_i32_596 k0_t2
  let v1799 : Index := Scalar.indexCast arg13
  let c384_854 : Index := 384#32
  let c0_855 : Index := 0#32
  ![v1799.toNat, 384, 0]
def k0_off64 (i : grid0.Coords) (k0_t2 : Fin (k0_t2_loop i).trips) : Fin 3 → Nat :=
  let c0_i32_593 : BitVec 32 := 0#32
  let arg1 : BitVec 32 := BitVec.ofNat 32 (i 1).val
  let v1392 : BitVec 32 := Scalar.subi arg1 c0_i32_593
  let c1_i32_594 : BitVec 32 := 1#32
  let v1394 : BitVec 32 := Scalar.divsi v1392 c1_i32_594
  let v1395 : BitVec 32 := Scalar.muli v1394 c1_i32_594
  let v1396 : BitVec 32 := Scalar.addi c0_i32_593 v1395
  let c1_i32_596 : BitVec 32 := 1#32
  let arg13 : BitVec 32 := Scf.iv v1396 c1_i32_596 k0_t2
  let v1805 : Index := Scalar.indexCast arg13
  let c448_860 : Index := 448#32
  let c0_861 : Index := 0#32
  ![v1805.toNat, 448, 0]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16x2048x512 : Shape := ⟨3, ![16, 2048, 512]⟩
abbrev S16x2048x8x64 : Shape := ⟨4, ![16, 2048, 8, 64]⟩
abbrev S16x8x2048x64 : Shape := ⟨4, ![16, 8, 2048, 64]⟩
abbrev S16x8x8x256x64 : Shape := ⟨5, ![16, 8, 8, 256, 64]⟩
abbrev S_ : Shape := ⟨0, ![]⟩
abbrev S16x8x8x64 : Shape := ⟨4, ![16, 8, 8, 64]⟩
abbrev S16x8x2048x8 : Shape := ⟨4, ![16, 8, 2048, 8]⟩
abbrev S2048 : Shape := ⟨1, ![2048]⟩
abbrev S8 : Shape := ⟨1, ![8]⟩
abbrev S1x8 : Shape := ⟨2, ![1, 8]⟩
abbrev S2048x1 : Shape := ⟨2, ![2048, 1]⟩
abbrev S2048x8 : Shape := ⟨2, ![2048, 8]⟩
abbrev S1x1x2048x8 : Shape := ⟨4, ![1, 1, 2048, 8]⟩
abbrev S16x8x2048x3 : Shape := ⟨4, ![16, 8, 2048, 3]⟩
abbrev S16x8x2048 : Shape := ⟨3, ![16, 8, 2048]⟩
abbrev S16x8x2048x1 : Shape := ⟨4, ![16, 8, 2048, 1]⟩
abbrev S16x8x2048x256x64 : Shape := ⟨5, ![16, 8, 2048, 256, 64]⟩
abbrev S16x8x2048x3x1 : Shape := ⟨5, ![16, 8, 2048, 3, 1]⟩
abbrev S16x8x2048x3x256x64 : Shape := ⟨6, ![16, 8, 2048, 3, 256, 64]⟩
abbrev S256 : Shape := ⟨1, ![256]⟩
abbrev S1x256 : Shape := ⟨2, ![1, 256]⟩
abbrev S2048x256 : Shape := ⟨2, ![2048, 256]⟩
abbrev S16x8x2048x256 : Shape := ⟨4, ![16, 8, 2048, 256]⟩
abbrev S1x1x2048x256 : Shape := ⟨4, ![1, 1, 2048, 256]⟩
abbrev S16x8x2048x3x256 : Shape := ⟨5, ![16, 8, 2048, 3, 256]⟩
abbrev S3 : Shape := ⟨1, ![3]⟩
abbrev S1x3 : Shape := ⟨2, ![1, 3]⟩
abbrev S2048x3 : Shape := ⟨2, ![2048, 3]⟩
abbrev S1x1x2048x3x1 : Shape := ⟨5, ![1, 1, 2048, 3, 1]⟩
abbrev S16x8x2048x768 : Shape := ⟨4, ![16, 8, 2048, 768]⟩
abbrev S16x8x2048x1024 : Shape := ⟨4, ![16, 8, 2048, 1024]⟩
abbrev S32768x512 : Shape := ⟨2, ![32768, 512]⟩

abbrev nBuf : Space → Nat
  | .hbm => 152
  | .vmem => 0
  | .smem => 0
  | _ => 0

abbrev hbmTy0_0 (i : Nat) : BufTy := match i % 128 with
  | 0 => ⟨S16x2048x512, .f32⟩
  | 1 => ⟨S16x2048x512, .f32⟩
  | 2 => ⟨S16x2048x512, .f32⟩
  | 3 => ⟨S16x2048x8x64, .f32⟩
  | 4 => ⟨S16x8x2048x64, .f32⟩
  | 5 => ⟨S16x2048x8x64, .f32⟩
  | 6 => ⟨S16x8x2048x64, .f32⟩
  | 7 => ⟨S16x2048x8x64, .f32⟩
  | 8 => ⟨S16x8x2048x64, .f32⟩
  | 9 => ⟨S16x8x8x256x64, .f32⟩
  | 10 => ⟨S16x8x8x256x64, .f32⟩
  | 11 => ⟨S_, .f32⟩
  | 12 => ⟨S16x8x8x64, .f32⟩
  | 13 => ⟨S_, .f32⟩
  | 14 => ⟨S16x8x8x64, .f32⟩
  | 15 => ⟨S16x8x8x64, .f32⟩
  | 16 => ⟨S16x8x2048x8, .f32⟩
  | 17 => ⟨S2048, .i32⟩
  | 18 => ⟨S_, .i32⟩
  | 19 => ⟨S_, .i32⟩
  | 20 => ⟨S2048, .i32⟩
  | 21 => ⟨S2048, .i32⟩
  | 22 => ⟨S2048, .i32⟩
  | 23 => ⟨S_, .i32⟩
  | 24 => ⟨S2048, .i32⟩
  | 25 => ⟨S2048, .i1⟩
  | 26 => ⟨S2048, .i32⟩
  | 27 => ⟨S2048, .i32⟩
  | 28 => ⟨S_, .i32⟩
  | 29 => ⟨S2048, .i32⟩
  | 30 => ⟨S2048, .i1⟩
  | 31 => ⟨S2048, .i1⟩
  | 32 => ⟨S_, .i32⟩
  | 33 => ⟨S2048, .i32⟩
  | 34 => ⟨S2048, .i32⟩
  | 35 => ⟨S2048, .i32⟩
  | 36 => ⟨S8, .i32⟩
  | 37 => ⟨S1x8, .i32⟩
  | 38 => ⟨S2048x1, .i32⟩
  | 39 => ⟨S2048x8, .i32⟩
  | 40 => ⟨S2048x8, .i32⟩
  | 41 => ⟨S2048x8, .i1⟩
  | 42 => ⟨S1x1x2048x8, .i1⟩
  | 43 => ⟨S_, .f32⟩
  | 44 => ⟨S_, .f32⟩
  | 45 => ⟨S16x8x2048x8, .i1⟩
  | 46 => ⟨S16x8x2048x8, .f32⟩
  | 47 => ⟨S16x8x2048x8, .f32⟩
  | 48 => ⟨S16x8x2048x3, .f32⟩
  | 49 => ⟨S16x8x2048x3, .i32⟩
  | 50 => ⟨S16x8x2048, .i32⟩
  | 51 => ⟨S_, .i32⟩
  | 52 => ⟨S16x8x2048, .i32⟩
  | 53 => ⟨S16x8x2048, .i1⟩
  | 54 => ⟨S_, .i32⟩
  | 55 => ⟨S16x8x2048, .i32⟩
  | 56 => ⟨S16x8x2048, .i32⟩
  | 57 => ⟨S16x8x2048, .i32⟩
  | 58 => ⟨S16x8x2048x1, .i32⟩
  | 59 => ⟨S16x8x2048x256x64, .f32⟩
  | 60 => ⟨S16x8x2048, .i32⟩
  | 61 => ⟨S_, .i32⟩
  | 62 => ⟨S16x8x2048, .i32⟩
  | 63 => ⟨S16x8x2048, .i1⟩
  | 64 => ⟨S_, .i32⟩
  | 65 => ⟨S16x8x2048, .i32⟩
  | 66 => ⟨S16x8x2048, .i32⟩
  | 67 => ⟨S16x8x2048, .i32⟩
  | 68 => ⟨S16x8x2048x1, .i32⟩
  | 69 => ⟨S16x8x2048x256x64, .f32⟩
  | 70 => ⟨S_, .i32⟩
  | 71 => ⟨S16x8x2048x3, .i32⟩
  | 72 => ⟨S16x8x2048x3, .i1⟩
  | 73 => ⟨S_, .i32⟩
  | 74 => ⟨S16x8x2048x3, .i32⟩
  | 75 => ⟨S16x8x2048x3, .i32⟩
  | 76 => ⟨S16x8x2048x3, .i32⟩
  | 77 => ⟨S16x8x2048x3x1, .i32⟩
  | 78 => ⟨S16x8x2048x3x256x64, .f32⟩
  | 79 => ⟨S_, .i32⟩
  | 80 => ⟨S16x8x2048x3, .i32⟩
  | 81 => ⟨S16x8x2048x3, .i1⟩
  | 82 => ⟨S_, .i32⟩
  | 83 => ⟨S16x8x2048x3, .i32⟩
  | 84 => ⟨S16x8x2048x3, .i32⟩
  | 85 => ⟨S16x8x2048x3, .i32⟩
  | 86 => ⟨S16x8x2048x3x1, .i32⟩
  | 87 => ⟨S16x8x2048x3x256x64, .f32⟩
  | 88 => ⟨S2048, .i32⟩
  | 89 => ⟨S2048x1, .i32⟩
  | 90 => ⟨S_, .i32⟩
  | 91 => ⟨S2048x1, .i32⟩
  | 92 => ⟨S2048x1, .i32⟩
  | 93 => ⟨S256, .i32⟩
  | 94 => ⟨S1x256, .i32⟩
  | 95 => ⟨S2048x256, .i32⟩
  | 96 => ⟨S2048x256, .i32⟩
  | 97 => ⟨S2048x256, .i32⟩
  | 98 => ⟨S16x8x2048x256, .f32⟩
  | 99 => ⟨S_, .f32⟩
  | 100 => ⟨S16x8x2048x256, .f32⟩
  | 101 => ⟨S16x8x2048x256, .f32⟩
  | 102 => ⟨S2048x1, .i32⟩
  | 103 => ⟨S2048x256, .i32⟩
  | 104 => ⟨S2048x256, .i1⟩
  | 105 => ⟨S1x1x2048x256, .i1⟩
  | 106 => ⟨S_, .f32⟩
  | 107 => ⟨S_, .f32⟩
  | 108 => ⟨S16x8x2048x256, .i1⟩
  | 109 => ⟨S16x8x2048x256, .f32⟩
  | 110 => ⟨S16x8x2048x256, .f32⟩
  | 111 => ⟨S16x8x2048x3x256, .f32⟩
  | 112 => ⟨S_, .f32⟩
  | 113 => ⟨S16x8x2048x3x256, .f32⟩
  | 114 => ⟨S16x8x2048x3x256, .f32⟩
  | 115 => ⟨S3, .i32⟩
  | 116 => ⟨S1x3, .i32⟩
  | 117 => ⟨S2048x1, .i32⟩
  | 118 => ⟨S2048x3, .i32⟩
  | 119 => ⟨S2048x3, .i32⟩
  | 120 => ⟨S2048x3, .i1⟩
  | 121 => ⟨S1x1x2048x3x1, .i1⟩
  | 122 => ⟨S_, .f32⟩
  | 123 => ⟨S_, .f32⟩
  | 124 => ⟨S16x8x2048x3x256, .i1⟩
  | 125 => ⟨S16x8x2048x3x256, .f32⟩
  | 126 => ⟨S16x8x2048x3x256, .f32⟩
  | 127 => ⟨S16x8x2048x768, .f32⟩
  | _ => ⟨S16x2048x512, .f32⟩

abbrev hbmTy0_1 (i : Nat) : BufTy := match i % 128 with
  | 0 => ⟨S16x8x2048x1024, .f32⟩
  | 1 => ⟨S_, .f32⟩
  | 2 => ⟨S16x8x2048, .f32⟩
  | 3 => ⟨S_, .f32⟩
  | 4 => ⟨S16x8x2048, .f32⟩
  | 5 => ⟨S16x8x2048, .f32⟩
  | 6 => ⟨S16x8x2048x1, .f32⟩
  | 7 => ⟨S16x8x2048x1024, .f32⟩
  | 8 => ⟨S16x8x2048x1024, .f32⟩
  | 9 => ⟨S16x8x2048x1024, .f32⟩
  | 10 => ⟨S_, .f32⟩
  | 11 => ⟨S16x8x2048, .f32⟩
  | 12 => ⟨S16x8x2048x1, .f32⟩
  | 13 => ⟨S16x8x2048x1024, .f32⟩
  | 14 => ⟨S16x8x2048x1024, .f32⟩
  | 15 => ⟨S16x8x2048x256, .f32⟩
  | 16 => ⟨S16x8x2048x768, .f32⟩
  | 17 => ⟨S16x8x2048x3x256, .f32⟩
  | 18 => ⟨S16x8x2048x64, .f32⟩
  | 19 => ⟨S16x8x2048x64, .f32⟩
  | 20 => ⟨S16x8x2048x64, .f32⟩
  | 21 => ⟨S16x2048x8x64, .f32⟩
  | 22 => ⟨S32768x512, .f32⟩
  | 23 => ⟨S32768x512, .bf16⟩
  | _ => ⟨S16x2048x512, .f32⟩

abbrev hbmTy (i : Nat) : BufTy := match i / 128 with
  | 0 => hbmTy0_0 i
  | 1 => hbmTy0_1 i
  | _ => ⟨S16x2048x512, .f32⟩

abbrev bufTy : (tb : Table) → Fin (tcTables nBuf tb) → BufTy
  | .hbm, ⟨i, _⟩ => hbmTy i
  | _, _ => ⟨S16x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_c : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_0 : Ref sig .tc := ⟨.hbm, 32, rfl⟩
abbrev main_call0_v12 : Ref sig .tc := ⟨.hbm, 33, rfl⟩
abbrev main_call0_v13 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_1 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v21 : Ref sig .tc := ⟨.hbm, 47, rfl⟩
abbrev main_values : Ref sig .tc := ⟨.hbm, 48, rfl⟩
abbrev main_indices : Ref sig .tc := ⟨.hbm, 49, rfl⟩
abbrev main_v22 : Ref sig .tc := ⟨.hbm, 50, rfl⟩
abbrev main_c_2 : Ref sig .tc := ⟨.hbm, 51, rfl⟩
abbrev main_v23 : Ref sig .tc := ⟨.hbm, 52, rfl⟩
abbrev main_v24 : Ref sig .tc := ⟨.hbm, 53, rfl⟩
abbrev main_c_3 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_c_4 : Ref sig .tc := ⟨.hbm, 61, rfl⟩
abbrev main_v31 : Ref sig .tc := ⟨.hbm, 62, rfl⟩
abbrev main_v32 : Ref sig .tc := ⟨.hbm, 63, rfl⟩
abbrev main_c_5 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_c_6 : Ref sig .tc := ⟨.hbm, 70, rfl⟩
abbrev main_v38 : Ref sig .tc := ⟨.hbm, 71, rfl⟩
abbrev main_v39 : Ref sig .tc := ⟨.hbm, 72, rfl⟩
abbrev main_c_7 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_c_8 : Ref sig .tc := ⟨.hbm, 79, rfl⟩
abbrev main_v45 : Ref sig .tc := ⟨.hbm, 80, rfl⟩
abbrev main_v46 : Ref sig .tc := ⟨.hbm, 81, rfl⟩
abbrev main_c_9 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_c_10 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_cst_11 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_cst_12 : Ref sig .tc := ⟨.hbm, 106, rfl⟩
abbrev main_call2_v0 : Ref sig .tc := ⟨.hbm, 107, rfl⟩
abbrev main_call2_v1 : Ref sig .tc := ⟨.hbm, 108, rfl⟩
abbrev main_call2_v2 : Ref sig .tc := ⟨.hbm, 109, rfl⟩
abbrev main_v68 : Ref sig .tc := ⟨.hbm, 110, rfl⟩
abbrev main_v69 : Ref sig .tc := ⟨.hbm, 111, rfl⟩
abbrev main_cst_13 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_cst_14 : Ref sig .tc := ⟨.hbm, 122, rfl⟩
abbrev main_call3_v0 : Ref sig .tc := ⟨.hbm, 123, rfl⟩
abbrev main_call3_v1 : Ref sig .tc := ⟨.hbm, 124, rfl⟩
abbrev main_call3_v2 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_cst_15 : Ref sig .tc := ⟨.hbm, 129, rfl⟩
abbrev main_v82 : Ref sig .tc := ⟨.hbm, 130, rfl⟩
abbrev main_cst_16 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_cst_17 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩

abbrev nD : Nat := 1
abbrev τ : Topo := Topo.v7x

variable {F : FTy → Type} [FloatOps F]
-- ==== Kernel2.lean ====
abbrev S16x2048x1024 : Shape := ⟨3, ![16, 2048, 1024]⟩
abbrev S1x1024x6656 : Shape := ⟨3, ![1, 1024, 6656]⟩
abbrev S1x2048 : Shape := ⟨2, ![1, 2048]⟩
abbrev S1x3x1024 : Shape := ⟨3, ![1, 3, 1024]⟩
abbrev S1x1024x1024 : Shape := ⟨3, ![1, 1024, 1024]⟩
abbrev S32768x1024 : Shape := ⟨2, ![32768, 1024]⟩
abbrev S1024x6656 : Shape := ⟨2, ![1024, 6656]⟩
abbrev S1024x3072 : Shape := ⟨2, ![1024, 3072]⟩
abbrev S1024x1536 : Shape := ⟨2, ![1024, 1536]⟩
abbrev S1024x2048 : Shape := ⟨2, ![1024, 2048]⟩
abbrev S8 : Shape := ⟨1, ![8]⟩
abbrev S_ : Shape := ⟨0, ![]⟩
abbrev S2048 : Shape := ⟨1, ![2048]⟩
abbrev S2048x1 : Shape := ⟨2, ![2048, 1]⟩
abbrev S1x8 : Shape := ⟨2, ![1, 8]⟩
abbrev S2048x8 : Shape := ⟨2, ![2048, 8]⟩
abbrev S2048x48 : Shape := ⟨2, ![2048, 48]⟩
abbrev S2048x64 : Shape := ⟨2, ![2048, 64]⟩
abbrev S1x2048x1x64 : Shape := ⟨4, ![1, 2048, 1, 64]⟩
abbrev S1x2048x8x64 : Shape := ⟨4, ![1, 2048, 8, 64]⟩
abbrev S2048x512 : Shape := ⟨2, ![2048, 512]⟩
abbrev S3x1024 : Shape := ⟨2, ![3, 1024]⟩
abbrev S1024x1024 : Shape := ⟨2, ![1024, 1024]⟩
abbrev S32768x512 : Shape := ⟨2, ![32768, 512]⟩
abbrev S128x512x256 : Shape := ⟨3, ![128, 512, 256]⟩
abbrev S128x1x512 : Shape := ⟨3, ![128, 1, 512]⟩
abbrev S512x1024 : Shape := ⟨2, ![512, 1024]⟩
abbrev S512x512 : Shape := ⟨2, ![512, 512]⟩
abbrev S2x512x256 : Shape := ⟨3, ![2, 512, 256]⟩
abbrev S2x1x512 : Shape := ⟨3, ![2, 1, 512]⟩
abbrev S8x1024 : Shape := ⟨2, ![8, 1024]⟩
abbrev S1x1024 : Shape := ⟨2, ![1, 1024]⟩
abbrev S512x2048 : Shape := ⟨2, ![512, 2048]⟩
abbrev S512x1536 : Shape := ⟨2, ![512, 1536]⟩
abbrev S256x512 : Shape := ⟨2, ![256, 512]⟩
abbrev S512 : Shape := ⟨1, ![512]⟩
abbrev S1x512 : Shape := ⟨2, ![1, 512]⟩
abbrev S1x1x512 : Shape := ⟨3, ![1, 1, 512]⟩
abbrev S512x256 : Shape := ⟨2, ![512, 256]⟩
abbrev S1x512x256 : Shape := ⟨3, ![1, 512, 256]⟩

abbrev nBuf : Space → Nat
  | .hbm => 60
  | .vmem => 27
  | .smem => 0
  | _ => 0

abbrev bufTy : (tb : Table) → Fin (tcTables nBuf tb) → BufTy
  | .hbm, ⟨0, _⟩ => ⟨S16x2048x1024, .f32⟩
  | .hbm, ⟨1, _⟩ => ⟨S1x1024x6656, .f32⟩
  | .hbm, ⟨2, _⟩ => ⟨S1x2048, .f32⟩
  | .hbm, ⟨3, _⟩ => ⟨S1x3x1024, .f32⟩
  | .hbm, ⟨4, _⟩ => ⟨S1x1024x1024, .f32⟩
  | .hbm, ⟨5, _⟩ => ⟨S32768x1024, .f32⟩
  | .hbm, ⟨6, _⟩ => ⟨S1024x6656, .f32⟩
  | .hbm, ⟨7, _⟩ => ⟨S1024x6656, .bf16⟩
  | .hbm, ⟨8, _⟩ => ⟨S1024x3072, .bf16⟩
  | .hbm, ⟨9, _⟩ => ⟨S1024x1536, .bf16⟩
  | .hbm, ⟨10, _⟩ => ⟨S1024x2048, .bf16⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S_, .f32⟩
  | .hbm, ⟨20, _⟩ => ⟨S8, .f32⟩
  | .hbm, ⟨21, _⟩ => ⟨S8, .f32⟩
  | .hbm, ⟨22, _⟩ => ⟨S2048, .f32⟩
  | .hbm, ⟨23, _⟩ => ⟨S2048x1, .f32⟩
  | .hbm, ⟨24, _⟩ => ⟨S1x8, .f32⟩
  | .hbm, ⟨25, _⟩ => ⟨S2048x8, .f32⟩
  | .hbm, ⟨26, _⟩ => ⟨S2048x8, .f32⟩
  | .hbm, ⟨27, _⟩ => ⟨S2048x8, .f32⟩
  | .hbm, ⟨28, _⟩ => ⟨S2048x8, .f32⟩
  | .hbm, ⟨29, _⟩ => ⟨S2048x8, .f32⟩
  | .hbm, ⟨30, _⟩ => ⟨S_, .f32⟩
  | .hbm, ⟨31, _⟩ => ⟨S2048x48, .f32⟩
  | .hbm, ⟨32, _⟩ => ⟨S_, .f32⟩
  | .hbm, ⟨33, _⟩ => ⟨S2048x48, .f32⟩
  | .hbm, ⟨34, _⟩ => ⟨S_, .f32⟩
  | .hbm, ⟨35, _⟩ => ⟨S2048x8, .f32⟩
  | .hbm, ⟨36, _⟩ => ⟨S2048x64, .f32⟩
  | .hbm, ⟨37, _⟩ => ⟨S2048x8, .f32⟩
  | .hbm, ⟨38, _⟩ => ⟨S2048x64, .f32⟩
  | .hbm, ⟨39, _⟩ => ⟨S2048x64, .f32⟩
  | .hbm, ⟨40, _⟩ => ⟨S1x2048x1x64, .f32⟩
  | .hbm, ⟨41, _⟩ => ⟨S1x2048x8x64, .f32⟩
  | .hbm, ⟨42, _⟩ => ⟨S2048x512, .f32⟩
  | .hbm, ⟨43, _⟩ => ⟨S1x2048x1x64, .f32⟩
  | .hbm, ⟨44, _⟩ => ⟨S1x2048x8x64, .f32⟩
  | .hbm, ⟨45, _⟩ => ⟨S2048x512, .f32⟩
  | .hbm, ⟨46, _⟩ => ⟨S1x2048x1x64, .f32⟩
  | .hbm, ⟨47, _⟩ => ⟨S1x2048x8x64, .f32⟩
  | .hbm, ⟨48, _⟩ => ⟨S2048x512, .f32⟩
  | .hbm, ⟨49, _⟩ => ⟨S2048, .f32⟩
  | .hbm, ⟨50, _⟩ => ⟨S1x2048, .f32⟩
  | .hbm, ⟨51, _⟩ => ⟨S3x1024, .f32⟩
  | .hbm, ⟨52, _⟩ => ⟨S1024x1024, .f32⟩
  | .hbm, ⟨53, _⟩ => ⟨S1024x1024, .bf16⟩
  | .hbm, ⟨54, _⟩ => ⟨S32768x1024, .bf16⟩
  | .hbm, ⟨55, _⟩ => ⟨S32768x1024, .bf16⟩
  | .hbm, ⟨56, _⟩ => ⟨S32768x512, .bf16⟩
  | .hbm, ⟨57, _⟩ => ⟨S32768x512, .bf16⟩
  | .hbm, ⟨58, _⟩ => ⟨S128x512x256, .bf16⟩
  | .hbm, ⟨59, _⟩ => ⟨S128x1x512, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S1024x1536, .bf16⟩
  | .local _ .vmem, ⟨4, _⟩ => ⟨S1024x2048, .bf16⟩
  | .local _ .vmem, ⟨5, _⟩ => ⟨S1x2048, .f32⟩
  | .local _ .vmem, ⟨6, _⟩ => ⟨S3x1024, .f32⟩
  | .local _ .vmem, ⟨7, _⟩ => ⟨S1024x1024, .bf16⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S2x512x256, .bf16⟩
  | .local _ .vmem, ⟨23, _⟩ => ⟨S2x512x256, .bf16⟩
  | .local _ .vmem, ⟨24, _⟩ => ⟨S2x1x512, .f32⟩
  | .local _ .vmem, ⟨25, _⟩ => ⟨S2x1x512, .f32⟩
  | .local _ .vmem, ⟨26, _⟩ => ⟨S8x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43_0 : Ref sig .tc := ⟨.hbm, 54, rfl⟩
abbrev main_v43_1 : Ref sig .tc := ⟨.hbm, 55, rfl⟩
abbrev main_v43_2 : Ref sig .tc := ⟨.hbm, 56, rfl⟩
abbrev main_v43_3 : Ref sig .tc := ⟨.hbm, 57, rfl⟩
abbrev main_v43_4 : Ref sig .tc := ⟨.hbm, 58, rfl⟩
abbrev main_v43_5 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2x512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2x1x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference2Ideal.lean ====
abbrev S16x2048x1024 : Shape := ⟨3, ![16, 2048, 1024]⟩
abbrev S1x1024x6656 : Shape := ⟨3, ![1, 1024, 6656]⟩
abbrev S1x2048 : Shape := ⟨2, ![1, 2048]⟩
abbrev S1x3x1024 : Shape := ⟨3, ![1, 3, 1024]⟩
abbrev S1x1024x1024 : Shape := ⟨3, ![1, 1024, 1024]⟩
abbrev S2048 : Shape := ⟨1, ![2048]⟩
abbrev S1024x6656 : Shape := ⟨2, ![1024, 6656]⟩
abbrev S16x2048x6656 : Shape := ⟨3, ![16, 2048, 6656]⟩
abbrev S16x2048x512 : Shape := ⟨3, ![16, 2048, 512]⟩
abbrev S16x2048x2048 : Shape := ⟨3, ![16, 2048, 2048]⟩
abbrev S1x1x2048 : Shape := ⟨3, ![1, 1, 2048]⟩
abbrev S_ : Shape := ⟨0, ![]⟩
abbrev S3x1024 : Shape := ⟨2, ![3, 1024]⟩
abbrev S16x2050x1024 : Shape := ⟨3, ![16, 2050, 1024]⟩
abbrev S1x1024 : Shape := ⟨2, ![1, 1024]⟩
abbrev S1024 : Shape := ⟨1, ![1024]⟩
abbrev S1x1x1024 : Shape := ⟨3, ![1, 1, 1024]⟩
abbrev S1024x1024 : Shape := ⟨2, ![1024, 1024]⟩
abbrev S16x2048x8x64 : Shape := ⟨4, ![16, 2048, 8, 64]⟩
abbrev S16x8x2048x64 : Shape := ⟨4, ![16, 8, 2048, 64]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S16x8x2048x8 : Shape := ⟨4, ![16, 8, 2048, 8]⟩
abbrev S1x1x2048x8 : Shape := ⟨4, ![1, 1, 2048, 8]⟩
abbrev S16x8x2048x48 : Shape := ⟨4, ![16, 8, 2048, 48]⟩
abbrev S32768x512 : Shape := ⟨2, ![32768, 512]⟩
abbrev S128x256x512 : Shape := ⟨3, ![128, 256, 512]⟩
abbrev S128x512 : Shape := ⟨2, ![128, 512]⟩
abbrev S128x1x512 : Shape := ⟨3, ![128, 1, 512]⟩
abbrev S128x512x256 : Shape := ⟨3, ![128, 512, 256]⟩
abbrev S32768x1024 : Shape := ⟨2, ![32768, 1024]⟩

abbrev nBuf : Space → Nat
  | .hbm => 162
  | .vmem => 0
  | .smem => 0
  | _ => 0

abbrev hbmTy0_0 (i : Nat) : BufTy := match i % 128 with
  | 0 => ⟨S16x2048x1024, .f32⟩
  | 1 => ⟨S1x1024x6656, .f32⟩
  | 2 => ⟨S1x2048, .f32⟩
  | 3 => ⟨S1x3x1024, .f32⟩
  | 4 => ⟨S1x1024x1024, .f32⟩
  | 5 => ⟨S2048, .i32⟩
  | 6 => ⟨S1024x6656, .f32⟩
  | 7 => ⟨S16x2048x6656, .f32⟩
  | 8 => ⟨S16x2048x1024, .f32⟩
  | 9 => ⟨S16x2048x1024, .f32⟩
  | 10 => ⟨S16x2048x1024, .f32⟩
  | 11 => ⟨S16x2048x512, .f32⟩
  | 12 => ⟨S16x2048x512, .f32⟩
  | 13 => ⟨S16x2048x512, .f32⟩
  | 14 => ⟨S16x2048x2048, .f32⟩
  | 15 => ⟨S2048, .f32⟩
  | 16 => ⟨S1x1x2048, .f32⟩
  | 17 => ⟨S16x2048x2048, .f32⟩
  | 18 => ⟨S16x2048x2048, .f32⟩
  | 19 => ⟨S16x2048x2048, .f32⟩
  | 20 => ⟨S16x2048x2048, .f32⟩
  | 21 => ⟨S_, .f32⟩
  | 22 => ⟨S16x2048x2048, .f32⟩
  | 23 => ⟨S16x2048x2048, .f32⟩
  | 24 => ⟨S_, .f32⟩
  | 25 => ⟨S16x2048x2048, .f32⟩
  | 26 => ⟨S16x2048x2048, .f32⟩
  | 27 => ⟨S3x1024, .f32⟩
  | 28 => ⟨S16x2048x1024, .f32⟩
  | 29 => ⟨S_, .i32⟩
  | 30 => ⟨S_, .f32⟩
  | 31 => ⟨S16x2050x1024, .f32⟩
  | 32 => ⟨S16x2048x1024, .f32⟩
  | 33 => ⟨S1x1024, .f32⟩
  | 34 => ⟨S1024, .f32⟩
  | 35 => ⟨S1x1x1024, .f32⟩
  | 36 => ⟨S16x2048x1024, .f32⟩
  | 37 => ⟨S16x2048x1024, .f32⟩
  | 38 => ⟨S_, .f32⟩
  | 39 => ⟨S16x2048x1024, .f32⟩
  | 40 => ⟨S16x2048x1024, .f32⟩
  | 41 => ⟨S16x2048x1024, .f32⟩
  | 42 => ⟨S1x1024, .f32⟩
  | 43 => ⟨S1024, .f32⟩
  | 44 => ⟨S1x1x1024, .f32⟩
  | 45 => ⟨S16x2048x1024, .f32⟩
  | 46 => ⟨S16x2048x1024, .f32⟩
  | 47 => ⟨S16x2048x1024, .f32⟩
  | 48 => ⟨S16x2048x1024, .f32⟩
  | 49 => ⟨S1x1024, .f32⟩
  | 50 => ⟨S1024, .f32⟩
  | 51 => ⟨S1x1x1024, .f32⟩
  | 52 => ⟨S16x2048x1024, .f32⟩
  | 53 => ⟨S16x2048x1024, .f32⟩
  | 54 => ⟨S16x2048x1024, .f32⟩
  | 55 => ⟨S16x2048x1024, .f32⟩
  | 56 => ⟨S1024x1024, .f32⟩
  | 57 => ⟨S16x2048x1024, .f32⟩
  | 58 => ⟨S16x2048x1024, .f32⟩
  | 59 => ⟨S16x2048x1024, .f32⟩
  | 60 => ⟨S16x2048x8x64, .f32⟩
  | 61 => ⟨S16x8x2048x64, .f32⟩
  | 62 => ⟨S8, .f32⟩
  | 63 => ⟨S8, .f32⟩
  | 64 => ⟨S_, .f32⟩
  | 65 => ⟨S8, .f32⟩
  | 66 => ⟨S8, .f32⟩
  | 67 => ⟨S_, .f32⟩
  | 68 => ⟨S8, .f32⟩
  | 69 => ⟨S8, .f32⟩
  | 70 => ⟨S_, .f32⟩
  | 71 => ⟨S8, .f32⟩
  | 72 => ⟨S8, .f32⟩
  | 73 => ⟨S2048, .f32⟩
  | 74 => ⟨S2048x1, .f32⟩
  | 75 => ⟨S1x8, .f32⟩
  | 76 => ⟨S2048x8, .f32⟩
  | 77 => ⟨S2048x8, .f32⟩
  | 78 => ⟨S2048x8, .f32⟩
  | 79 => ⟨S2048x8, .f32⟩
  | 80 => ⟨S2048x8, .f32⟩
  | 81 => ⟨S16x8x2048x8, .f32⟩
  | 82 => ⟨S16x8x2048x8, .f32⟩
  | 83 => ⟨S1x1x2048x8, .f32⟩
  | 84 => ⟨S16x8x2048x8, .f32⟩
  | 85 => ⟨S16x8x2048x8, .f32⟩
  | 86 => ⟨S1x1x2048x8, .f32⟩
  | 87 => ⟨S16x8x2048x8, .f32⟩
  | 88 => ⟨S16x8x2048x8, .f32⟩
  | 89 => ⟨S16x8x2048x8, .f32⟩
  | 90 => ⟨S1x1x2048x8, .f32⟩
  | 91 => ⟨S16x8x2048x8, .f32⟩
  | 92 => ⟨S16x8x2048x8, .f32⟩
  | 93 => ⟨S1x1x2048x8, .f32⟩
  | 94 => ⟨S16x8x2048x8, .f32⟩
  | 95 => ⟨S16x8x2048x8, .f32⟩
  | 96 => ⟨S16x8x2048x8, .f32⟩
  | 97 => ⟨S16x8x2048x48, .f32⟩
  | 98 => ⟨S16x8x2048x64, .f32⟩
  | 99 => ⟨S16x2048x8x64, .f32⟩
  | 100 => ⟨S32768x512, .f32⟩
  | 101 => ⟨S16x2048x8x64, .f32⟩
  | 102 => ⟨S16x8x2048x64, .f32⟩
  | 103 => ⟨S8, .f32⟩
  | 104 => ⟨S8, .f32⟩
  | 105 => ⟨S_, .f32⟩
  | 106 => ⟨S8, .f32⟩
  | 107 => ⟨S8, .f32⟩
  | 108 => ⟨S_, .f32⟩
  | 109 => ⟨S8, .f32⟩
  | 110 => ⟨S8, .f32⟩
  | 111 => ⟨S_, .f32⟩
  | 112 => ⟨S8, .f32⟩
  | 113 => ⟨S8, .f32⟩
  | 114 => ⟨S2048, .f32⟩
  | 115 => ⟨S2048x1, .f32⟩
  | 116 => ⟨S1x8, .f32⟩
  | 117 => ⟨S2048x8, .f32⟩
  | 118 => ⟨S2048x8, .f32⟩
  | 119 => ⟨S2048x8, .f32⟩
  | 120 => ⟨S2048x8, .f32⟩
  | 121 => ⟨S2048x8, .f32⟩
  | 122 => ⟨S16x8x2048x8, .f32⟩
  | 123 => ⟨S16x8x2048x8, .f32⟩
  | 124 => ⟨S1x1x2048x8, .f32⟩
  | 125 => ⟨S16x8x2048x8, .f32⟩
  | 126 => ⟨S16x8x2048x8, .f32⟩
  | 127 => ⟨S1x1x2048x8, .f32⟩
  | _ => ⟨S16x2048x1024, .f32⟩

abbrev hbmTy0_1 (i : Nat) : BufTy := match i % 128 with
  | 0 => ⟨S16x8x2048x8, .f32⟩
  | 1 => ⟨S16x8x2048x8, .f32⟩
  | 2 => ⟨S16x8x2048x8, .f32⟩
  | 3 => ⟨S1x1x2048x8, .f32⟩
  | 4 => ⟨S16x8x2048x8, .f32⟩
  | 5 => ⟨S16x8x2048x8, .f32⟩
  | 6 => ⟨S1x1x2048x8, .f32⟩
  | 7 => ⟨S16x8x2048x8, .f32⟩
  | 8 => ⟨S16x8x2048x8, .f32⟩
  | 9 => ⟨S16x8x2048x8, .f32⟩
  | 10 => ⟨S16x8x2048x48, .f32⟩
  | 11 => ⟨S16x8x2048x64, .f32⟩
  | 12 => ⟨S16x2048x8x64, .f32⟩
  | 13 => ⟨S32768x512, .f32⟩
  | 14 => ⟨S128x256x512, .f32⟩
  | 15 => ⟨S_, .f32⟩
  | 16 => ⟨S128x512, .f32⟩
  | 17 => ⟨S128x1x512, .f32⟩
  | 18 => ⟨S_, .f32⟩
  | 19 => ⟨S128x1x512, .f32⟩
  | 20 => ⟨S128x1x512, .f32⟩
  | 21 => ⟨S128x256x512, .f32⟩
  | 22 => ⟨S128x512x256, .f32⟩
  | 23 => ⟨S16x2048x1024, .f32⟩
  | 24 => ⟨S32768x1024, .f32⟩
  | 25 => ⟨S32768x1024, .bf16⟩
  | 26 => ⟨S32768x1024, .f32⟩
  | 27 => ⟨S32768x1024, .bf16⟩
  | 28 => ⟨S_, .f32⟩
  | 29 => ⟨S32768x512, .f32⟩
  | 30 => ⟨S32768x512, .f32⟩
  | 31 => ⟨S32768x512, .bf16⟩
  | 32 => ⟨S32768x512, .bf16⟩
  | 33 => ⟨S128x512x256, .bf16⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c : Ref sig .tc := ⟨.hbm, 29, rfl⟩
abbrev main_call0_v0 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_1 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_cst_2 : Ref sig .tc := ⟨.hbm, 64, rfl⟩
abbrev main_v54 : Ref sig .tc := ⟨.hbm, 65, rfl⟩
abbrev main_v55 : Ref sig .tc := ⟨.hbm, 66, rfl⟩
abbrev main_cst_3 : Ref sig .tc := ⟨.hbm, 67, rfl⟩
abbrev main_v56 : Ref sig .tc := ⟨.hbm, 68, rfl⟩
abbrev main_v57 : Ref sig .tc := ⟨.hbm, 69, rfl⟩
abbrev main_cst_4 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_cst_5 : Ref sig .tc := ⟨.hbm, 105, rfl⟩
abbrev main_v92 : Ref sig .tc := ⟨.hbm, 106, rfl⟩
abbrev main_v93 : Ref sig .tc := ⟨.hbm, 107, rfl⟩
abbrev main_cst_6 : Ref sig .tc := ⟨.hbm, 108, rfl⟩
abbrev main_v94 : Ref sig .tc := ⟨.hbm, 109, rfl⟩
abbrev main_v95 : Ref sig .tc := ⟨.hbm, 110, rfl⟩
abbrev main_cst_7 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_cst_8 : Ref sig .tc := ⟨.hbm, 143, rfl⟩
abbrev main_v127 : Ref sig .tc := ⟨.hbm, 144, rfl⟩
abbrev main_v128 : Ref sig .tc := ⟨.hbm, 145, rfl⟩
abbrev main_cst_9 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_cst_10 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩

abbrev nD : Nat := 1
abbrev τ : Topo := Topo.v7x

variable {F : FTy → Type} [FloatOps F]
-- ==== Kernel3.lean ====
abbrev S32768x512 : Shape := ⟨2, ![32768, 512]⟩
abbrev S32768x1024 : Shape := ⟨2, ![32768, 1024]⟩
abbrev S16x2048x1024 : Shape := ⟨3, ![16, 2048, 1024]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x256 : Shape := ⟨3, ![1, 1024, 256]⟩
abbrev S1x256x1024 : Shape := ⟨3, ![1, 256, 1024]⟩
abbrev S512x1024 : Shape := ⟨2, ![512, 1024]⟩
abbrev S1024x1024 : Shape := ⟨2, ![1024, 1024]⟩
abbrev S1024 : Shape := ⟨1, ![1024]⟩
abbrev S1024x256 : Shape := ⟨2, ![1024, 256]⟩
abbrev S256x1024 : Shape := ⟨2, ![256, 1024]⟩
abbrev S32768x8x128 : Shape := ⟨3, ![32768, 8, 128]⟩
abbrev S256x32768 : Shape := ⟨2, ![256, 32768]⟩
abbrev S512x512 : Shape := ⟨2, ![512, 512]⟩
abbrev S512x8x128 : Shape := ⟨3, ![512, 8, 128]⟩
abbrev S256x512 : Shape := ⟨2, ![256, 512]⟩
abbrev S512 : Shape := ⟨1, ![512]⟩
abbrev S512x1 : Shape := ⟨2, ![512, 1]⟩
abbrev S512x256 : Shape := ⟨2, ![512, 256]⟩
abbrev S512x128 : Shape := ⟨2, ![512, 128]⟩
abbrev S512x1x128 : Shape := ⟨3, ![512, 1, 128]⟩

abbrev nBuf : Space → Nat
  | .hbm => 32
  | .vmem => 22
  | .smem => 0
  | _ => 0

abbrev bufTy : (tb : Table) → Fin (tcTables nBuf tb) → BufTy
  | .hbm, ⟨0, _⟩ => ⟨S32768x512, .bf16⟩
  | .hbm, ⟨1, _⟩ => ⟨S32768x1024, .bf16⟩
  | .hbm, ⟨2, _⟩ => ⟨S32768x1024, .bf16⟩
  | .hbm, ⟨3, _⟩ => ⟨S16x2048x1024, .f32⟩
  | .hbm, ⟨4, _⟩ => ⟨S1x512x1024, .f32⟩
  | .hbm, ⟨5, _⟩ => ⟨S1x1024x1024, .f32⟩
  | .hbm, ⟨6, _⟩ => ⟨S1x1024, .f32⟩
  | .hbm, ⟨7, _⟩ => ⟨S1x1024, .f32⟩
  | .hbm, ⟨8, _⟩ => ⟨S1x1024x256, .f32⟩
  | .hbm, ⟨9, _⟩ => ⟨S1x1024x256, .f32⟩
  | .hbm, ⟨10, _⟩ => ⟨S1x256x1024, .f32⟩
  | .hbm, ⟨11, _⟩ => ⟨S1x1024x256, .f32⟩
  | .hbm, ⟨12, _⟩ => ⟨S32768x1024, .f32⟩
  | .hbm, ⟨13, _⟩ => ⟨S512x1024, .f32⟩
  | .hbm, ⟨14, _⟩ => ⟨S512x1024, .bf16⟩
  | .hbm, ⟨15, _⟩ => ⟨S1024x1024, .f32⟩
  | .hbm, ⟨16, _⟩ => ⟨S1024x1024, .bf16⟩
  | .hbm, ⟨17, _⟩ => ⟨S1024, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S1024x256, .f32⟩
  | .hbm, ⟨22, _⟩ => ⟨S1024x256, .bf16⟩
  | .hbm, ⟨23, _⟩ => ⟨S1024x256, .f32⟩
  | .hbm, ⟨24, _⟩ => ⟨S1024x256, .bf16⟩
  | .hbm, ⟨25, _⟩ => ⟨S256x1024, .f32⟩
  | .hbm, ⟨26, _⟩ => ⟨S256x1024, .bf16⟩
  | .hbm, ⟨27, _⟩ => ⟨S1024x256, .f32⟩
  | .hbm, ⟨28, _⟩ => ⟨S256x1024, .f32⟩
  | .hbm, ⟨29, _⟩ => ⟨S32768x1024, .f32⟩
  | .hbm, ⟨30, _⟩ => ⟨S32768x8x128, .bf16⟩
  | .hbm, ⟨31, _⟩ => ⟨S256x32768, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S1024x1024, .bf16⟩
  | .local _ .vmem, ⟨10, _⟩ => ⟨S1x1024, .f32⟩
  | .local _ .vmem, ⟨11, _⟩ => ⟨S1x1024, .f32⟩
  | .local _ .vmem, ⟨12, _⟩ => ⟨S1024x256, .bf16⟩
  | .local _ .vmem, ⟨13, _⟩ => ⟨S1024x256, .bf16⟩
  | .local _ .vmem, ⟨14, _⟩ => ⟨S256x1024, .bf16⟩
  | .local _ .vmem, ⟨15, _⟩ => ⟨S256x1024, .f32⟩
  | .local _ .vmem, ⟨16, _⟩ => ⟨S512x1024, .f32⟩
  | .local _ .vmem, ⟨17, _⟩ => ⟨S512x1024, .f32⟩
  | .local _ .vmem, ⟨18, _⟩ => ⟨S512x8x128, .bf16⟩
  | .local _ .vmem, ⟨19, _⟩ => ⟨S512x8x128, .bf16⟩
  | .local _ .vmem, ⟨20, _⟩ => ⟨S256x512, .f32⟩
  | .local _ .vmem, ⟨21, _⟩ => ⟨S256x512, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17_0 : Ref sig .tc := ⟨.hbm, 29, rfl⟩
abbrev main_v17_1 : Ref sig .tc := ⟨.hbm, 30, rfl⟩
abbrev main_v17_2 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x8x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference3Ideal.lean ====
abbrev S32768x512 : Shape := ⟨2, ![32768, 512]⟩
abbrev S32768x1024 : Shape := ⟨2, ![32768, 1024]⟩
abbrev S16x2048x1024 : Shape := ⟨3, ![16, 2048, 1024]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x256 : Shape := ⟨3, ![1, 1024, 256]⟩
abbrev S1x256x1024 : Shape := ⟨3, ![1, 256, 1024]⟩
abbrev S512x1024 : Shape := ⟨2, ![512, 1024]⟩
abbrev S1024x1024 : Shape := ⟨2, ![1024, 1024]⟩
abbrev S_ : Shape := ⟨0, ![]⟩
abbrev S1024 : Shape := ⟨1, ![1024]⟩
abbrev S32768 : Shape := ⟨1, ![32768]⟩
abbrev S32768x1 : Shape := ⟨2, ![32768, 1]⟩
abbrev S1024x256 : Shape := ⟨2, ![1024, 256]⟩
abbrev S32768x256 : Shape := ⟨2, ![32768, 256]⟩
abbrev S256x1024 : Shape := ⟨2, ![256, 1024]⟩
abbrev S32768x2x4x128 : Shape := ⟨4, ![32768, 2, 4, 128]⟩
abbrev S32768x4x2x128 : Shape := ⟨4, ![32768, 4, 2, 128]⟩
abbrev S32768x8x128 : Shape := ⟨3, ![32768, 8, 128]⟩
abbrev S256x32768 : Shape := ⟨2, ![256, 32768]⟩

abbrev nBuf : Space → Nat
  | .hbm => 84
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x1024, .bf16⟩
  | .hbm, ⟨2, _⟩ => ⟨S32768x1024, .bf16⟩
  | .hbm, ⟨3, _⟩ => ⟨S16x2048x1024, .f32⟩
  | .hbm, ⟨4, _⟩ => ⟨S1x512x1024, .f32⟩
  | .hbm, ⟨5, _⟩ => ⟨S1x1024x1024, .f32⟩
  | .hbm, ⟨6, _⟩ => ⟨S1x1024, .f32⟩
  | .hbm, ⟨7, _⟩ => ⟨S1x1024, .f32⟩
  | .hbm, ⟨8, _⟩ => ⟨S1x1024x256, .f32⟩
  | .hbm, ⟨9, _⟩ => ⟨S1x1024x256, .f32⟩
  | .hbm, ⟨10, _⟩ => ⟨S1x256x1024, .f32⟩
  | .hbm, ⟨11, _⟩ => ⟨S1x1024x256, .f32⟩
  | .hbm, ⟨12, _⟩ => ⟨S32768x512, .f32⟩
  | .hbm, ⟨13, _⟩ => ⟨S512x1024, .f32⟩
  | .hbm, ⟨14, _⟩ => ⟨S32768x1024, .f32⟩
  | .hbm, ⟨15, _⟩ => ⟨S32768x1024, .f32⟩
  | .hbm, ⟨16, _⟩ => ⟨S32768x1024, .f32⟩
  | .hbm, ⟨17, _⟩ => ⟨S32768x1024, .f32⟩
  | .hbm, ⟨18, _⟩ => ⟨S32768x1024, .f32⟩
  | .hbm, ⟨19, _⟩ => ⟨S1024x1024, .f32⟩
  | .hbm, ⟨20, _⟩ => ⟨S32768x1024, .f32⟩
  | .hbm, ⟨21, _⟩ => ⟨S32768x1024, .f32⟩
  | .hbm, ⟨22, _⟩ => ⟨S_, .f32⟩
  | .hbm, ⟨23, _⟩ => ⟨S32768x1024, .f32⟩
  | .hbm, ⟨24, _⟩ => ⟨S32768x1024, .f32⟩
  | .hbm, ⟨25, _⟩ => ⟨S32768x1024, .f32⟩
  | .hbm, ⟨26, _⟩ => ⟨S1024, .f32⟩
  | .hbm, ⟨27, _⟩ => ⟨S1024, .f32⟩
  | .hbm, ⟨28, _⟩ => ⟨S_, .f32⟩
  | .hbm, ⟨29, _⟩ => ⟨S32768, .f32⟩
  | .hbm, ⟨30, _⟩ => ⟨S32768x1, .f32⟩
  | .hbm, ⟨31, _⟩ => ⟨S_, .f32⟩
  | .hbm, ⟨32, _⟩ => ⟨S32768x1, .f32⟩
  | .hbm, ⟨33, _⟩ => ⟨S32768x1, .f32⟩
  | .hbm, ⟨34, _⟩ => ⟨S32768x1024, .f32⟩
  | .hbm, ⟨35, _⟩ => ⟨S32768x1024, .f32⟩
  | .hbm, ⟨36, _⟩ => ⟨S32768x1024, .f32⟩
  | .hbm, ⟨37, _⟩ => ⟨S_, .f32⟩
  | .hbm, ⟨38, _⟩ => ⟨S32768, .f32⟩
  | .hbm, ⟨39, _⟩ => ⟨S32768x1, .f32⟩
  | .hbm, ⟨40, _⟩ => ⟨S_, .f32⟩
  | .hbm, ⟨41, _⟩ => ⟨S32768x1, .f32⟩
  | .hbm, ⟨42, _⟩ => ⟨S32768x1, .f32⟩
  | .hbm, ⟨43, _⟩ => ⟨S32768x1024, .f32⟩
  | .hbm, ⟨44, _⟩ => ⟨S32768x1024, .f32⟩
  | .hbm, ⟨45, _⟩ => ⟨S_, .f32⟩
  | .hbm, ⟨46, _⟩ => ⟨S32768x1, .f32⟩
  | .hbm, ⟨47, _⟩ => ⟨S32768x1, .f32⟩
  | .hbm, ⟨48, _⟩ => ⟨S32768x1, .f32⟩
  | .hbm, ⟨49, _⟩ => ⟨S32768x1024, .f32⟩
  | .hbm, ⟨50, _⟩ => ⟨S32768x1024, .f32⟩
  | .hbm, ⟨51, _⟩ => ⟨S1x1024, .f32⟩
  | .hbm, ⟨52, _⟩ => ⟨S32768x1024, .f32⟩
  | .hbm, ⟨53, _⟩ => ⟨S32768x1024, .f32⟩
  | .hbm, ⟨54, _⟩ => ⟨S1x1024, .f32⟩
  | .hbm, ⟨55, _⟩ => ⟨S32768x1024, .f32⟩
  | .hbm, ⟨56, _⟩ => ⟨S32768x1024, .f32⟩
  | .hbm, ⟨57, _⟩ => ⟨S1024x256, .f32⟩
  | .hbm, ⟨58, _⟩ => ⟨S32768x256, .f32⟩
  | .hbm, ⟨59, _⟩ => ⟨S32768x256, .f32⟩
  | .hbm, ⟨60, _⟩ => ⟨S32768x256, .f32⟩
  | .hbm, ⟨61, _⟩ => ⟨S_, .f32⟩
  | .hbm, ⟨62, _⟩ => ⟨S32768x256, .f32⟩
  | .hbm, ⟨63, _⟩ => ⟨S32768x256, .f32⟩
  | .hbm, ⟨64, _⟩ => ⟨S_, .f32⟩
  | .hbm, ⟨65, _⟩ => ⟨S32768x256, .f32⟩
  | .hbm, ⟨66, _⟩ => ⟨S32768x256, .f32⟩
  | .hbm, ⟨67, _⟩ => ⟨S32768x256, .f32⟩
  | .hbm, ⟨68, _⟩ => ⟨S1024x256, .f32⟩
  | .hbm, ⟨69, _⟩ => ⟨S32768x256, .f32⟩
  | .hbm, ⟨70, _⟩ => ⟨S32768x256, .f32⟩
  | .hbm, ⟨71, _⟩ => ⟨S256x1024, .f32⟩
  | .hbm, ⟨72, _⟩ => ⟨S32768x1024, .f32⟩
  | .hbm, ⟨73, _⟩ => ⟨S_, .f32⟩
  | .hbm, ⟨74, _⟩ => ⟨S32768x1024, .f32⟩
  | .hbm, ⟨75, _⟩ => ⟨S32768x1024, .f32⟩
  | .hbm, ⟨76, _⟩ => ⟨S32768x1024, .f32⟩
  | .hbm, ⟨77, _⟩ => ⟨S32768x2x4x128, .f32⟩
  | .hbm, ⟨78, _⟩ => ⟨S32768x4x2x128, .f32⟩
  | .hbm, ⟨79, _⟩ => ⟨S32768x8x128, .f32⟩
  | .hbm, ⟨80, _⟩ => ⟨S32768x8x128, .bf16⟩
  | .hbm, ⟨81, _⟩ => ⟨S1024x256, .f32⟩
  | .hbm, ⟨82, _⟩ => ⟨S32768x256, .f32⟩
  | .hbm, ⟨83, _⟩ => ⟨S256x32768, .f32⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_0 : Ref sig .tc := ⟨.hbm, 28, rfl⟩
abbrev main_v15 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_call0_v0 : Ref sig .tc := ⟨.hbm, 59, rfl⟩
abbrev main_call0_v1 : Ref sig .tc := ⟨.hbm, 60, rfl⟩
abbrev main_call0_cst : Ref sig .tc := ⟨.hbm, 61, rfl⟩
abbrev main_call0_v2 : Ref sig .tc := ⟨.hbm, 62, rfl⟩
abbrev main_call0_v3 : Ref sig .tc := ⟨.hbm, 63, rfl⟩
abbrev main_call0_cst_0 : Ref sig .tc := ⟨.hbm, 64, rfl⟩
abbrev main_call0_v4 : Ref sig .tc := ⟨.hbm, 65, rfl⟩
abbrev main_call0_v5 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_5 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩

abbrev nD : Nat := 1
abbrev τ : Topo := Topo.v7x

variable {F : FTy → Type} [FloatOps F]
-- ==== Proof.Att.KernelFrame.lean ====
/-
  The frame of the kernel as printed: its body runs at every grid point, nothing being said of what it leaves in the result.
-/
module

public import proofs.«01_k».proof.Proof.Gen.Kernel.Frame.Runs
public import Idealize.ShloMosaic.Lib.Claim

@[expose] public section

set_option maxRecDepth 16384

noncomputable section

namespace Cert.Kernel.Att

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1524000 in
/-- The body runs from whole staging buffers and hands them back, the inputs as they were. -/
theorem bodyRun (c : Dev nD) (i : grid0.Coords) (arg2 : Memref sig .tc .vmem S256x512 .bf16) (harg2 : arg2.IsWhole) (arg3 : Memref sig .tc .vmem S2048x512 .bf16) (harg3 : arg3.IsWhole) (arg4 : Memref sig .tc .vmem S8x512x256 .bf16) (harg4 : arg4.IsWhole) (arg5 : Memref sig .tc .vmem S8x1x512 .f32) (harg5 : arg5.IsWhole) (arg6 : Memref sig .tc .vmem S256x512 .bf16) (harg6 : arg6.IsWhole) (arg7 : Memref sig .tc .vmem S8x8x256 .f32) (harg7 : arg7.IsWhole) (arg8 : Memref sig .tc .vmem S8x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256x256 .bf16) (harg11 : arg11.IsWhole) (arg12 : Memref sig .tc .vmem S512x256 .f32) (harg12 : arg12.IsWhole)
    (x0 : Vec F S256x512 .bf16) (x1 : Vec F S2048x512 .bf16) (x2 : Vec F S8x512x256 .bf16) (x3 : Vec F S8x1x512 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_attention i arg2 harg2 arg3 harg3 arg4 harg4 arg5 harg5 arg6 harg6 arg7 harg7 arg8 harg8 arg9 harg9 arg10 harg10 arg11 harg11 arg12 harg12) K := by
    intro E K
    simp only [cc0_attention_eq_skeleton]; unfold cc0_attention_skel
    simp only [k0_part61_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg2.eq_unread hf0; obtain rfl := harg3.eq_unread hf1; obtain rfl := harg4.eq_unread hf2; obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _, _; isplitr; swap; · iexact H4
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexists _, _; isplitr; swap; · iexact HS5
    ipureintro; rfl

/-- From the run, the arguments unchanged. -/
theorem frame_of_forget (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) h

/-- The one window whose contents are not named: the result. -/
def forgets0 : Fin 5 → Bool := fun w => w.val == 4

/-- What each staging buffer holds after the body at a grid point: an input its block, the result something. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
  Φ _ := Pipeline.ΦA spec0 c
  q _ := fullShare
  owed _ := 0

/-- The arrays as the grid finds them. -/
theorem A_eq (c : Dev nD) (w : Fin cfg0.W) : (dats m 0 c).A w = V m c (Pipeline.arrRef spec0 w) := by
  dsimp only [dats]

/-! What the body leaves in each input: its block. -/

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-! What each input holds on entry: its block. -/

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at a grid point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d))

/-- What the body returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ d, owns (c : Thread nD τ) (ms0_4 t) fullShare d))

set_option maxHeartbeats 800000 in
/-- The body at any grid point, from its run. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  iintro ⟨⟨⟨HS0, HS1, HS2, HS3, HS4, HS5⟩, Hg⟩, Ho, ⟨%d0, H0⟩, ⟨%d1, H1⟩, ⟨%d2, H2⟩, ⟨%d3, H3⟩, ⟨%d4, H4⟩⟩
  iapply ((bodyRun c (grid0.coords t) _ _ _ _ _ _ _ _ _ _ _ _ _ _ _ _ _ _ _ _ _ _ (iblk m c 0 t) (iblk m c 1 t) (iblk m c 2 t) (iblk m c 3 t)) Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, HS0, HS1, HS2, HS3, HS4, HS5⟩
  isplitl [HS0 HS1 HS2 HS3 HS4 HS5 Hg]
  · isplitl [HS0 HS1 HS2 HS3 HS4 HS5]
    · isplitl [HS0]
      · iexact HS0
      isplitl [HS1]
      · iexact HS1
      isplitl [HS2]
      · iexact HS2
      isplitl [HS3]
      · iexact HS3
      isplitl [HS4]
      · iexact HS4
      iexact HS5
    iexact Hg
  isplitl [Ho]; · iexact Ho
  isplitl [H0]; · iexact H0
  isplitl [H1]; · iexact H1
  isplitl [H2]; · iexact H2
  isplitl [H3]; · iexact H3
  iexact H4

/-- The body as the grid calls it. -/
theorem defs₀_row (t : Fin cfg0.N) :
    defs₀ (F := F) .tc cfg0.body (cfg0.bodyArgs t (cfg0.slots t)) = bodyAt0 t := by
  unfold defs₀; rw [Defs.onTc_tc]

/-- The body meets what the pipeline asks of it, at every grid point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The launch: the inputs end unchanged, every counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run, without the counters. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of_forget m ρ (fun c => (dats m 0 c).toRForget forgets0) (A_eq m) (run_main m ρ)

/-- The kernel terminates, leaves its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Att

end
-- ==== Proof.Att.Run.lean ====
/-
  The attention kernel's body at one grid point, run once at a symbolic point: through the loop over the earlier key blocks
  by its invariant (the generated one, taken at fixed values of the two words it does not read), and past the remainder
  loop, which makes no trip.
-/
module

public import proofs.«01_k».proof.Proof.Gen.KernelIdeal.Frame.Runs

@[expose] public section

set_option maxRecDepth 16384

noncomputable section

namespace Cert.KernelIdeal.Att

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The loop over the earlier key blocks makes one trip per earlier block. -/
theorem trips_one (i : grid0.Coords) : (k0_t1_loop i).trips = (i 1).val := by
  have h : ∀ j : Fin 8, Scf.trips (0#32) (Scalar.addi 0#32 (Scalar.muli (Scalar.divsi (Scalar.subi (BitVec.ofNat 32 j.val) 0#32) 1#32) 1#32)) (1#32) = j.val := by
    decide +kernel
  exact h (i 1)

/-- The remainder loop makes no trip. -/
theorem trips_two (i : grid0.Coords) : (k0_t2_loop i).trips = 0 := by
  have h : ∀ j : Fin 8, Scf.trips (Scalar.addi 0#32 (Scalar.muli (Scalar.divsi (Scalar.subi (BitVec.ofNat 32 j.val) 0#32) 1#32) 1#32)) (Scalar.addi 0#32 (Scalar.subi (BitVec.ofNat 32 j.val) 0#32)) (1#32) = 0 := by
    decide +kernel
  exact h (i 1)

set_option warn.classDefReducibility false in
/-- The block loop's invariant, at fixed values of the two parameters its trips never read. -/
@[sl_loop] def blockLoop (𝒱 : Variants) (c : Dev nD) (bd : Option 𝒱.V) (E : Set ℕ) (i : grid0.Coords) (arg2 : Memref sig .tc .vmem S256x512 .bf16) (harg2 : arg2.IsWhole) (arg3 : Memref sig .tc .vmem S2048x512 .bf16) (harg3 : arg3.IsWhole) (arg4 : Memref sig .tc .vmem S8x512x256 .bf16) (harg4 : arg4.IsWhole) (arg5 : Memref sig .tc .vmem S8x1x512 .f32) (harg5 : arg5.IsWhole) (arg6 : Memref sig .tc .vmem S256x512 .bf16) (harg6 : arg6.IsWhole) (arg7 : Memref sig .tc .vmem S8x8x256 .f32) (harg7 : arg7.IsWhole) (arg8 : Memref sig .tc .vmem S8x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256x256 .bf16) (harg11 : arg11.IsWhole) (arg12 : Memref sig .tc .vmem S512x256 .f32) (harg12 : arg12.IsWhole) (X_arg2 : BufTy.Contents (Elt F) arg2.view.ty) (X_arg3 : BufTy.Contents (Elt F) arg3.view.ty) (X_arg4 : BufTy.Contents (Elt F) arg4.view.ty) (X_arg7 : BufTy.Contents (Elt F) arg7.view.ty) (G_arg8 : BufTy.Contents (Elt F) arg8.view.ty) (G_arg9 : BufTy.Contents (Elt F) arg9.view.ty) (G_arg10 : BufTy.Contents (Elt F) arg10.view.ty) (G_arg11 : BufTy.Contents (Elt F) arg11.view.ty) (G_arg12 : BufTy.Contents (Elt F) arg12.view.ty) :=
  loopInv_k0_t1 𝒱 c bd E i arg2 harg2 arg3 harg3 arg4 harg4 arg5 harg5 arg6 harg6 arg7 harg7 arg8 harg8 arg9 harg9 arg10 harg10 arg11 harg11 arg12 harg12 0#32 (constant S64x256 .bf16 0x0000#16) X_arg2 X_arg3 X_arg4 X_arg7 G_arg8 G_arg9 G_arg10 G_arg11 G_arg12

set_option maxHeartbeats 8000000 in
/-- What the body leaves in the output's staging buffer, as the list of its stores (the last first), with the body's
    triple: the inputs are left as they were, the scratch buffers at some contents. The list is a function of what the
    factors' buffer `arg10` holds on entry, which the body never initialises: every trip stores each factor before it
    reads it, so the function is constant in effect, as `block_at` shows for exact numbers. -/
noncomputable def blockRun (c : Dev nD) (i : grid0.Coords) (arg2 : Memref sig .tc .vmem S256x512 .bf16) (harg2 : arg2.IsWhole) (arg3 : Memref sig .tc .vmem S2048x512 .bf16) (harg3 : arg3.IsWhole) (arg4 : Memref sig .tc .vmem S8x512x256 .bf16) (harg4 : arg4.IsWhole) (arg5 : Memref sig .tc .vmem S8x1x512 .f32) (harg5 : arg5.IsWhole) (arg6 : Memref sig .tc .vmem S256x512 .bf16) (harg6 : arg6.IsWhole) (arg7 : Memref sig .tc .vmem S8x8x256 .f32) (harg7 : arg7.IsWhole) (arg8 : Memref sig .tc .vmem S8x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256x256 .bf16) (harg11 : arg11.IsWhole) (arg12 : Memref sig .tc .vmem S512x256 .f32) (harg12 : arg12.IsWhole)
    (x0 : Vec F S256x512 .bf16) (x1 : Vec F S2048x512 .bf16) (x2 : Vec F S8x512x256 .bf16) (x3 : Vec F S8x1x512 .f32) :
    { L4 : BufTy.Contents (Elt F) arg10.view.ty → List (View.Piece (Elt F) S256x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f g, arg6.view.loc (c : Thread nD τ) ↦[arg6.view.set]{fullShare} arg6.view.writes (Elt F) f (L4 g)) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_attention i arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0_attention_eq_skeleton]; unfold cc0_attention_skel
    simp only [k0_part61_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg2.eq_unread hf0; obtain rfl := harg3.eq_unread hf1; obtain rfl := harg4.eq_unread hf2; obtain rfl := harg5.eq_unread hf3
    have htr : (k0_t2_loop i).trips = 0 := trips_two i
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists f4, fs3; iexact H4
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexists _, _; isplitr; swap; · iexact HS5
    ipureintro; rfl

end Cert.KernelIdeal.Att

end
-- ==== Proof.Att.Head.lean ====
/-
  One head's work in the attention kernel, as vector expressions over the blocks it loads, and each expression read at an
  index: the block scores, the gate's bias, the diagonal block's softmax terms, an earlier block's update of the running
  maximum, sum and accumulator.
-/
module

public import proofs.«01_k».proof.Proof.Gen.KernelIdeal.Skeleton
public import Idealize.ShloMosaic.Lib.Pointwise
public import Idealize.ShloMosaic.Lib.ValueIdx

@[expose] public section

set_option maxRecDepth 16384

noncomputable section

namespace Cert.KernelIdeal.Att

open Idealize.ShloMosaic Cert.KernelIdeal.Gen

/-! ## The expressions -/

section Expr
variable {F : FTy → Type} [FloatOps F] [Named F]

/-- Scores of one key block against the queries: key rows, query columns. -/
def hScore (kb qb : Vec F S256x64 .bf16) : FVec F S256x256 .f32 :=
  matmul dot_S256x64_S256x64_S256x256_1_1_0_0_n_n none (shapeCast S256x64 kb shapeCasts_S256x64_S256x64 : FVec F S256x64 .bf16)
    (shapeCast S256x64 qb shapeCasts_S256x64_S256x64 : FVec F S256x64 .bf16) (constant S256x256 .f32 0x00000000#32)

/-- The block's scores with the queries' bias for the block added. -/
def hBiased (kb qb : Vec F S256x64 .bf16) (b : Vec F S1x1x256 .f32) : FVec F S256x256 .f32 :=
  addf (hScore kb qb) (broadcastTo S256x256 (shapeCast S1x256 b shapeCasts_S1x1x256_S1x256 : FVec F S1x256 .f32) broadcasts_S1x256_S256x256)

/-- A column maximum, as one row. -/
def hColMax (s : FVec F S256x256 .f32) : FVec F S1x256 .f32 :=
  shapeCast S1x256 (multiReduction .maximumf [0] S256 s 0xFF800000#32 reduces_S256x256_S256 (.inl rfl) rfl) shapeCasts_S256_S1x256

/-- A column sum, as one row. -/
def hColSum (s : FVec F S256x256 .f32) : FVec F S1x256 .f32 :=
  shapeCast S1x256 (multiReduction .add [0] S256 s 0x00000000#32 reduces_S256x256_S256 (.inl rfl) rfl) shapeCasts_S256_S1x256

/-- Exponentials of scores less a row. -/
def hExp (s : FVec F S256x256 .f32) (r : FVec F S1x256 .f32) : FVec F S256x256 .f32 :=
  exp (subf s (broadcastTo S256x256 r broadcasts_S1x256_S256x256))

/-- The running maximum after the block. -/
def hMax (s : FVec F S256x256 .f32) (m : Vec F S1x256 .f32) : FVec F S1x256 .f32 := maximumf m (hColMax s)

/-- The factor that rescales the running sum and the accumulator. -/
def hAlpha (s : FVec F S256x256 .f32) (m : Vec F S1x256 .f32) : FVec F S1x256 .f32 := exp (subf m (hMax s m))

/-- The running sum after the block. -/
def hSum (s : FVec F S256x256 .f32) (m l : Vec F S1x256 .f32) : FVec F S1x256 .f32 :=
  addf (mulf (hAlpha s m) l) (hColSum (hExp s (hMax s m)))

/-- The product of the transposed values with the exponentials. -/
def hPv (vb : Vec F S1x64x256 .bf16) (p : Vec F S1x256x256 .bf16) : FVec F S64x256 .f32 :=
  matmul dot_S64x256_S256x256_S64x256_1_0_0_1_n_n none (shapeCast S64x256 vb shapeCasts_S1x64x256_S64x256 : FVec F S64x256 .bf16)
    (shapeCast S256x256 p shapeCasts_S1x256x256_S256x256 : FVec F S256x256 .bf16) (constant S64x256 .f32 0x00000000#32)

/-- The exponentials as stored. -/
def hStore (p : FVec F S256x256 .f32) : FVec F S1x256x256 .bf16 :=
  shapeCast S1x256x256 (truncf .bf16 p bitsLt_bf16_f32) shapeCasts_S256x256_S1x256x256

/-- The accumulator after the block. -/
def hAcc (a : Vec F S64x256 .f32) (al : Vec F S1x256 .f32) (pv : FVec F S64x256 .f32) : FVec F S64x256 .f32 :=
  addf (mulf a (broadcastTo S64x256 al broadcasts_S1x256_S64x256)) pv

/-- The diagonal block's scores, keys after the query masked. -/
def hDiag (kb qb : Vec F S256x64 .bf16) : FVec F S256x256 .f32 :=
  select (cmpi .sle (iota .tc S256x256 32 [0] iota_S256x256_d0_w32) (iota .tc S256x256 32 [1] iota_S256x256_d1_w32)) (hScore kb qb)
    (broadcast S256x256 (Named.named κ "mask" 0xF149F2CA#32 : F .f32))

/-- Row numbers below the block's number. -/
def hPast (w : BitVec 32) : IVec S8x256 1 := cmpi .slt (iota .tc S8x256 32 [0] iota_S8x256_d0_w32) (broadcast S8x256 w)

/-- The gates: key-block means against queries, masked to earlier blocks. -/
def hGate (w : BitVec 32) (km : Vec F S8x1x64 .f32) (qb : Vec F S256x64 .bf16) : FVec F S8x256 .f32 :=
  select (hPast w) (matmul dot_S8x64_S256x64_S8x256_1_1_0_0_n_n none (shapeCast S8x64 km shapeCasts_S8x1x64_S8x64 : FVec F S8x64 .f32)
    (extf .f32 (shapeCast S256x64 qb shapeCasts_S256x64_S256x64 : FVec F S256x64 .bf16) bitsLt_bf16_f32) (constant S8x256 .f32 0x00000000#32))
    (broadcast S8x256 (Scalar.ofBits .f32 0xFF800000#32 : F .f32))

/-- One gate row's contribution to the ranks: 1 where it stands before the row. -/
def hAhead (g : FVec F S8x256 .f32) (off : Fin 2 → ℕ) (hs : S8x256.Slices off S1x256) (n : BitVec 32) : FVec F S8x256 .f32 :=
  select (cmpf .ogt (broadcastTo S8x256 (extractStridedSlice S1x256 off g hs) broadcasts_S1x256_S8x256) g)
    (broadcast S8x256 (Scalar.ofBits .f32 0x3F800000#32 : F .f32))
    (select (cmpf .oeq (broadcastTo S8x256 (extractStridedSlice S1x256 off g hs) broadcasts_S1x256_S8x256) g)
      (select (cmpi .sgt (iota .tc S8x256 32 [0] iota_S8x256_d0_w32) (broadcast S8x256 n))
        (broadcast S8x256 (Scalar.ofBits .f32 0x3F800000#32 : F .f32)) (broadcast S8x256 (Scalar.ofBits .f32 0x00000000#32 : F .f32)))
      (broadcast S8x256 (Scalar.ofBits .f32 0x00000000#32 : F .f32)))

/-- The ranks: how many gate rows stand before each row. -/
def hRank (g : FVec F S8x256 .f32) : FVec F S8x256 .f32 :=
  addf (addf (addf (addf (addf (addf (addf (addf (broadcast S8x256 (Scalar.ofBits .f32 0x00000000#32 : F .f32))
    (hAhead g ![0, 0] slices_S8x256_o0_0_S1x256 0#32)) (hAhead g ![1, 0] slices_S8x256_o1_0_S1x256 1#32))
    (hAhead g ![2, 0] slices_S8x256_o2_0_S1x256 2#32)) (hAhead g ![3, 0] slices_S8x256_o3_0_S1x256 3#32))
    (hAhead g ![4, 0] slices_S8x256_o4_0_S1x256 4#32)) (hAhead g ![5, 0] slices_S8x256_o5_0_S1x256 5#32))
    (hAhead g ![6, 0] slices_S8x256_o6_0_S1x256 6#32)) (hAhead g ![7, 0] slices_S8x256_o7_0_S1x256 7#32)

/-- The bias rows as stored: 0 for an earlier block of rank below three, the mask otherwise. -/
def hBias (w : BitVec 32) (g : FVec F S8x256 .f32) : FVec F S1x8x256 .f32 :=
  shapeCast S1x8x256 (select (hPast w)
    (select (cmpf .olt (hRank g) (broadcast S8x256 (Scalar.ofBits .f32 0x40400000#32 : F .f32)))
      (broadcast S8x256 (Scalar.ofBits .f32 0x00000000#32 : F .f32)) (broadcast S8x256 (Named.named κ "mask" 0xF149F2CA#32 : F .f32)))
    (broadcast S8x256 (Named.named κ "mask" 0xF149F2CA#32 : F .f32))) shapeCasts_S8x256_S1x8x256

/-- The accumulator divided by the running sum. -/
def hQuot (a : Vec F S64x256 .f32) (l : Vec F S1x256 .f32) : FVec F S64x256 .f32 :=
  divf a (broadcastTo S64x256 l broadcasts_S1x256_S64x256)

end Expr

/-! ## Small words and the named mask -/

theorem toInt_small (n : ℕ) (h : n < 256) : (BitVec.ofNat 32 n).toInt = (n : ℤ) := by
  rw [BitVec.toInt_eq_toNat_of_lt] <;> simp [BitVec.toNat_ofNat] <;> omega

theorem select_sle {α : Type} (a b : ℕ) (ha : a < 256) (hb : b < 256) (x y : α) :
    Scalar.select (IntOp.cmpi .sle (BitVec.ofNat 32 a) (BitVec.ofNat 32 b)) x y = if a ≤ b then x else y := by
  by_cases h : a ≤ b <;> simp [Scalar.select, IntOp.cmpi, BitVec.sle, toInt_small a ha, toInt_small b hb, h]

theorem select_slt {α : Type} (a b : ℕ) (ha : a < 256) (hb : b < 256) (x y : α) :
    Scalar.select (IntOp.cmpi .slt (BitVec.ofNat 32 a) (BitVec.ofNat 32 b)) x y = if a < b then x else y := by
  by_cases h : a < b <;> simp [Scalar.select, IntOp.cmpi, BitVec.slt, toInt_small a ha, toInt_small b hb, h]

theorem select_sgt {α : Type} (a b : ℕ) (ha : a < 256) (hb : b < 256) (x y : α) :
    Scalar.select (IntOp.cmpi .sgt (BitVec.ofNat 32 a) (BitVec.ofNat 32 b)) x y = if b < a then x else y := by
  by_cases h : b < a <;> simp [Scalar.select, IntOp.cmpi, BitVec.slt, toInt_small a ha, toInt_small b hb, h]

/-- The constant −∞ reads as the least extended real. -/
theorem ofBits_bot : Ideal.ofBits .f32 0xFF800000#32 = (⊥ : EReal) := by simp [Ideal.ofBits, Ideal.ieee]

/-- The constant 3.0 reads as three. -/
theorem ofBits_three : Ideal.ofBits .f32 0x40400000#32 = (3 : EReal) := by
  rw [show (3 : EReal) = ((3 : ℝ) : EReal) by norm_cast]
  simp [Ideal.ofBits, Ideal.ieee, -EReal.coe_mul]; norm_num

/-- The mask reads as −∞. -/
theorem mask_eq : (Named.named κ "mask" 0xF149F2CA#32 : Ideal .f32) = (⊥ : EReal) := rfl

/-! ## The expressions at an index, at the extended reals -/

theorem hScore_apply (kb qb : Vec Ideal S256x64 .bf16) (a q : Fin 256) :
    hScore kb qb (ix2 a q) = ∑ d : Fin 64, kb (ix2 a d) * qb (ix2 q d) := by
  pointwise [hScore]

theorem hBiased_apply (kb qb : Vec Ideal S256x64 .bf16) (b : Vec Ideal S1x1x256 .f32) (a q : Fin 256) :
    hBiased kb qb b (ix2 a q) = (∑ d : Fin 64, kb (ix2 a d) * qb (ix2 q d)) + b (ix3 0 0 q) := by
  pointwise [hBiased, hScore]

theorem hColMax_apply (s : FVec Ideal S256x256 .f32) (q : Fin 256) :
    hColMax s (ix2 0 q) = Finset.univ.fold max ⊥ fun a : Fin 256 => s (ix2 a q) := by
  pointwise [hColMax]
  rw [ofBits_bot]

theorem hColSum_apply (s : FVec Ideal S256x256 .f32) (q : Fin 256) :
    hColSum s (ix2 0 q) = ∑ a : Fin 256, s (ix2 a q) := by
  pointwise [hColSum]

theorem hExp_apply (s : FVec Ideal S256x256 .f32) (r : FVec Ideal S1x256 .f32) (a q : Fin 256) :
    hExp s r (ix2 a q) = Ideal.exp (s (ix2 a q) - r (ix2 0 q)) := by
  pointwise [hExp]

theorem hMax_apply (s : FVec Ideal S256x256 .f32) (m : Vec Ideal S1x256 .f32) (q : Fin 256) :
    hMax s m (ix2 0 q) = max (m (ix2 0 q)) (Finset.univ.fold max ⊥ fun a : Fin 256 => s (ix2 a q)) := by
  pointwise [hMax, hColMax]
  rw [ofBits_bot]

theorem hAlpha_apply (s : FVec Ideal S256x256 .f32) (m : Vec Ideal S1x256 .f32) (q : Fin 256) :
    hAlpha s m (ix2 0 q) = Ideal.exp (m (ix2 0 q) - hMax s m (ix2 0 q)) := by
  pointwise [hAlpha]

theorem hSum_apply (s : FVec Ideal S256x256 .f32) (m l : Vec Ideal S1x256 .f32) (q : Fin 256) :
    hSum s m l (ix2 0 q) = hAlpha s m (ix2 0 q) * l (ix2 0 q) + ∑ a : Fin 256, Ideal.exp (s (ix2 a q) - hMax s m (ix2 0 q)) := by
  pointwise [hSum, hColSum, hExp]

theorem hPv_apply (vb : Vec Ideal S1x64x256 .bf16) (p : Vec Ideal S1x256x256 .bf16) (d : Fin 64) (q : Fin 256) :
    hPv vb p (ix2 d q) = ∑ a : Fin 256, vb (ix3 0 d a) * p (ix3 0 a q) := by
  pointwise [hPv]

theorem hStore_apply (p : FVec Ideal S256x256 .f32) (a q : Fin 256) : hStore p (ix3 0 a q) = p (ix2 a q) := by
  pointwise [hStore]

theorem hAcc_apply (a : Vec Ideal S64x256 .f32) (al : Vec Ideal S1x256 .f32) (pv : FVec Ideal S64x256 .f32) (d : Fin 64) (q : Fin 256) :
    hAcc a al pv (ix2 d q) = a (ix2 d q) * al (ix2 0 q) + pv (ix2 d q) := by
  pointwise [hAcc]

theorem hQuot_apply (a : Vec Ideal S64x256 .f32) (l : Vec Ideal S1x256 .f32) (d : Fin 64) (q : Fin 256) :
    hQuot a l (ix2 d q) = Ideal.div (a (ix2 d q)) (l (ix2 0 q)) := by
  pointwise [hQuot]

theorem hDiag_apply (kb qb : Vec Ideal S256x64 .bf16) (a q : Fin 256) :
    hDiag kb qb (ix2 a q) = if a ≤ q then ∑ d : Fin 64, kb (ix2 a d) * qb (ix2 q d) else ⊥ := by
  pointwise [hDiag, hScore]
  rw [select_sle _ _ a.isLt q.isLt, mask_eq]
  rfl

theorem hGate_apply (j : Fin 8) (km : Vec Ideal S8x1x64 .f32) (qb : Vec Ideal S256x64 .bf16) (n : Fin 8) (q : Fin 256) :
    hGate (BitVec.ofNat 32 j.val) km qb (ix2 n q) = if n < j then ∑ d : Fin 64, km (ix3 n 0 d) * qb (ix2 q d) else ⊥ := by
  pointwise [hGate, hPast]
  rw [select_slt _ _ (by omega) (by omega), ofBits_bot]
  rfl

theorem hAhead_apply (g : FVec Ideal S8x256 .f32) (m : Fin 8) (hs : S8x256.Slices ![m.val, 0] S1x256) (n : Fin 8) (q : Fin 256) :
    hAhead g ![m.val, 0] hs (BitVec.ofNat 32 m.val) (ix2 n q)
      = if g (ix2 n q) < g (ix2 m q) ∨ (g (ix2 m q) = g (ix2 n q) ∧ m < n) then 1 else 0 := by
  pointwise [hAhead]
  rw [select_sgt _ _ (by omega) (by omega)]
  by_cases h1 : g (ix2 n q) < g (ix2 m q) <;> by_cases h2 : g (ix2 m q) = g (ix2 n q) <;> by_cases h3 : m.val < n.val <;>
    simp [h1, h2, h3, Fin.lt_def]

theorem hBias_apply (j : Fin 8) (g : FVec Ideal S8x256 .f32) (n : Fin 8) (q : Fin 256) :
    hBias (BitVec.ofNat 32 j.val) g (ix3 0 n q)
      = if n < j ∧ hRank g (ix2 n q) < 3 then 0 else ⊥ := by
  pointwise [hBias, hPast]
  rw [select_slt _ _ (by omega) (by omega), mask_eq, ofBits_three]
  by_cases h1 : n.val < j.val <;> simp [h1, Fin.lt_def]

end Cert.KernelIdeal.Att

end
-- ==== Proof.Att.Pieces.lean ====
/-
  Eight stores that tile a scratch buffer — one row, one slab or one band per head — read back at an index; and a load of a
  window read at an index.
-/
module

public import proofs.«01_k».proof.Proof.Att.Head
public import Idealize.ShloMosaic.Lib.WritesUnit
public import Idealize.ShloMosaic.Lib.VecWindow

@[expose] public section

set_option maxRecDepth 16384

noncomputable section

namespace Cert.KernelIdeal.Att

open Idealize.ShloMosaic Cert.KernelIdeal.Gen

variable {κ : Kind} {sp : Space} {e : EltTy} {Val : EltTy → Type}

/-- A load of a window, at an index of the window, reads the buffer at the index plus the offset. -/
theorem readAt_at {s : Shape} (v : View sig κ sp s e) (f : v.ty.Contents Val) {off size : Fin s.rank → ℕ}
    (inb : ∀ a, off a + size a ≤ s.size a) (x : (Rect.unit off size inb).shape.Idx) (y : s.Idx)
    (hy : ∀ a, (y a).val = off a + (x a).val) :
    v.readAt Val (Rect.unit off size inb).toLoadRect f x = v.read Val f y := by
  rw [View.readAt_unit v f inb rfl inb]
  refine congrArg (v.read Val f) (funext fun a => Fin.ext ?_)
  show off a + 1 * (x a).val = (y a).val
  rw [hy a, Nat.one_mul]

/-- A statement for three axes, from each. -/
theorem forall_fin_three {P : Fin 3 → Prop} (h : P 0 ∧ P 1 ∧ P 2) : ∀ a, P a := by
  intro a; fin_cases a
  · exact h.1
  · exact h.2.1
  · exact h.2.2

/-- Eight one-row stores into an 8-row buffer. -/
theorem read_rows (v : View sig κ sp S8x256 e) (f : v.ty.Contents Val)
    {b0 : ∀ a, (![0, 0] : Fin 2 → ℕ) a + S1x256.size a ≤ S8x256.size a} {b1 : ∀ a, (![1, 0] : Fin 2 → ℕ) a + S1x256.size a ≤ S8x256.size a}
    {b2 : ∀ a, (![2, 0] : Fin 2 → ℕ) a + S1x256.size a ≤ S8x256.size a} {b3 : ∀ a, (![3, 0] : Fin 2 → ℕ) a + S1x256.size a ≤ S8x256.size a}
    {b4 : ∀ a, (![4, 0] : Fin 2 → ℕ) a + S1x256.size a ≤ S8x256.size a} {b5 : ∀ a, (![5, 0] : Fin 2 → ℕ) a + S1x256.size a ≤ S8x256.size a}
    {b6 : ∀ a, (![6, 0] : Fin 2 → ℕ) a + S1x256.size a ≤ S8x256.size a} {b7 : ∀ a, (![7, 0] : Fin 2 → ℕ) a + S1x256.size a ≤ S8x256.size a}
    (w0 w1 w2 w3 w4 w5 w6 w7 : S1x256.Idx → Val e) (T : Fin 8 → Fin 256 → Val e) (q : Fin 256)
    (h0 : w0 (ix2 0 q) = T 0 q) (h1 : w1 (ix2 0 q) = T 1 q) (h2 : w2 (ix2 0 q) = T 2 q) (h3 : w3 (ix2 0 q) = T 3 q)
    (h4 : w4 (ix2 0 q) = T 4 q) (h5 : w5 (ix2 0 q) = T 5 q) (h6 : w6 (ix2 0 q) = T 6 q) (h7 : w7 (ix2 0 q) = T 7 q) (h : Fin 8) :
    v.read Val (v.writes Val f [⟨Rect.unit ![7, 0] S1x256.size b7, w7⟩, ⟨Rect.unit ![6, 0] S1x256.size b6, w6⟩,
      ⟨Rect.unit ![5, 0] S1x256.size b5, w5⟩, ⟨Rect.unit ![4, 0] S1x256.size b4, w4⟩, ⟨Rect.unit ![3, 0] S1x256.size b3, w3⟩,
      ⟨Rect.unit ![2, 0] S1x256.size b2, w2⟩, ⟨Rect.unit ![1, 0] S1x256.size b1, w1⟩, ⟨Rect.unit ![0, 0] S1x256.size b0, w0⟩]) (ix2 h q) = T h q := by
  fin_cases h <;>
  repeat (first
    | exact (View.read_writes_cons_unit_of_mem v f _ _ _ _ (ix2 0 q) rfl (Fin.forall_fin_two.mpr ⟨rfl, (Nat.zero_add _).symm⟩)).trans (by assumption)
    | refine (View.read_writes_cons_unit_of_not_mem v f _ _ _ _ rfl 0 (by first | exact Or.inl (Nat.le_of_ble_eq_true rfl) | exact Or.inr (Nat.le_of_ble_eq_true rfl))).trans ?_)

/-- Eight slab stores into a stack of eight. -/
theorem read_slabs {n : ℕ} (v : View sig κ sp ⟨3, ![8, n, 256]⟩ e) (f : v.ty.Contents Val)
    {b0 : ∀ a, (![0, 0, 0] : Fin 3 → ℕ) a + (⟨3, ![1, n, 256]⟩ : Shape).size a ≤ (⟨3, ![8, n, 256]⟩ : Shape).size a}
    {b1 : ∀ a, (![1, 0, 0] : Fin 3 → ℕ) a + (⟨3, ![1, n, 256]⟩ : Shape).size a ≤ (⟨3, ![8, n, 256]⟩ : Shape).size a}
    {b2 : ∀ a, (![2, 0, 0] : Fin 3 → ℕ) a + (⟨3, ![1, n, 256]⟩ : Shape).size a ≤ (⟨3, ![8, n, 256]⟩ : Shape).size a}
    {b3 : ∀ a, (![3, 0, 0] : Fin 3 → ℕ) a + (⟨3, ![1, n, 256]⟩ : Shape).size a ≤ (⟨3, ![8, n, 256]⟩ : Shape).size a}
    {b4 : ∀ a, (![4, 0, 0] : Fin 3 → ℕ) a + (⟨3, ![1, n, 256]⟩ : Shape).size a ≤ (⟨3, ![8, n, 256]⟩ : Shape).size a}
    {b5 : ∀ a, (![5, 0, 0] : Fin 3 → ℕ) a + (⟨3, ![1, n, 256]⟩ : Shape).size a ≤ (⟨3, ![8, n, 256]⟩ : Shape).size a}
    {b6 : ∀ a, (![6, 0, 0] : Fin 3 → ℕ) a + (⟨3, ![1, n, 256]⟩ : Shape).size a ≤ (⟨3, ![8, n, 256]⟩ : Shape).size a}
    {b7 : ∀ a, (![7, 0, 0] : Fin 3 → ℕ) a + (⟨3, ![1, n, 256]⟩ : Shape).size a ≤ (⟨3, ![8, n, 256]⟩ : Shape).size a}
    (w0 w1 w2 w3 w4 w5 w6 w7 : (⟨3, ![1, n, 256]⟩ : Shape).Idx → Val e) (T : Fin 8 → Fin n → Fin 256 → Val e) (r : Fin n) (q : Fin 256)
    (h0 : w0 (ix3 0 r q) = T 0 r q) (h1 : w1 (ix3 0 r q) = T 1 r q) (h2 : w2 (ix3 0 r q) = T 2 r q) (h3 : w3 (ix3 0 r q) = T 3 r q)
    (h4 : w4 (ix3 0 r q) = T 4 r q) (h5 : w5 (ix3 0 r q) = T 5 r q) (h6 : w6 (ix3 0 r q) = T 6 r q) (h7 : w7 (ix3 0 r q) = T 7 r q)
    (h : Fin 8) :
    v.read Val (v.writes Val f [⟨Rect.unit ![7, 0, 0] (⟨3, ![1, n, 256]⟩ : Shape).size b7, w7⟩, ⟨Rect.unit ![6, 0, 0] (⟨3, ![1, n, 256]⟩ : Shape).size b6, w6⟩,
      ⟨Rect.unit ![5, 0, 0] (⟨3, ![1, n, 256]⟩ : Shape).size b5, w5⟩, ⟨Rect.unit ![4, 0, 0] (⟨3, ![1, n, 256]⟩ : Shape).size b4, w4⟩,
      ⟨Rect.unit ![3, 0, 0] (⟨3, ![1, n, 256]⟩ : Shape).size b3, w3⟩, ⟨Rect.unit ![2, 0, 0] (⟨3, ![1, n, 256]⟩ : Shape).size b2, w2⟩,
      ⟨Rect.unit ![1, 0, 0] (⟨3, ![1, n, 256]⟩ : Shape).size b1, w1⟩, ⟨Rect.unit ![0, 0, 0] (⟨3, ![1, n, 256]⟩ : Shape).size b0, w0⟩]) (ix3 h r q) = T h r q := by
  fin_cases h <;>
  repeat (first
    | exact (View.read_writes_cons_unit_of_mem v f _ _ _ _ (ix3 0 r q) rfl (forall_fin_three ⟨rfl, (Nat.zero_add _).symm, (Nat.zero_add _).symm⟩)).trans (by assumption)
    | refine (View.read_writes_cons_unit_of_not_mem v f _ _ _ _ rfl 0 (by first | exact Or.inl (Nat.le_of_ble_eq_true rfl) | exact Or.inr (Nat.le_of_ble_eq_true rfl))).trans ?_)

/-- Row `d` of head `h`'s band of 64 rows. -/
def hd (h : Fin 8) (d : Fin 64) : Fin 512 := ⟨h.val * 64 + d.val, by omega⟩

/-- A row of one head's band is outside another's. -/
theorem band_out (h : Fin 8) (d : Fin 64) (q : Fin 256) (o : ℕ) (ho : (h.val + 1) * 64 ≤ o ∨ o + 64 ≤ h.val * 64) :
    ((ix2 (hd h d) q : S512x256.Idx) 0).val < o ∨ o + 64 ≤ ((ix2 (hd h d) q : S512x256.Idx) 0).val := by
  have e : ((ix2 (hd h d) q : S512x256.Idx) 0).val = h.val * 64 + d.val := rfl
  rw [e]
  omega

/-- Eight stores of 64-row bands. -/
theorem read_bands (v : View sig κ sp S512x256 e) (f : v.ty.Contents Val)
    {b0 : ∀ a, (![0, 0] : Fin 2 → ℕ) a + S64x256.size a ≤ S512x256.size a} {b1 : ∀ a, (![64, 0] : Fin 2 → ℕ) a + S64x256.size a ≤ S512x256.size a}
    {b2 : ∀ a, (![128, 0] : Fin 2 → ℕ) a + S64x256.size a ≤ S512x256.size a} {b3 : ∀ a, (![192, 0] : Fin 2 → ℕ) a + S64x256.size a ≤ S512x256.size a}
    {b4 : ∀ a, (![256, 0] : Fin 2 → ℕ) a + S64x256.size a ≤ S512x256.size a} {b5 : ∀ a, (![320, 0] : Fin 2 → ℕ) a + S64x256.size a ≤ S512x256.size a}
    {b6 : ∀ a, (![384, 0] : Fin 2 → ℕ) a + S64x256.size a ≤ S512x256.size a} {b7 : ∀ a, (![448, 0] : Fin 2 → ℕ) a + S64x256.size a ≤ S512x256.size a}
    (w0 w1 w2 w3 w4 w5 w6 w7 : S64x256.Idx → Val e) (T : Fin 8 → Fin 64 → Fin 256 → Val e) (d : Fin 64) (q : Fin 256)
    (h0 : w0 (ix2 d q) = T 0 d q) (h1 : w1 (ix2 d q) = T 1 d q) (h2 : w2 (ix2 d q) = T 2 d q) (h3 : w3 (ix2 d q) = T 3 d q)
    (h4 : w4 (ix2 d q) = T 4 d q) (h5 : w5 (ix2 d q) = T 5 d q) (h6 : w6 (ix2 d q) = T 6 d q) (h7 : w7 (ix2 d q) = T 7 d q) (h : Fin 8) :
    v.read Val (v.writes Val f [⟨Rect.unit ![448, 0] S64x256.size b7, w7⟩, ⟨Rect.unit ![384, 0] S64x256.size b6, w6⟩,
      ⟨Rect.unit ![320, 0] S64x256.size b5, w5⟩, ⟨Rect.unit ![256, 0] S64x256.size b4, w4⟩, ⟨Rect.unit ![192, 0] S64x256.size b3, w3⟩,
      ⟨Rect.unit ![128, 0] S64x256.size b2, w2⟩, ⟨Rect.unit ![64, 0] S64x256.size b1, w1⟩, ⟨Rect.unit ![0, 0] S64x256.size b0, w0⟩])
      (ix2 (hd h d) q) = T h d q := by
  have hd0 := d.isLt
  fin_cases h <;>
  repeat (first
    | exact (View.read_writes_cons_unit_of_mem v f _ _ _ _ (ix2 d q) rfl (Fin.forall_fin_two.mpr ⟨rfl, (Nat.zero_add _).symm⟩)).trans (by assumption)
    | refine (View.read_writes_cons_unit_of_not_mem v f _ _ _ _ rfl 0 (band_out _ d q _ (by first | exact Or.inl (Nat.le_of_ble_eq_true rfl) | exact Or.inr (Nat.le_of_ble_eq_true rfl)))).trans ?_)

end Cert.KernelIdeal.Att

end
-- ==== Proof.Att.Trip.lean ====
/-
  One trip of the attention kernel's loop over earlier key blocks: what the running maximum, the running sum and the
  accumulator read after it, entry by entry, from what they read before and from the blocks loaded.
-/
module

public import proofs.«01_k».proof.Proof.Att.Pieces
public import proofs.«01_k».proof.Proof.Gen.KernelIdeal.Loops

@[expose] public section

set_option maxRecDepth 16384

noncomputable section

namespace Cert.KernelIdeal.Att

open Idealize.ShloMosaic Cert.KernelIdeal.Gen

/-! ## One block's step, on arrays of extended reals -/

/-- Row `a` of key block `n`. -/
def row (n : Fin 8) (a : Fin 256) : Fin 2048 := ⟨n.val * 256 + a.val, by omega⟩

/-- The score of key `a` of block `n` against query `q` of the tile, in head `h`. -/
def dotKQ (K : S2048x512.Idx → EReal) (Q : S256x512.Idx → EReal) (h n : Fin 8) (a q : Fin 256) : EReal :=
  ∑ d : Fin 64, K (ix2 (row n a) (hd h d)) * Q (ix2 q (hd h d))

/-- The score with the bias of the query for the block. -/
def sc (K : S2048x512.Idx → EReal) (Q : S256x512.Idx → EReal) (B : S8x8x256.Idx → EReal) (h n : Fin 8) (a q : Fin 256) : EReal :=
  dotKQ K Q h n a q + B (ix3 h n q)

/-- The running maximum after a block of scores. -/
def stepMax (s : Fin 256 → EReal) (m : EReal) : EReal := max m (Finset.univ.fold max ⊥ s)

/-- The running sum after a block of scores. -/
def stepSum (s : Fin 256 → EReal) (m l : EReal) : EReal :=
  Ideal.exp (m - stepMax s m) * l + ∑ a, Ideal.exp (s a - stepMax s m)

/-- An accumulator entry after a block of scores and values. -/
def stepAcc (s v : Fin 256 → EReal) (m x : EReal) : EReal :=
  x * Ideal.exp (m - stepMax s m) + ∑ a, v a * Ideal.exp (s a - stepMax s m)

/-! ## Stored forms -/

theorem row_cast (w : FVec Ideal S1x256 .f32) (h : S1x256.ShapeCasts S1x256) (q : Fin 256) : shapeCast S1x256 w h (ix2 0 q) = w (ix2 0 q) := by
  pointwise []

theorem band_cast (w : FVec Ideal S64x256 .f32) (h : S64x256.ShapeCasts S64x256) (d : Fin 64) (q : Fin 256) :
    shapeCast S64x256 w h (ix2 d q) = w (ix2 d q) := by
  pointwise []

theorem slab_cast (w : FVec Ideal S256x256 .bf16) (h : S256x256.ShapeCasts S1x256x256) (a q : Fin 256) :
    shapeCast S1x256x256 w h (ix3 0 a q) = w (ix2 a q) := by
  pointwise []

/-! ## Loads -/

section Loads
variable {κ : Kind} {sp : Space} {e : EltTy} {Val : EltTy → Type}

theorem load_q (v : View sig κ sp S256x512 e) (f : v.ty.Contents Val) (h : Fin 8) {o : Fin 2 → ℕ} (eo : o = ![0, h.val * 64])
    (inb : ∀ a, o a + S256x64.size a ≤ S256x512.size a) (q : Fin 256) (d : Fin 64) :
    v.readAt Val (Rect.unit (s := S256x512) o S256x64.size inb).toLoadRect f (ix2 q d) = v.read Val f (ix2 q (hd h d)) := by
  subst eo
  exact readAt_at v f inb (ix2 q d) (ix2 q (hd h d)) (Fin.forall_fin_two.mpr ⟨(Nat.zero_add _).symm, rfl⟩)

theorem load_k (v : View sig κ sp S2048x512 e) (f : v.ty.Contents Val) (h n : Fin 8) {o : Fin 2 → ℕ} (eo : o = ![n.val * 256, h.val * 64])
    (inb : ∀ a, o a + S256x64.size a ≤ S2048x512.size a) (a : Fin 256) (d : Fin 64) :
    v.readAt Val (Rect.unit (s := S2048x512) o S256x64.size inb).toLoadRect f (ix2 a d) = v.read Val f (ix2 (row n a) (hd h d)) := by
  subst eo
  exact readAt_at v f inb (ix2 a d) (ix2 (row n a) (hd h d)) (Fin.forall_fin_two.mpr ⟨rfl, rfl⟩)

theorem load_v (v : View sig κ sp S8x512x256 e) (f : v.ty.Contents Val) (h n : Fin 8) {o : Fin 3 → ℕ} (eo : o = ![n.val, h.val * 64, 0])
    (inb : ∀ a, o a + S1x64x256.size a ≤ S8x512x256.size a) (d : Fin 64) (a : Fin 256) :
    v.readAt Val (Rect.unit (s := S8x512x256) o S1x64x256.size inb).toLoadRect f (ix3 0 d a) = v.read Val f (ix3 n (hd h d) a) := by
  subst eo
  exact readAt_at v f inb (ix3 0 d a) (ix3 n (hd h d) a) (forall_fin_three ⟨rfl, rfl, (Nat.zero_add _).symm⟩)

theorem load_b (v : View sig κ sp S8x8x256 e) (f : v.ty.Contents Val) (h n : Fin 8) {o : Fin 3 → ℕ} (eo : o = ![h.val, n.val, 0])
    (inb : ∀ a, o a + S1x1x256.size a ≤ S8x8x256.size a) (q : Fin 256) :
    v.readAt Val (Rect.unit (s := S8x8x256) o S1x1x256.size inb).toLoadRect f (ix3 0 0 q) = v.read Val f (ix3 h n q) := by
  subst eo
  exact readAt_at v f inb (ix3 0 0 q) (ix3 h n q) (forall_fin_three ⟨rfl, rfl, (Nat.zero_add _).symm⟩)

theorem load_row (v : View sig κ sp S8x256 e) (f : v.ty.Contents Val) (h : Fin 8) {o : Fin 2 → ℕ} (eo : o = ![h.val, 0])
    (inb : ∀ a, o a + S1x256.size a ≤ S8x256.size a) (q : Fin 256) :
    v.readAt Val (Rect.unit (s := S8x256) o S1x256.size inb).toLoadRect f (ix2 0 q) = v.read Val f (ix2 h q) := by
  subst eo
  exact readAt_at v f inb (ix2 0 q) (ix2 h q) (Fin.forall_fin_two.mpr ⟨rfl, (Nat.zero_add _).symm⟩)

theorem load_slab (v : View sig κ sp S8x256x256 e) (f : v.ty.Contents Val) (h : Fin 8) {o : Fin 3 → ℕ} (eo : o = ![h.val, 0, 0])
    (inb : ∀ a, o a + S1x256x256.size a ≤ S8x256x256.size a) (a q : Fin 256) :
    v.readAt Val (Rect.unit (s := S8x256x256) o S1x256x256.size inb).toLoadRect f (ix3 0 a q) = v.read Val f (ix3 h a q) := by
  subst eo
  exact readAt_at v f inb (ix3 0 a q) (ix3 h a q) (forall_fin_three ⟨rfl, (Nat.zero_add _).symm, (Nat.zero_add _).symm⟩)

theorem load_band (v : View sig κ sp S512x256 e) (f : v.ty.Contents Val) (h : Fin 8) {o : Fin 2 → ℕ} (eo : o = ![h.val * 64, 0])
    (inb : ∀ a, o a + S64x256.size a ≤ S512x256.size a) (d : Fin 64) (q : Fin 256) :
    v.readAt Val (Rect.unit (s := S512x256) o S64x256.size inb).toLoadRect f (ix2 d q) = v.read Val f (ix2 (hd h d) q) := by
  subst eo
  exact readAt_at v f inb (ix2 d q) (ix2 (hd h d) q) (Fin.forall_fin_two.mpr ⟨rfl, (Nat.zero_add _).symm⟩)

end Loads

/-! ## The expressions, from what their arguments read -/

theorem biased_at {h n : Fin 8} {K : S2048x512.Idx → EReal} {Q : S256x512.Idx → EReal} {B : S8x8x256.Idx → EReal}
    {kb qb : Vec Ideal S256x64 .bf16} {b : Vec Ideal S1x1x256 .f32} {q : Fin 256}
    (hk : ∀ a d, kb (ix2 a d) = K (ix2 (row n a) (hd h d))) (hq : ∀ d, qb (ix2 q d) = Q (ix2 q (hd h d)))
    (hb : b (ix3 0 0 q) = B (ix3 h n q)) (a : Fin 256) : hBiased kb qb b (ix2 a q) = sc K Q B h n a q := by
  rw [hBiased_apply, hb]
  exact congrArg (· + _) (Finset.sum_congr rfl fun d _ => by rw [hk, hq])

section Reads
variable {S : FVec Ideal S256x256 .f32} {M L : Vec Ideal S1x256 .f32} {q : Fin 256} {s : Fin 256 → EReal} {m l : EReal}

theorem max_at (hS : ∀ a, S (ix2 a q) = s a) (hM : M (ix2 0 q) = m) : hMax S M (ix2 0 q) = stepMax s m := by
  rw [hMax_apply, hM]
  simp only [hS]
  rfl

theorem alpha_at (hS : ∀ a, S (ix2 a q) = s a) (hM : M (ix2 0 q) = m) : hAlpha S M (ix2 0 q) = Ideal.exp (m - stepMax s m) := by
  rw [hAlpha_apply, max_at hS hM, hM]

theorem sum_at (hS : ∀ a, S (ix2 a q) = s a) (hM : M (ix2 0 q) = m) (hL : L (ix2 0 q) = l) : hSum S M L (ix2 0 q) = stepSum s m l := by
  rw [hSum_apply, alpha_at hS hM, max_at hS hM, hL]
  simp only [hS]
  rfl

theorem exp_at (hS : ∀ a, S (ix2 a q) = s a) (hM : M (ix2 0 q) = m) (a : Fin 256) :
    hStore (hExp S (hMax S M)) (ix3 0 a q) = Ideal.exp (s a - stepMax s m) := by
  rw [hStore_apply, hExp_apply, max_at hS hM, hS]

theorem acc_at {A : Vec Ideal S64x256 .f32} {al : Vec Ideal S1x256 .f32} {vb : Vec Ideal S1x64x256 .bf16} {p : Vec Ideal S1x256x256 .bf16}
    {d : Fin 64} {x : EReal} {v : Fin 256 → EReal} (hA : A (ix2 d q) = x) (hal : al (ix2 0 q) = Ideal.exp (m - stepMax s m))
    (hv : ∀ a, vb (ix3 0 d a) = v a) (hp : ∀ a, p (ix3 0 a q) = Ideal.exp (s a - stepMax s m)) :
    hAcc A al (hPv vb p) (ix2 d q) = stepAcc s v m x := by
  rw [hAcc_apply, hPv_apply, hA, hal]
  simp only [hv, hp]
  rfl

end Reads

/-! ## Offsets in the loop -/

/-- A loop trip's key block. -/
theorem trips_eq (i : grid0.Coords) : (k0_t1_loop i).trips = (i 1).val := by
  have h : ∀ j : Fin 8, Scf.trips (0#32) (Scalar.addi 0#32 (Scalar.muli (Scalar.divsi (Scalar.subi (BitVec.ofNat 32 j.val) 0#32) 1#32) 1#32)) (1#32) = j.val := by
    decide +kernel
  exact h (i 1)

/-- The key block of a trip. -/
def blk (i : grid0.Coords) (k : Fin (k0_t1_loop i).trips) : Fin 8 := ⟨k.val, lt_of_lt_of_le (lt_of_lt_of_eq k.isLt (trips_eq i)) (Nat.le_of_lt (i 1).isLt)⟩

theorem key_off : ∀ n : Fin 8, (Scalar.indexCast (Scalar.muli (Scf.iv 0#32 1#32 n.val) 256#32) : BitVec 32).toNat = n.val * 256 := by decide +kernel

theorem blk_off : ∀ n : Fin 8, (Scalar.indexCast (Scf.iv 0#32 1#32 n.val) : BitVec 32).toNat = n.val := by decide +kernel

theorem off_k (n : Fin 8) (c : ℕ) : (![(Scalar.indexCast (Scalar.muli (Scf.iv 0#32 1#32 n.val) 256#32) : BitVec 32).toNat, c] : Fin 2 → ℕ) = ![n.val * 256, c] := by
  rw [key_off]

theorem off_b (n : Fin 8) (c : ℕ) : (![c, (Scalar.indexCast (Scf.iv 0#32 1#32 n.val) : BitVec 32).toNat, 0] : Fin 3 → ℕ) = ![c, n.val, 0] := by
  rw [blk_off]

theorem off_v (n : Fin 8) (c : ℕ) : (![(Scalar.indexCast (Scf.iv 0#32 1#32 n.val) : BitVec 32).toNat, c, 0] : Fin 3 → ℕ) = ![n.val, c, 0] := by
  rw [blk_off]

/-! ## The trip -/

section Trip
variable (𝒱 : Variants) (c : Dev nD) (bd : Option 𝒱.V)  (i : grid0.Coords)  (arg2 : Memref sig .tc .vmem S256x512 .bf16) (harg2 : arg2.IsWhole) (arg3 : Memref sig .tc .vmem S2048x512 .bf16) (harg3 : arg3.IsWhole) (arg4 : Memref sig .tc .vmem S8x512x256 .bf16) (harg4 : arg4.IsWhole) (arg5 : Memref sig .tc .vmem S8x1x512 .f32) (harg5 : arg5.IsWhole) (arg6 : Memref sig .tc .vmem S256x512 .bf16) (harg6 : arg6.IsWhole) (arg7 : Memref sig .tc .vmem S8x8x256 .f32) (harg7 : arg7.IsWhole) (arg8 : Memref sig .tc .vmem S8x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256x256 .bf16) (harg11 : arg11.IsWhole) (arg12 : Memref sig .tc .vmem S512x256 .f32) (harg12 : arg12.IsWhole)
  (w : BitVec 32) (z : FVec Ideal S64x256 .bf16)
  (X_arg2 : BufTy.Contents (Elt Ideal) arg2.view.ty) (X_arg3 : BufTy.Contents (Elt Ideal) arg3.view.ty) (X_arg4 : BufTy.Contents (Elt Ideal) arg4.view.ty) (X_arg7 : BufTy.Contents (Elt Ideal) arg7.view.ty)  (k : Fin (k0_t1_loop i).trips)
  (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty)

/-- The trip's biased scores. -/
abbrev tripS (h : Fin 8) (q a : Fin 256) : EReal :=
  sc (arg3.view.read (Elt Ideal) X_arg3) (arg2.view.read (Elt Ideal) X_arg2) (arg7.view.read (Elt Ideal) X_arg7) h (blk i k) a q

/-- The stores of one trip. -/
abbrev tripAt := tripL_k0_t1 (F := Ideal) 𝒱 c bd i arg2 harg2 arg3 harg3 arg4 harg4 arg5 harg5 arg6 harg6 arg7 harg7 arg8 harg8 arg9 harg9 arg10 harg10 arg11 harg11 arg12 harg12 w z X_arg2 X_arg3 X_arg4 X_arg7 k f8 f9 f10 f11 f12

/-- The running maxima after the trip. -/
theorem trip_max (h : Fin 8) (q : Fin 256) :
    arg8.view.read (Elt Ideal) (arg8.view.writes (Elt Ideal) f8 (tripAt 𝒱 c bd i arg2 harg2 arg3 harg3 arg4 harg4 arg5 harg5 arg6 harg6 arg7 harg7 arg8 harg8 arg9 harg9 arg10 harg10 arg11 harg11 arg12 harg12 w z X_arg2 X_arg3 X_arg4 X_arg7 k f8 f9 f10 f11 f12).1) (ix2 h q) = stepMax (tripS i arg2 arg3 arg7 X_arg2 X_arg3 X_arg7 k h q) (arg8.view.read (Elt Ideal) f8 (ix2 h q)) := by
  unfold tripAt tripL_k0_t1 trip_k0_t1
  refine read_rows (Val := Elt Ideal) (e := .f32) _ _ _ _ _ _ _ _ _ _
    (fun h q => stepMax (tripS i arg2 arg3 arg7 X_arg2 X_arg3 X_arg7 k h q) (arg8.view.read (Elt Ideal) f8 (ix2 h q))) q ?_ ?_ ?_ ?_ ?_ ?_ ?_ ?_ h
  all_goals
    refine (row_cast _ _ q).trans (max_at (s := tripS i arg2 arg3 arg7 X_arg2 X_arg3 X_arg7 k _ q) (biased_at (fun a d => load_k _ _ _ _ ?_ _ a d) (fun d => load_q _ _ _ ?_ _ q d) (load_b _ _ _ _ ?_ _ q)) (load_row _ _ _ ?_ _ q))
    · exact off_k (blk i k) _
    · rfl
    · exact off_b (blk i k) _
    · rfl

/-- The running sums after the trip. -/
theorem trip_sum (h : Fin 8) (q : Fin 256) :
    arg9.view.read (Elt Ideal) (arg9.view.writes (Elt Ideal) f9 (tripAt 𝒱 c bd i arg2 harg2 arg3 harg3 arg4 harg4 arg5 harg5 arg6 harg6 arg7 harg7 arg8 harg8 arg9 harg9 arg10 harg10 arg11 harg11 arg12 harg12 w z X_arg2 X_arg3 X_arg4 X_arg7 k f8 f9 f10 f11 f12).2.1) (ix2 h q)
      = stepSum (tripS i arg2 arg3 arg7 X_arg2 X_arg3 X_arg7 k h q) (arg8.view.read (Elt Ideal) f8 (ix2 h q)) (arg9.view.read (Elt Ideal) f9 (ix2 h q)) := by
  unfold tripAt tripL_k0_t1 trip_k0_t1
  refine read_rows (Val := Elt Ideal) (e := .f32) _ _ _ _ _ _ _ _ _ _
    (fun h q => stepSum (tripS i arg2 arg3 arg7 X_arg2 X_arg3 X_arg7 k h q) (arg8.view.read (Elt Ideal) f8 (ix2 h q)) (arg9.view.read (Elt Ideal) f9 (ix2 h q))) q ?_ ?_ ?_ ?_ ?_ ?_ ?_ ?_ h
  all_goals
    refine (row_cast _ _ q).trans (sum_at (s := tripS i arg2 arg3 arg7 X_arg2 X_arg3 X_arg7 k _ q) (biased_at (fun a d => load_k _ _ _ _ ?_ _ a d) (fun d => load_q _ _ _ ?_ _ q d) (load_b _ _ _ _ ?_ _ q)) (load_row _ _ _ ?_ _ q) (load_row _ _ _ ?_ _ q))
    · exact off_k (blk i k) _
    · rfl
    · exact off_b (blk i k) _
    · rfl
    · rfl

/-- The rescaling factors the trip stores. -/
theorem trip_alpha (f : BufTy.Contents (Elt Ideal) arg10.view.ty) (h : Fin 8) (q : Fin 256) :
    arg10.view.read (Elt Ideal) (arg10.view.writes (Elt Ideal) f (trip_k0_t1.sl.HW_arg10_8 i arg2 arg3 arg7 arg8 X_arg2 X_arg3 X_arg7 k f8)) (ix2 h q)
      = Ideal.exp ((arg8.view.read (Elt Ideal) f8 (ix2 h q)) - stepMax (tripS i arg2 arg3 arg7 X_arg2 X_arg3 X_arg7 k h q) (arg8.view.read (Elt Ideal) f8 (ix2 h q))) := by
  unfold trip_k0_t1.sl.HW_arg10_8
  refine read_rows (Val := Elt Ideal) (e := .f32) _ _ _ _ _ _ _ _ _ _
    (fun h q => Ideal.exp ((arg8.view.read (Elt Ideal) f8 (ix2 h q)) - stepMax (tripS i arg2 arg3 arg7 X_arg2 X_arg3 X_arg7 k h q) (arg8.view.read (Elt Ideal) f8 (ix2 h q)))) q ?_ ?_ ?_ ?_ ?_ ?_ ?_ ?_ h
  all_goals
    refine (row_cast _ _ q).trans (alpha_at (s := tripS i arg2 arg3 arg7 X_arg2 X_arg3 X_arg7 k _ q) (biased_at (fun a d => load_k _ _ _ _ ?_ _ a d) (fun d => load_q _ _ _ ?_ _ q d) (load_b _ _ _ _ ?_ _ q)) (load_row _ _ _ ?_ _ q))
    · exact off_k (blk i k) _
    · rfl
    · exact off_b (blk i k) _
    · rfl

/-- The exponentials the trip stores. -/
theorem trip_exp (f : BufTy.Contents (Elt Ideal) arg11.view.ty) (h : Fin 8) (a q : Fin 256) :
    arg11.view.read (Elt Ideal) (arg11.view.writes (Elt Ideal) f (trip_k0_t1.sl.HW_arg11_8 i arg2 arg3 arg7 arg8 X_arg2 X_arg3 X_arg7 k f8)) (ix3 h a q)
      = Ideal.exp (tripS i arg2 arg3 arg7 X_arg2 X_arg3 X_arg7 k h q a - stepMax (tripS i arg2 arg3 arg7 X_arg2 X_arg3 X_arg7 k h q) (arg8.view.read (Elt Ideal) f8 (ix2 h q))) := by
  unfold trip_k0_t1.sl.HW_arg11_8
  refine read_slabs (Val := Elt Ideal) (e := .bf16) (n := 256) _ _ _ _ _ _ _ _ _ _
    (fun h a q => Ideal.exp (tripS i arg2 arg3 arg7 X_arg2 X_arg3 X_arg7 k h q a - stepMax (tripS i arg2 arg3 arg7 X_arg2 X_arg3 X_arg7 k h q) (arg8.view.read (Elt Ideal) f8 (ix2 h q)))) a q ?_ ?_ ?_ ?_ ?_ ?_ ?_ ?_ h
  all_goals
    refine exp_at (s := tripS i arg2 arg3 arg7 X_arg2 X_arg3 X_arg7 k _ q) (biased_at (fun a d => load_k _ _ _ _ ?_ _ a d) (fun d => load_q _ _ _ ?_ _ q d) (load_b _ _ _ _ ?_ _ q)) (load_row _ _ _ ?_ _ q) a
    · exact off_k (blk i k) _
    · rfl
    · exact off_b (blk i k) _
    · rfl

/-- The accumulator after the trip. -/
theorem trip_acc (h : Fin 8) (d : Fin 64) (q : Fin 256) :
    arg12.view.read (Elt Ideal) (arg12.view.writes (Elt Ideal) f12 (tripAt 𝒱 c bd i arg2 harg2 arg3 harg3 arg4 harg4 arg5 harg5 arg6 harg6 arg7 harg7 arg8 harg8 arg9 harg9 arg10 harg10 arg11 harg11 arg12 harg12 w z X_arg2 X_arg3 X_arg4 X_arg7 k f8 f9 f10 f11 f12).2.2.2.2) (ix2 (hd h d) q)
      = stepAcc (tripS i arg2 arg3 arg7 X_arg2 X_arg3 X_arg7 k h q) (fun a => arg4.view.read (Elt Ideal) X_arg4 (ix3 (blk i k) (hd h d) a)) (arg8.view.read (Elt Ideal) f8 (ix2 h q)) (arg12.view.read (Elt Ideal) f12 (ix2 (hd h d) q)) := by
  unfold tripAt tripL_k0_t1 trip_k0_t1
  refine read_bands (Val := Elt Ideal) (e := .f32) _ _ _ _ _ _ _ _ _ _
    (fun h d q => stepAcc (tripS i arg2 arg3 arg7 X_arg2 X_arg3 X_arg7 k h q) (fun a => arg4.view.read (Elt Ideal) X_arg4 (ix3 (blk i k) (hd h d) a)) (arg8.view.read (Elt Ideal) f8 (ix2 h q)) (arg12.view.read (Elt Ideal) f12 (ix2 (hd h d) q)))
    d q ?_ ?_ ?_ ?_ ?_ ?_ ?_ ?_ h
  all_goals
    refine (band_cast _ _ d q).trans (acc_at (s := tripS i arg2 arg3 arg7 X_arg2 X_arg3 X_arg7 k _ q) (load_band _ _ _ ?_ _ d q)
      ((load_row _ _ _ ?_ _ q).trans (trip_alpha i arg2 arg3 arg7 arg8 arg10 X_arg2 X_arg3 X_arg7 k f8 _ _ q)) (fun a => load_v _ _ _ _ ?_ _ d a)
      (fun a => (load_slab _ _ _ ?_ _ a q).trans (trip_exp i arg2 arg3 arg7 arg8 arg11 X_arg2 X_arg3 X_arg7 k f8 _ _ a q)))
    · rfl
    · rfl
    · exact off_v (blk i k) _
    · rfl

end Trip

end Cert.KernelIdeal.Att

end
-- ==== Proof.Att.Loop.lean ====
/-
  The attention kernel's loop over the earlier key blocks: after any number of trips the running maximum, sum and accumulator
  read the recursions started at what they read on entry.
-/
module

public import proofs.«01_k».proof.Proof.Att.Trip

@[expose] public section

set_option maxRecDepth 16384

noncomputable section

namespace Cert.KernelIdeal.Att

open Idealize.ShloMosaic Cert.KernelIdeal.Gen

/-! ## The recursions -/

/-- The number of a key block, from a natural number. -/
def blkN (n : ℕ) : Fin 8 := ⟨n % 8, Nat.mod_lt _ (by decide)⟩

theorem blk_eq (i : grid0.Coords) (n : ℕ) (hn : n < (k0_t1_loop i).trips) : blk i ⟨n, hn⟩ = blkN n :=
  Fin.ext (Nat.mod_eq_of_lt (blk i ⟨n, hn⟩).isLt).symm

/-- The biased scores of every key block against a query. -/
def blockS (K : S2048x512.Idx → EReal) (Q : S256x512.Idx → EReal) (B : S8x8x256.Idx → EReal) (h : Fin 8) (q : Fin 256) (n : ℕ) (a : Fin 256) : EReal :=
  sc K Q B h (blkN n) a q

/-- The running maximum after `n` blocks. -/
def runMax (s : ℕ → Fin 256 → EReal) (m : EReal) : ℕ → EReal
  | 0 => m
  | n + 1 => stepMax (s n) (runMax s m n)

/-- The running sum after `n` blocks. -/
def runSum (s : ℕ → Fin 256 → EReal) (m l : EReal) : ℕ → EReal
  | 0 => l
  | n + 1 => stepSum (s n) (runMax s m n) (runSum s m l n)

/-- An accumulator entry after `n` blocks. -/
def runAcc (s v : ℕ → Fin 256 → EReal) (m x : EReal) : ℕ → EReal
  | 0 => x
  | n + 1 => stepAcc (s n) (v n) (runMax s m n) (runAcc s v m x n)

/-! ## The loop -/

section Loop
variable (𝒱 : Variants) (c : Dev nD) (bd : Option 𝒱.V)  (i : grid0.Coords)  (arg2 : Memref sig .tc .vmem S256x512 .bf16) (harg2 : arg2.IsWhole) (arg3 : Memref sig .tc .vmem S2048x512 .bf16) (harg3 : arg3.IsWhole) (arg4 : Memref sig .tc .vmem S8x512x256 .bf16) (harg4 : arg4.IsWhole) (arg5 : Memref sig .tc .vmem S8x1x512 .f32) (harg5 : arg5.IsWhole) (arg6 : Memref sig .tc .vmem S256x512 .bf16) (harg6 : arg6.IsWhole) (arg7 : Memref sig .tc .vmem S8x8x256 .f32) (harg7 : arg7.IsWhole) (arg8 : Memref sig .tc .vmem S8x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256x256 .bf16) (harg11 : arg11.IsWhole) (arg12 : Memref sig .tc .vmem S512x256 .f32) (harg12 : arg12.IsWhole)
  (w : BitVec 32) (z : FVec Ideal S64x256 .bf16)
  (X_arg2 : BufTy.Contents (Elt Ideal) arg2.view.ty) (X_arg3 : BufTy.Contents (Elt Ideal) arg3.view.ty) (X_arg4 : BufTy.Contents (Elt Ideal) arg4.view.ty) (X_arg7 : BufTy.Contents (Elt Ideal) arg7.view.ty)

  (G8 : BufTy.Contents (Elt Ideal) arg8.view.ty) (G9 : BufTy.Contents (Elt Ideal) arg9.view.ty) (G10 : BufTy.Contents (Elt Ideal) arg10.view.ty) (G11 : BufTy.Contents (Elt Ideal) arg11.view.ty) (G12 : BufTy.Contents (Elt Ideal) arg12.view.ty)

/-- The stores of the first `n` trips. -/
abbrev loopAt (n : ℕ) := pb_k0_t1 (F := Ideal) 𝒱 c bd i arg2 harg2 arg3 harg3 arg4 harg4 arg5 harg5 arg6 harg6 arg7 harg7 arg8 harg8 arg9 harg9 arg10 harg10 arg11 harg11 arg12 harg12 w z X_arg2 X_arg3 X_arg4 X_arg7 G8 G9 G10 G11 G12 n

theorem loop_max (h : Fin 8) (q : Fin 256) : ∀ n, n ≤ (k0_t1_loop i).trips →
    arg8.view.read (Elt Ideal) (arg8.view.writes (Elt Ideal) G8 (loopAt 𝒱 c bd i arg2 harg2 arg3 harg3 arg4 harg4 arg5 harg5 arg6 harg6 arg7 harg7 arg8 harg8 arg9 harg9 arg10 harg10 arg11 harg11 arg12 harg12 w z X_arg2 X_arg3 X_arg4 X_arg7 G8 G9 G10 G11 G12 n).1) (ix2 h q) = runMax (blockS (arg3.view.read (Elt Ideal) X_arg3) (arg2.view.read (Elt Ideal) X_arg2) (arg7.view.read (Elt Ideal) X_arg7) h q) (arg8.view.read (Elt Ideal) G8 (ix2 h q)) n
  | 0, _ => rfl
  | n + 1, hn => by
    have ih := loop_max h q n (Nat.le_of_lt hn)
    unfold loopAt
    rw [pb_k0_t1_succ (k := ⟨n, hn⟩), View.writes_append]
    refine (trip_max 𝒱 c bd i arg2 harg2 arg3 harg3 arg4 harg4 arg5 harg5 arg6 harg6 arg7 harg7 arg8 harg8 arg9 harg9 arg10 harg10 arg11 harg11 arg12 harg12 w z X_arg2 X_arg3 X_arg4 X_arg7 ⟨n, hn⟩ (arg8.view.writes (Elt Ideal) G8 (loopAt 𝒱 c bd i arg2 harg2 arg3 harg3 arg4 harg4 arg5 harg5 arg6 harg6 arg7 harg7 arg8 harg8 arg9 harg9 arg10 harg10 arg11 harg11 arg12 harg12 w z X_arg2 X_arg3 X_arg4 X_arg7 G8 G9 G10 G11 G12 n).1) (arg9.view.writes (Elt Ideal) G9 (loopAt 𝒱 c bd i arg2 harg2 arg3 harg3 arg4 harg4 arg5 harg5 arg6 harg6 arg7 harg7 arg8 harg8 arg9 harg9 arg10 harg10 arg11 harg11 arg12 harg12 w z X_arg2 X_arg3 X_arg4 X_arg7 G8 G9 G10 G11 G12 n).2.1) (arg10.view.writes (Elt Ideal) G10 (loopAt 𝒱 c bd i arg2 harg2 arg3 harg3 arg4 harg4 arg5 harg5 arg6 harg6 arg7 harg7 arg8 harg8 arg9 harg9 arg10 harg10 arg11 harg11 arg12 harg12 w z X_arg2 X_arg3 X_arg4 X_arg7 G8 G9 G10 G11 G12 n).2.2.1) (arg11.view.writes (Elt Ideal) G11 (loopAt 𝒱 c bd i arg2 harg2 arg3 harg3 arg4 harg4 arg5 harg5 arg6 harg6 arg7 harg7 arg8 harg8 arg9 harg9 arg10 harg10 arg11 harg11 arg12 harg12 w z X_arg2 X_arg3 X_arg4 X_arg7 G8 G9 G10 G11 G12 n).2.2.2.1) (arg12.view.writes (Elt Ideal) G12 (loopAt 𝒱 c bd i arg2 harg2 arg3 harg3 arg4 harg4 arg5 harg5 arg6 harg6 arg7 harg7 arg8 harg8 arg9 harg9 arg10 harg10 arg11 harg11 arg12 harg12 w z X_arg2 X_arg3 X_arg4 X_arg7 G8 G9 G10 G11 G12 n).2.2.2.2) h q).trans ?_
    rw [ih]
    unfold tripS
    rw [blk_eq]
    rfl

theorem loop_sum (h : Fin 8) (q : Fin 256) : ∀ n, n ≤ (k0_t1_loop i).trips →
    arg9.view.read (Elt Ideal) (arg9.view.writes (Elt Ideal) G9 (loopAt 𝒱 c bd i arg2 harg2 arg3 harg3 arg4 harg4 arg5 harg5 arg6 harg6 arg7 harg7 arg8 harg8 arg9 harg9 arg10 harg10 arg11 harg11 arg12 harg12 w z X_arg2 X_arg3 X_arg4 X_arg7 G8 G9 G10 G11 G12 n).2.1) (ix2 h q)
      = runSum (blockS (arg3.view.read (Elt Ideal) X_arg3) (arg2.view.read (Elt Ideal) X_arg2) (arg7.view.read (Elt Ideal) X_arg7) h q) (arg8.view.read (Elt Ideal) G8 (ix2 h q)) (arg9.view.read (Elt Ideal) G9 (ix2 h q)) n
  | 0, _ => rfl
  | n + 1, hn => by
    have ih := loop_sum h q n (Nat.le_of_lt hn)
    have im := loop_max 𝒱 c bd i arg2 harg2 arg3 harg3 arg4 harg4 arg5 harg5 arg6 harg6 arg7 harg7 arg8 harg8 arg9 harg9 arg10 harg10 arg11 harg11 arg12 harg12 w z X_arg2 X_arg3 X_arg4 X_arg7 G8 G9 G10 G11 G12 h q n (Nat.le_of_lt hn)
    unfold loopAt
    rw [pb_k0_t1_succ (k := ⟨n, hn⟩), View.writes_append]
    refine (trip_sum 𝒱 c bd i arg2 harg2 arg3 harg3 arg4 harg4 arg5 harg5 arg6 harg6 arg7 harg7 arg8 harg8 arg9 harg9 arg10 harg10 arg11 harg11 arg12 harg12 w z X_arg2 X_arg3 X_arg4 X_arg7 ⟨n, hn⟩ (arg8.view.writes (Elt Ideal) G8 (loopAt 𝒱 c bd i arg2 harg2 arg3 harg3 arg4 harg4 arg5 harg5 arg6 harg6 arg7 harg7 arg8 harg8 arg9 harg9 arg10 harg10 arg11 harg11 arg12 harg12 w z X_arg2 X_arg3 X_arg4 X_arg7 G8 G9 G10 G11 G12 n).1) (arg9.view.writes (Elt Ideal) G9 (loopAt 𝒱 c bd i arg2 harg2 arg3 harg3 arg4 harg4 arg5 harg5 arg6 harg6 arg7 harg7 arg8 harg8 arg9 harg9 arg10 harg10 arg11 harg11 arg12 harg12 w z X_arg2 X_arg3 X_arg4 X_arg7 G8 G9 G10 G11 G12 n).2.1) (arg10.view.writes (Elt Ideal) G10 (loopAt 𝒱 c bd i arg2 harg2 arg3 harg3 arg4 harg4 arg5 harg5 arg6 harg6 arg7 harg7 arg8 harg8 arg9 harg9 arg10 harg10 arg11 harg11 arg12 harg12 w z X_arg2 X_arg3 X_arg4 X_arg7 G8 G9 G10 G11 G12 n).2.2.1) (arg11.view.writes (Elt Ideal) G11 (loopAt 𝒱 c bd i arg2 harg2 arg3 harg3 arg4 harg4 arg5 harg5 arg6 harg6 arg7 harg7 arg8 harg8 arg9 harg9 arg10 harg10 arg11 harg11 arg12 harg12 w z X_arg2 X_arg3 X_arg4 X_arg7 G8 G9 G10 G11 G12 n).2.2.2.1) (arg12.view.writes (Elt Ideal) G12 (loopAt 𝒱 c bd i arg2 harg2 arg3 harg3 arg4 harg4 arg5 harg5 arg6 harg6 arg7 harg7 arg8 harg8 arg9 harg9 arg10 harg10 arg11 harg11 arg12 harg12 w z X_arg2 X_arg3 X_arg4 X_arg7 G8 G9 G10 G11 G12 n).2.2.2.2) h q).trans ?_
    rw [ih, im]
    unfold tripS
    rw [blk_eq]
    rfl

theorem loop_acc (h : Fin 8) (d : Fin 64) (q : Fin 256) : ∀ n, n ≤ (k0_t1_loop i).trips →
    arg12.view.read (Elt Ideal) (arg12.view.writes (Elt Ideal) G12 (loopAt 𝒱 c bd i arg2 harg2 arg3 harg3 arg4 harg4 arg5 harg5 arg6 harg6 arg7 harg7 arg8 harg8 arg9 harg9 arg10 harg10 arg11 harg11 arg12 harg12 w z X_arg2 X_arg3 X_arg4 X_arg7 G8 G9 G10 G11 G12 n).2.2.2.2) (ix2 (hd h d) q)
      = runAcc (blockS (arg3.view.read (Elt Ideal) X_arg3) (arg2.view.read (Elt Ideal) X_arg2) (arg7.view.read (Elt Ideal) X_arg7) h q) (fun n a => arg4.view.read (Elt Ideal) X_arg4 (ix3 (blkN n) (hd h d) a)) (arg8.view.read (Elt Ideal) G8 (ix2 h q)) (arg12.view.read (Elt Ideal) G12 (ix2 (hd h d) q)) n
  | 0, _ => rfl
  | n + 1, hn => by
    have ih := loop_acc h d q n (Nat.le_of_lt hn)
    have im := loop_max 𝒱 c bd i arg2 harg2 arg3 harg3 arg4 harg4 arg5 harg5 arg6 harg6 arg7 harg7 arg8 harg8 arg9 harg9 arg10 harg10 arg11 harg11 arg12 harg12 w z X_arg2 X_arg3 X_arg4 X_arg7 G8 G9 G10 G11 G12 h q n (Nat.le_of_lt hn)
    unfold loopAt
    rw [pb_k0_t1_succ (k := ⟨n, hn⟩), View.writes_append]
    refine (trip_acc 𝒱 c bd i arg2 harg2 arg3 harg3 arg4 harg4 arg5 harg5 arg6 harg6 arg7 harg7 arg8 harg8 arg9 harg9 arg10 harg10 arg11 harg11 arg12 harg12 w z X_arg2 X_arg3 X_arg4 X_arg7 ⟨n, hn⟩ (arg8.view.writes (Elt Ideal) G8 (loopAt 𝒱 c bd i arg2 harg2 arg3 harg3 arg4 harg4 arg5 harg5 arg6 harg6 arg7 harg7 arg8 harg8 arg9 harg9 arg10 harg10 arg11 harg11 arg12 harg12 w z X_arg2 X_arg3 X_arg4 X_arg7 G8 G9 G10 G11 G12 n).1) (arg9.view.writes (Elt Ideal) G9 (loopAt 𝒱 c bd i arg2 harg2 arg3 harg3 arg4 harg4 arg5 harg5 arg6 harg6 arg7 harg7 arg8 harg8 arg9 harg9 arg10 harg10 arg11 harg11 arg12 harg12 w z X_arg2 X_arg3 X_arg4 X_arg7 G8 G9 G10 G11 G12 n).2.1) (arg10.view.writes (Elt Ideal) G10 (loopAt 𝒱 c bd i arg2 harg2 arg3 harg3 arg4 harg4 arg5 harg5 arg6 harg6 arg7 harg7 arg8 harg8 arg9 harg9 arg10 harg10 arg11 harg11 arg12 harg12 w z X_arg2 X_arg3 X_arg4 X_arg7 G8 G9 G10 G11 G12 n).2.2.1) (arg11.view.writes (Elt Ideal) G11 (loopAt 𝒱 c bd i arg2 harg2 arg3 harg3 arg4 harg4 arg5 harg5 arg6 harg6 arg7 harg7 arg8 harg8 arg9 harg9 arg10 harg10 arg11 harg11 arg12 harg12 w z X_arg2 X_arg3 X_arg4 X_arg7 G8 G9 G10 G11 G12 n).2.2.2.1) (arg12.view.writes (Elt Ideal) G12 (loopAt 𝒱 c bd i arg2 harg2 arg3 harg3 arg4 harg4 arg5 harg5 arg6 harg6 arg7 harg7 arg8 harg8 arg9 harg9 arg10 harg10 arg11 harg11 arg12 harg12 w z X_arg2 X_arg3 X_arg4 X_arg7 G8 G9 G10 G11 G12 n).2.2.2.2) h d q).trans ?_
    rw [ih, im]
    unfold tripS
    rw [blk_eq]
    rfl

end Loop

end Cert.KernelIdeal.Att

end
-- ==== Proof.Att.Rank.lean ====
/-
  Ranks and a stable sort: the position a stable descending sort takes an entry from is the entry whose rank — the number of
  entries greater, or equal and earlier — is that position.
-/
module

public import Idealize.ShloMosaic.Lib.SortFacts
public import Idealize.ShloMosaic.Lib.SortPrefix
public import Idealize.ShloMosaic.Lib.ValueIdx

@[expose] public section

set_option maxRecDepth 16384

noncomputable section

namespace Cert.Att

open Idealize.ShloMosaic

/-- Entry `m` stands before entry `n`: it is greater, or equal and earlier. -/
def Ahead {N : ℕ} (g : Fin N → EReal) (m n : Fin N) : Prop := g n < g m ∨ (g m = g n ∧ m < n)

open Classical in
/-- The number of entries that stand before an entry. -/
def rankOf {N : ℕ} (g : Fin N → EReal) (n : Fin N) : ℕ := (Finset.univ.filter fun m => Ahead g m n).card

open Classical in
/-- The order of the entries, as a Boolean relation. -/
def aheadB {N : ℕ} (g : Fin N → EReal) (m n : Fin N) : Bool := decide (Ahead g m n)

open Classical in
theorem aheadB_iff {N : ℕ} (g : Fin N → EReal) (m n : Fin N) : aheadB g m n = true ↔ Ahead g m n := by
  unfold aheadB
  exact decide_eq_true_iff

open Classical in
theorem aheadB_total {N : ℕ} (g : Fin N → EReal) : StrictTotalBefore (aheadB g) where
  irrefl a := by
    rw [Bool.eq_false_iff, Ne, aheadB_iff]
    simp [Ahead]
  trans a b c hab hbc := by
    rw [aheadB_iff] at *
    unfold Ahead at *
    rcases hab with hab | ⟨e, l⟩ <;> rcases hbc with hbc | ⟨e', l'⟩
    · exact Or.inl (hbc.trans hab)
    · exact Or.inl (e' ▸ hab)
    · exact Or.inl (e ▸ hbc)
    · exact Or.inr ⟨e.trans e', l.trans l'⟩
  total a b hne := by
    rw [aheadB_iff, aheadB_iff]
    unfold Ahead
    rcases lt_trichotomy (g a) (g b) with h | h | h
    · exact Or.inr (Or.inl h)
    · rcases lt_or_gt_of_ne hne with l | l
      · exact Or.inl (Or.inr ⟨h, l⟩)
      · exact Or.inr (Or.inr ⟨h.symm, l⟩)
    · exact Or.inl (Or.inl h)

/-- Relations that agree on pairs whose first entry comes later in the list sort it alike: a stable sort breaks ties by
    the order of the list. -/
theorem stableSort_later {ι : Type} (R R' : ι → ι → Bool) (l : List ι) (hl : l.Pairwise fun a b => R b a = R' b a) :
    stableSort R l = stableSort R' l := by
  induction l with
  | nil => rfl
  | cons a l ih =>
    rw [List.pairwise_cons] at hl
    unfold stableSort
    rw [ih hl.2]
    exact insertBefore_congr R R' a _ fun b hb => hl.1 b ((perm_stableSort R' l).mem_iff.mp hb)

/-- A stable sort that compares the entries alone orders them by rank. -/
theorem sortedFrom_key {N : ℕ} (g : Fin N → EReal) (B : Fin N → Fin N → Bool) (hB : ∀ a b, B a b = true ↔ g b < g a) :
    sortedFrom B = sortedFrom (aheadB g) := by
  have e : sortPositions N B = sortPositions N (aheadB g) := by
    refine stableSort_later _ _ _ ((List.pairwise_lt_finRange N).imp fun {a b} hab => ?_)
    rw [Bool.eq_iff_iff, hB, aheadB_iff]
    unfold Ahead
    exact ⟨Or.inl, fun h => h.elim id fun h => absurd h.2 (not_lt.mpr hab.le)⟩
  funext k
  unfold sortedFrom
  rw [List.get_of_eq e]
  rfl

open Classical in
/-- The entry a sort puts at position `i` has rank `i`. -/
theorem rank_sortedFrom {N : ℕ} (g : Fin N → EReal) (i : Fin N) : rankOf g (sortedFrom (aheadB g) i) = i.val := by
  have hT := aheadB_total g
  have hno : ∀ a b : Fin N, a < b → aheadB g (sortedFrom (aheadB g) b) (sortedFrom (aheadB g) a) = false := fun a b hab =>
    sortedFrom_noInversion _ _ (fun a b h => hT.asymm a b h) (fun _ _ h => h) hT.negTrans a b hab
  have hinj := sortedFrom_injective (aheadB g)
  have e : (Finset.univ.filter fun m => Ahead g m (sortedFrom (aheadB g) i)) = (Finset.Iio i).image (sortedFrom (aheadB g)) := by
    ext m
    obtain ⟨k, rfl⟩ := sortedFrom_surjective (aheadB g) m
    rw [Finset.mem_filter, Finset.mem_image]
    constructor
    · rintro ⟨-, h⟩
      refine ⟨k, Finset.mem_Iio.mpr ?_, rfl⟩
      by_contra hk
      rcases eq_or_lt_of_le (not_lt.mp hk) with rfl | hlt
      · exact absurd (decide_eq_true h) (by rw [show decide (Ahead g _ _) = aheadB g _ _ from rfl, hT.irrefl]; decide)
      · exact absurd (decide_eq_true h) (by rw [show decide (Ahead g _ _) = aheadB g _ _ from rfl, hno _ _ hlt]; decide)
    · rintro ⟨k', hk', hkk⟩
      obtain rfl := hinj hkk
      refine ⟨Finset.mem_univ _, ?_⟩
      have hlt := Finset.mem_Iio.mp hk'
      rcases hT.total (sortedFrom (aheadB g) k') (sortedFrom (aheadB g) i) (fun h => hlt.ne (hinj h)) with h | h
      · exact of_decide_eq_true h
      · rw [hno _ _ hlt] at h; exact absurd h (by decide)
  unfold rankOf
  rw [e, Finset.card_image_of_injective _ hinj, Fin.card_Iio]

/-- The entry at position `i` of the sort is the one of rank `i`. -/
theorem sortedFrom_eq_iff {N : ℕ} (g : Fin N → EReal) (i n : Fin N) : sortedFrom (aheadB g) i = n ↔ rankOf g n = i.val := by
  constructor
  · rintro rfl; exact rank_sortedFrom g i
  · intro h
    obtain ⟨k, rfl⟩ := sortedFrom_surjective (aheadB g) n
    rw [rank_sortedFrom] at h
    rw [Fin.ext h]

open Classical in
/-- Where the entries below `j` are above the least value and the others are at it, the ranks below `j` are those of the entries
    below `j`. -/
theorem rank_lt_iff {N : ℕ} (g : Fin N → EReal) (j : ℕ) (hj : j ≤ N) (h1 : ∀ n : Fin N, n.val < j → g n ≠ ⊥) (h2 : ∀ n : Fin N, ¬ n.val < j → g n = ⊥) (n : Fin N) :
    rankOf g n < j ↔ n.val < j := by
  have hc : (Finset.univ.filter fun m : Fin N => m.val < j).card = j := by
    have := Fin.card_filter_val_lt (n := N) (m := j)
    simpa [Nat.min_eq_right hj] using this
  by_cases hn : n.val < j
  · refine ⟨fun _ => hn, fun _ => ?_⟩
    have hss : (Finset.univ.filter fun m => Ahead g m n) ⊂ (Finset.univ.filter fun m : Fin N => m.val < j) := by
      rw [Finset.ssubset_iff_of_subset]
      · exact ⟨n, by simp [hn], fun h => by have := (Finset.mem_filter.mp h).2; simp [Ahead] at this⟩
      · intro m hm
        simp only [Finset.mem_filter, Finset.mem_univ, true_and] at hm ⊢
        by_contra hmj
        have hb := h2 m hmj
        rcases hm with h | ⟨h, -⟩
        · rw [hb] at h; exact absurd h not_lt_bot
        · rw [hb] at h; exact h1 n hn h.symm
    exact lt_of_lt_of_eq (Finset.card_lt_card hss) hc
  · refine ⟨fun h => ?_, fun h => absurd h hn⟩
    have hsub : (Finset.univ.filter fun m : Fin N => m.val < j) ⊆ (Finset.univ.filter fun m => Ahead g m n) := by
      intro m hm
      simp only [Finset.mem_filter, Finset.mem_univ, true_and] at hm ⊢
      left
      rw [h2 n hn]
      exact bot_lt_iff_ne_bot.mpr (h1 m hm)
    have := Finset.card_le_card hsub
    rw [hc] at this
    exact absurd h (not_lt.mpr this)

/-- A sum over the first positions of the sort is the sum over the entries of those ranks. -/
theorem sum_selected (g : Fin 8 → EReal) (j : ℕ) (hj : j ≤ 8) (h1 : ∀ n : Fin 8, n.val < j → g n ≠ ⊥) (h2 : ∀ n : Fin 8, ¬ n.val < j → g n = ⊥)
    (G : Fin 8 → EReal) :
    (∑ i : Fin 3, if i.val < j then G (sortedFrom (aheadB g) (i.castLE (by decide))) else 0)
      = ∑ n : Fin 8, if n.val < j ∧ rankOf g n < 3 then G n else 0 := by
  have hbij : Function.Bijective (sortedFrom (aheadB g)) := ⟨sortedFrom_injective _, sortedFrom_surjective _⟩
  rw [← hbij.sum_comp (fun n => if n.val < j ∧ rankOf g n < 3 then G n else 0)]
  have e : ∀ i : Fin 8, (if (sortedFrom (aheadB g) i).val < j ∧ rankOf g (sortedFrom (aheadB g) i) < 3 then G (sortedFrom (aheadB g) i) else 0)
      = if i.val < 3 then (if i.val < j then G (sortedFrom (aheadB g) i) else 0) else 0 := by
    intro i
    have hr := rank_sortedFrom g i
    have hl := rank_lt_iff g j hj h1 h2 (sortedFrom (aheadB g) i)
    rw [hr] at hl ⊢
    by_cases a : i.val < 3 <;> by_cases b : i.val < j <;> simp [a, b, ← hl]
  simp only [e]
  rw [Fin.sum_univ_three, Fin.sum_univ_eight]
  simp

end Cert.Att

end
-- ==== Proof.Att.Pre.lean ====
/-
  What the kernel's body has stored when it enters the loop over earlier blocks, at exact numbers: the bias rows, and the
  diagonal block's maxima, sums, exponentials and products.
-/
module

public import proofs.«01_k».proof.Proof.Att.Run
public import proofs.«01_k».proof.Proof.Att.Loop
public import proofs.«01_k».proof.Proof.Att.Rank

@[expose] public section

set_option maxRecDepth 16384

noncomputable section

namespace Cert.KernelIdeal.Att

open Idealize.ShloMosaic Cert.KernelIdeal.Gen

/-! ## Ranks -/

open Classical in
/-- The rank expression counts the gates that stand before. -/
theorem hRank_apply (g : FVec Ideal S8x256 .f32) (n : Fin 8) (q : Fin 256) :
    hRank g (ix2 n q) = ((Cert.Att.rankOf (fun m => g (ix2 m q)) n : ℕ) : EReal) := by
  have e : hRank g (ix2 n q) = 0 + hAhead g ![0, 0] slices_S8x256_o0_0_S1x256 0#32 (ix2 n q) + hAhead g ![1, 0] slices_S8x256_o1_0_S1x256 1#32 (ix2 n q)
      + hAhead g ![2, 0] slices_S8x256_o2_0_S1x256 2#32 (ix2 n q) + hAhead g ![3, 0] slices_S8x256_o3_0_S1x256 3#32 (ix2 n q)
      + hAhead g ![4, 0] slices_S8x256_o4_0_S1x256 4#32 (ix2 n q) + hAhead g ![5, 0] slices_S8x256_o5_0_S1x256 5#32 (ix2 n q)
      + hAhead g ![6, 0] slices_S8x256_o6_0_S1x256 6#32 (ix2 n q) + hAhead g ![7, 0] slices_S8x256_o7_0_S1x256 7#32 (ix2 n q) := by
    pointwise [hRank]
  have a : ∀ m : Fin 8, (if g (ix2 n q) < g (ix2 m q) ∨ (g (ix2 m q) = g (ix2 n q) ∧ m < n) then (1 : EReal) else 0)
      = (((if Cert.Att.Ahead (fun m => g (ix2 m q)) m n then 1 else 0 : ℕ)) : EReal) := by
    intro m
    by_cases h : g (ix2 n q) < g (ix2 m q) ∨ (g (ix2 m q) = g (ix2 n q) ∧ m < n)
    · rw [if_pos h, if_pos (show Cert.Att.Ahead (fun m => g (ix2 m q)) m n from h), Nat.cast_one]
    · rw [if_neg h, if_neg (show ¬ Cert.Att.Ahead (fun m => g (ix2 m q)) m n from h), Nat.cast_zero]
  rw [e, Cert.Att.rankOf, Finset.card_filter, Fin.sum_univ_eight]
  simp only [Nat.cast_add]
  rw [← a 0, ← a 1, ← a 2, ← a 3, ← a 4, ← a 5, ← a 6, ← a 7, zero_add]
  exact congrArg₂ (· + ·) (congrArg₂ (· + ·) (congrArg₂ (· + ·) (congrArg₂ (· + ·) (congrArg₂ (· + ·) (congrArg₂ (· + ·) (congrArg₂ (· + ·)
    (hAhead_apply g 0 _ n q) (hAhead_apply g 1 _ n q)) (hAhead_apply g 2 _ n q)) (hAhead_apply g 3 _ n q)) (hAhead_apply g 4 _ n q))
    (hAhead_apply g 5 _ n q)) (hAhead_apply g 6 _ n q)) (hAhead_apply g 7 _ n q)

/-! ## The formulas -/

/-- The gate of key block `n` for query `q` in head `h`: its mean key against the query, −∞ from the query's own block on. -/
def gateOf (M : S8x1x512.Idx → EReal) (Q : S256x512.Idx → EReal) (j h : Fin 8) (q : Fin 256) (n : Fin 8) : EReal :=
  if n < j then ∑ d : Fin 64, M (ix3 n 0 (hd h d)) * Q (ix2 q (hd h d)) else ⊥

/-- The bias of a query for a key block: 0 for the three highest gates among the earlier blocks, −∞ otherwise. -/
def biasOf (M : S8x1x512.Idx → EReal) (Q : S256x512.Idx → EReal) (j : Fin 8) (p : S8x8x256.Idx) : EReal :=
  if (p 1 : Fin 8) < j ∧ Cert.Att.rankOf (gateOf M Q j (p 0) (p 2)) (p 1 : Fin 8) < 3 then 0 else ⊥

/-- The scores of the query's own block, the later keys masked. -/
def ownS (K : S2048x512.Idx → EReal) (Q : S256x512.Idx → EReal) (j h : Fin 8) (q a : Fin 256) : EReal :=
  if a ≤ q then dotKQ K Q h j a q else ⊥

/-- The maximum of the own block's scores. -/
def ownM (K : S2048x512.Idx → EReal) (Q : S256x512.Idx → EReal) (j h : Fin 8) (q : Fin 256) : EReal :=
  Finset.univ.fold max ⊥ (ownS K Q j h q)

theorem load_m {κ : Kind} {sp : Space} {e : EltTy} {Val : EltTy → Type} (v : View sig κ sp S8x1x512 e) (f : v.ty.Contents Val) (h : Fin 8)
    {o : Fin 3 → ℕ} (eo : o = ![0, 0, h.val * 64]) (inb : ∀ a, o a + S8x1x64.size a ≤ S8x1x512.size a) (n : Fin 8) (d : Fin 64) :
    v.readAt Val (Rect.unit (s := S8x1x512) o S8x1x64.size inb).toLoadRect f (ix3 n 0 d) = v.read Val f (ix3 n 0 (hd h d)) := by
  subst eo
  exact readAt_at v f inb (ix3 n 0 d) (ix3 n 0 (hd h d)) (forall_fin_three ⟨(Nat.zero_add _).symm, rfl, rfl⟩)

theorem bias_of {M : S8x1x512.Idx → EReal} {Q : S256x512.Idx → EReal} {j h : Fin 8} {km : Vec Ideal S8x1x64 .f32} {qb : Vec Ideal S256x64 .bf16}
    {q : Fin 256} (hm : ∀ n d, km (ix3 n 0 d) = M (ix3 n 0 (hd h d))) (hq : ∀ d, qb (ix2 q d) = Q (ix2 q (hd h d))) (n : Fin 8) :
    hBias (BitVec.ofNat 32 j.val) (hGate (BitVec.ofNat 32 j.val) km qb) (ix3 0 n q) = biasOf M Q j (ix3 h n q) := by
  have e : (fun m => hGate (BitVec.ofNat 32 j.val) km qb (ix2 m q)) = gateOf M Q j h q := by
    funext m
    rw [hGate_apply]
    unfold gateOf
    simp only [hm, hq]
  rw [hBias_apply, hRank_apply, e]
  show _ = if n < j ∧ Cert.Att.rankOf (gateOf M Q j h q) n < 3 then (0 : EReal) else ⊥
  refine if_congr (and_congr_right fun _ => ?_) rfl rfl
  rw [show (3 : EReal) = ((3 : ℕ) : EReal) by norm_cast]
  exact Nat.cast_lt

section Own
variable {K : S2048x512.Idx → EReal} {Q : S256x512.Idx → EReal} {j h : Fin 8} {kb qb : Vec Ideal S256x64 .bf16} {q : Fin 256}

theorem own_s (hk : ∀ a d, kb (ix2 a d) = K (ix2 (row j a) (hd h d))) (hq : ∀ d, qb (ix2 q d) = Q (ix2 q (hd h d))) (a : Fin 256) :
    hDiag kb qb (ix2 a q) = ownS K Q j h q a := by
  rw [hDiag_apply]
  unfold ownS dotKQ
  simp only [hk, hq]

theorem own_m (hk : ∀ a d, kb (ix2 a d) = K (ix2 (row j a) (hd h d))) (hq : ∀ d, qb (ix2 q d) = Q (ix2 q (hd h d))) :
    hColMax (hDiag kb qb) (ix2 0 q) = ownM K Q j h q := by
  rw [hColMax_apply]
  simp only [own_s hk hq]
  rfl

theorem own_p (hk : ∀ a d, kb (ix2 a d) = K (ix2 (row j a) (hd h d))) (hq : ∀ d, qb (ix2 q d) = Q (ix2 q (hd h d))) (a : Fin 256) :
    hStore (hExp (hDiag kb qb) (hColMax (hDiag kb qb))) (ix3 0 a q) = Ideal.exp (ownS K Q j h q a - ownM K Q j h q) := by
  rw [hStore_apply, hExp_apply, own_m hk hq, own_s hk hq]

theorem own_l (hk : ∀ a d, kb (ix2 a d) = K (ix2 (row j a) (hd h d))) (hq : ∀ d, qb (ix2 q d) = Q (ix2 q (hd h d))) :
    hColSum (hExp (hDiag kb qb) (hColMax (hDiag kb qb))) (ix2 0 q) = ∑ a, Ideal.exp (ownS K Q j h q a - ownM K Q j h q) := by
  rw [hColSum_apply]
  exact Finset.sum_congr rfl fun a _ => by rw [hExp_apply, own_m hk hq, own_s hk hq]

theorem own_v {vb : Vec Ideal S1x64x256 .bf16} {p : Vec Ideal S1x256x256 .bf16} {d : Fin 64} {v w : Fin 256 → EReal}
    (hv : ∀ a, vb (ix3 0 d a) = v a) (hp : ∀ a, p (ix3 0 a q) = w a) : hPv vb p (ix2 d q) = ∑ a, v a * w a := by
  rw [hPv_apply]
  exact Finset.sum_congr rfl fun a _ => by rw [hv, hp]

end Own

/-! ## Offsets before the loop -/

theorem own_koff : ∀ n : Fin 8, (Scalar.indexCast (Scalar.muli (BitVec.ofNat 32 n.val) 256#32) : BitVec 32).toNat = n.val * 256 := by decide +kernel

theorem own_boff : ∀ n : Fin 8, (Scalar.indexCast (BitVec.ofNat 32 n.val) : BitVec 32).toNat = n.val := by decide +kernel

theorem off_ownk (n : Fin 8) (c : ℕ) : (![(Scalar.indexCast (Scalar.muli (BitVec.ofNat 32 n.val) 256#32) : BitVec 32).toNat, c] : Fin 2 → ℕ) = ![n.val * 256, c] := by
  rw [own_koff]

theorem off_ownv (n : Fin 8) (c : ℕ) : (![(Scalar.indexCast (BitVec.ofNat 32 n.val) : BitVec 32).toNat, c, 0] : Fin 3 → ℕ) = ![n.val, c, 0] := by
  rw [own_boff]

/-- The query block's number. -/
abbrev blkOf (i : grid0.Coords) : Fin 8 := i 1

/-! ## The stores -/

section Stores
variable (c : Dev nD) (i : grid0.Coords) (arg2 : Memref sig .tc .vmem S256x512 .bf16) (harg2 : arg2.IsWhole) (arg3 : Memref sig .tc .vmem S2048x512 .bf16) (harg3 : arg3.IsWhole) (arg4 : Memref sig .tc .vmem S8x512x256 .bf16) (harg4 : arg4.IsWhole) (arg5 : Memref sig .tc .vmem S8x1x512 .f32) (harg5 : arg5.IsWhole) (arg6 : Memref sig .tc .vmem S256x512 .bf16) (harg6 : arg6.IsWhole) (arg7 : Memref sig .tc .vmem S8x8x256 .f32) (harg7 : arg7.IsWhole) (arg8 : Memref sig .tc .vmem S8x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256x256 .bf16) (harg11 : arg11.IsWhole) (arg12 : Memref sig .tc .vmem S512x256 .f32) (harg12 : arg12.IsWhole)
  (x0 : Vec Ideal S256x512 .bf16) (x1 : Vec Ideal S2048x512 .bf16) (x2 : Vec Ideal S8x512x256 .bf16) (x3 : Vec Ideal S8x1x512 .f32)

/-- The bias rows of the head whose columns start where the offsets say. -/
def biasPay {F : FTy → Type} [FloatOps F] [Named F] (y0 : Vec F S256x512 .bf16) (y3 : Vec F S8x1x512 .f32) {o2 : Fin 2 → ℕ} (b2 : ∀ a, o2 a + S256x64.size a ≤ S256x512.size a)
    {o3 : Fin 3 → ℕ} (b3 : ∀ a, o3 a + S8x1x64.size a ≤ S8x1x512.size a) : FVec F S1x8x256 .f32 :=
  hBias (BitVec.ofNat 32 (i 1).val) (hGate (BitVec.ofNat 32 (i 1).val)
    (arg5.view.readAt (Elt F) (Rect.unit (s := S8x1x512) o3 S8x1x64.size b3).toLoadRect (harg5.unread y3))
    (arg2.view.readAt (Elt F) (Rect.unit (s := S256x512) o2 S256x64.size b2).toLoadRect (harg2.unread y0)))

set_option maxHeartbeats 1000000 in
/-- The stores of the bias rows, head by head. -/
theorem bias_stores {F : FTy → Type} [FloatOps F] [Named F] (y0 : Vec F S256x512 .bf16) (y3 : Vec F S8x1x512 .f32) :
    blockRun.sl.HS0_8 c i arg2 harg2 arg5 harg5 y0 y3 = [
      ⟨Rect.unit ![7, 0, 0] S1x8x256.size inb_S8x8x256_S1x8x256_7_0_0, biasPay i arg2 harg2 arg5 harg5 y0 y3 inb_S256x512_S256x64_0_448 inb_S8x1x512_S8x1x64_0_0_448⟩,
      ⟨Rect.unit ![6, 0, 0] S1x8x256.size inb_S8x8x256_S1x8x256_6_0_0, biasPay i arg2 harg2 arg5 harg5 y0 y3 inb_S256x512_S256x64_0_384 inb_S8x1x512_S8x1x64_0_0_384⟩,
      ⟨Rect.unit ![5, 0, 0] S1x8x256.size inb_S8x8x256_S1x8x256_5_0_0, biasPay i arg2 harg2 arg5 harg5 y0 y3 inb_S256x512_S256x64_0_320 inb_S8x1x512_S8x1x64_0_0_320⟩,
      ⟨Rect.unit ![4, 0, 0] S1x8x256.size inb_S8x8x256_S1x8x256_4_0_0, biasPay i arg2 harg2 arg5 harg5 y0 y3 inb_S256x512_S256x64_0_256 inb_S8x1x512_S8x1x64_0_0_256⟩,
      ⟨Rect.unit ![3, 0, 0] S1x8x256.size inb_S8x8x256_S1x8x256_3_0_0, biasPay i arg2 harg2 arg5 harg5 y0 y3 inb_S256x512_S256x64_0_192 inb_S8x1x512_S8x1x64_0_0_192⟩,
      ⟨Rect.unit ![2, 0, 0] S1x8x256.size inb_S8x8x256_S1x8x256_2_0_0, biasPay i arg2 harg2 arg5 harg5 y0 y3 inb_S256x512_S256x64_0_128 inb_S8x1x512_S8x1x64_0_0_128⟩,
      ⟨Rect.unit ![1, 0, 0] S1x8x256.size inb_S8x8x256_S1x8x256_1_0_0, biasPay i arg2 harg2 arg5 harg5 y0 y3 inb_S256x512_S256x64_0_64 inb_S8x1x512_S8x1x64_0_0_64⟩,
      ⟨Rect.unit ![0, 0, 0] S1x8x256.size inb_S8x8x256_S1x8x256_0_0_0, biasPay i arg2 harg2 arg5 harg5 y0 y3 inb_S256x512_S256x64_0_0 inb_S8x1x512_S8x1x64_0_0_0⟩] := by
  sl_kernel_rfl

/-- A head's bias rows, entry by entry. -/
theorem biasPay_at (h n : Fin 8) (q : Fin 256) {o2 : Fin 2 → ℕ} (e2 : o2 = ![0, h.val * 64]) (b2 : ∀ a, o2 a + S256x64.size a ≤ S256x512.size a)
    {o3 : Fin 3 → ℕ} (e3 : o3 = ![0, 0, h.val * 64]) (b3 : ∀ a, o3 a + S8x1x64.size a ≤ S8x1x512.size a) :
    biasPay i arg2 harg2 arg5 harg5 x0 x3 b2 b3 (ix3 0 n q) = biasOf x3 x0 (blkOf i) (ix3 h n q) := by
  unfold biasPay
  refine bias_of (j := blkOf i) (fun n d => ?_) (fun d => ?_) n
  · exact (load_m arg5.view _ h e3 _ n d).trans (congrFun (harg5.read_unread x3) _)
  · exact (load_q arg2.view _ h e2 _ q d).trans (congrFun (harg2.read_unread x0) _)

/-- The bias rows. -/
theorem bias_at (f : BufTy.Contents (Elt Ideal) arg7.view.ty) (h n : Fin 8) (q : Fin 256) :
    arg7.view.read (Elt Ideal) (arg7.view.writes (Elt Ideal) f (blockRun.sl.HS0_8 c i arg2 harg2 arg5 harg5 x0 x3)) (ix3 h n q)
      = biasOf x3 x0 (blkOf i) (ix3 h n q) := by
  rw [bias_stores]
  refine read_slabs (Val := Elt Ideal) (e := .f32) (n := 8) _ _ _ _ _ _ _ _ _ _
    (fun h n q => biasOf x3 x0 (blkOf i) (ix3 h n q)) n q ?_ ?_ ?_ ?_ ?_ ?_ ?_ ?_ h
  · exact biasPay_at i arg2 harg2 arg5 harg5 x0 x3 0 n q rfl _ rfl _
  · exact biasPay_at i arg2 harg2 arg5 harg5 x0 x3 1 n q rfl _ rfl _
  · exact biasPay_at i arg2 harg2 arg5 harg5 x0 x3 2 n q rfl _ rfl _
  · exact biasPay_at i arg2 harg2 arg5 harg5 x0 x3 3 n q rfl _ rfl _
  · exact biasPay_at i arg2 harg2 arg5 harg5 x0 x3 4 n q rfl _ rfl _
  · exact biasPay_at i arg2 harg2 arg5 harg5 x0 x3 5 n q rfl _ rfl _
  · exact biasPay_at i arg2 harg2 arg5 harg5 x0 x3 6 n q rfl _ rfl _
  · exact biasPay_at i arg2 harg2 arg5 harg5 x0 x3 7 n q rfl _ rfl _

/-- The maxima of the own block's scores, for the head whose columns start where the offsets say. -/
def maxPay {F : FTy → Type} [FloatOps F] [Named F] (y0 : Vec F S256x512 .bf16) (y1 : Vec F S2048x512 .bf16) {o2 : Fin 2 → ℕ} (b2 : ∀ a, o2 a + S256x64.size a ≤ S256x512.size a)
    {o3 : Fin 2 → ℕ} (b3 : ∀ a, o3 a + S256x64.size a ≤ S2048x512.size a) : FVec F S1x256 .f32 :=
  shapeCast S1x256 (hColMax (hDiag
    (arg3.view.readAt (Elt F) (Rect.unit (s := S2048x512) o3 S256x64.size b3).toLoadRect (harg3.unread y1))
    (arg2.view.readAt (Elt F) (Rect.unit (s := S256x512) o2 S256x64.size b2).toLoadRect (harg2.unread y0)))) shapeCasts_S1x256_S1x256

set_option maxHeartbeats 1000000 in
/-- The stores of the maxima, head by head. -/
theorem max_stores {F : FTy → Type} [FloatOps F] [Named F] (y0 : Vec F S256x512 .bf16) (y1 : Vec F S2048x512 .bf16) :
    blockRun.sl.HS1_8 c i arg2 harg2 arg3 harg3 y0 y1 = [
      ⟨Rect.unit ![7, 0] S1x256.size inb_S8x256_S1x256_7_0, maxPay arg2 harg2 arg3 harg3 y0 y1 inb_S256x512_S256x64_0_448 (k0_off8_inb i)⟩,
      ⟨Rect.unit ![6, 0] S1x256.size inb_S8x256_S1x256_6_0, maxPay arg2 harg2 arg3 harg3 y0 y1 inb_S256x512_S256x64_0_384 (k0_off7_inb i)⟩,
      ⟨Rect.unit ![5, 0] S1x256.size inb_S8x256_S1x256_5_0, maxPay arg2 harg2 arg3 harg3 y0 y1 inb_S256x512_S256x64_0_320 (k0_off6_inb i)⟩,
      ⟨Rect.unit ![4, 0] S1x256.size inb_S8x256_S1x256_4_0, maxPay arg2 harg2 arg3 harg3 y0 y1 inb_S256x512_S256x64_0_256 (k0_off5_inb i)⟩,
      ⟨Rect.unit ![3, 0] S1x256.size inb_S8x256_S1x256_3_0, maxPay arg2 harg2 arg3 harg3 y0 y1 inb_S256x512_S256x64_0_192 (k0_off4_inb i)⟩,
      ⟨Rect.unit ![2, 0] S1x256.size inb_S8x256_S1x256_2_0, maxPay arg2 harg2 arg3 harg3 y0 y1 inb_S256x512_S256x64_0_128 (k0_off3_inb i)⟩,
      ⟨Rect.unit ![1, 0] S1x256.size inb_S8x256_S1x256_1_0, maxPay arg2 harg2 arg3 harg3 y0 y1 inb_S256x512_S256x64_0_64 (k0_off2_inb i)⟩,
      ⟨Rect.unit ![0, 0] S1x256.size inb_S8x256_S1x256_0_0, maxPay arg2 harg2 arg3 harg3 y0 y1 inb_S256x512_S256x64_0_0 (k0_off1_inb i)⟩] := by
  sl_kernel_rfl

/-- A head's maxima, entry by entry. -/
theorem maxPay_at (h : Fin 8) (q : Fin 256) {o2 : Fin 2 → ℕ} (e2 : o2 = ![0, h.val * 64]) (b2 : ∀ a, o2 a + S256x64.size a ≤ S256x512.size a)
    {o3 : Fin 2 → ℕ} (e3 : o3 = ![(blkOf i).val * 256, h.val * 64]) (b3 : ∀ a, o3 a + S256x64.size a ≤ S2048x512.size a) :
    maxPay arg2 harg2 arg3 harg3 x0 x1 b2 b3 (ix2 0 q) = ownM x1 x0 (blkOf i) h q := by
  unfold maxPay
  rw [row_cast]
  refine own_m (j := blkOf i) (fun a d => ?_) (fun d => ?_)
  · exact (load_k arg3.view _ h _ e3 _ a d).trans (congrFun (harg3.read_unread x1) _)
  · exact (load_q arg2.view _ h e2 _ q d).trans (congrFun (harg2.read_unread x0) _)

/-- The own block's maxima. -/
theorem own_max_at (f : BufTy.Contents (Elt Ideal) arg8.view.ty) (h : Fin 8) (q : Fin 256) :
    arg8.view.read (Elt Ideal) (arg8.view.writes (Elt Ideal) f (blockRun.sl.HS1_8 c i arg2 harg2 arg3 harg3 x0 x1)) (ix2 h q)
      = ownM x1 x0 (blkOf i) h q := by
  rw [max_stores]
  refine read_rows (Val := Elt Ideal) (e := .f32) _ _ _ _ _ _ _ _ _ _ (fun h q => ownM x1 x0 (blkOf i) h q) q ?_ ?_ ?_ ?_ ?_ ?_ ?_ ?_ h
  · exact maxPay_at i arg2 harg2 arg3 harg3 x0 x1 0 q rfl _ (off_ownk (blkOf i) _) _
  · exact maxPay_at i arg2 harg2 arg3 harg3 x0 x1 1 q rfl _ (off_ownk (blkOf i) _) _
  · exact maxPay_at i arg2 harg2 arg3 harg3 x0 x1 2 q rfl _ (off_ownk (blkOf i) _) _
  · exact maxPay_at i arg2 harg2 arg3 harg3 x0 x1 3 q rfl _ (off_ownk (blkOf i) _) _
  · exact maxPay_at i arg2 harg2 arg3 harg3 x0 x1 4 q rfl _ (off_ownk (blkOf i) _) _
  · exact maxPay_at i arg2 harg2 arg3 harg3 x0 x1 5 q rfl _ (off_ownk (blkOf i) _) _
  · exact maxPay_at i arg2 harg2 arg3 harg3 x0 x1 6 q rfl _ (off_ownk (blkOf i) _) _
  · exact maxPay_at i arg2 harg2 arg3 harg3 x0 x1 7 q rfl _ (off_ownk (blkOf i) _) _

/-- The own block's sums. -/
theorem own_sum_at (f : BufTy.Contents (Elt Ideal) arg9.view.ty) (h : Fin 8) (q : Fin 256) :
    arg9.view.read (Elt Ideal) (arg9.view.writes (Elt Ideal) f (blockRun.sl.HS2_8 c i arg2 harg2 arg3 harg3 x0 x1)) (ix2 h q)
      = ∑ a, Ideal.exp (ownS x1 x0 (blkOf i) h q a - ownM x1 x0 (blkOf i) h q) := by
  unfold blockRun.sl.HS2_8
  refine read_rows (Val := Elt Ideal) (e := .f32) _ _ _ _ _ _ _ _ _ _
    (fun h q => ∑ a, Ideal.exp (ownS x1 x0 (blkOf i) h q a - ownM x1 x0 (blkOf i) h q)) q ?_ ?_ ?_ ?_ ?_ ?_ ?_ ?_ h
  all_goals
    refine (row_cast _ _ q).trans (own_l (K := x1) (Q := x0) (j := blkOf i) (fun a d => (load_k arg3.view _ _ _ ?_ _ a d).trans (congrFun (harg3.read_unread x1) _)) (fun d => (load_q arg2.view _ _ ?_ _ q d).trans (congrFun (harg2.read_unread x0) _)))
    · exact off_ownk (blkOf i) _
    · rfl

/-- The own block's exponentials. -/
theorem own_exp_at (f : BufTy.Contents (Elt Ideal) arg11.view.ty) (h : Fin 8) (a q : Fin 256) :
    arg11.view.read (Elt Ideal) (arg11.view.writes (Elt Ideal) f (blockRun.sl.HS4_8 c i arg2 harg2 arg3 harg3 x0 x1)) (ix3 h a q)
      = Ideal.exp (ownS x1 x0 (blkOf i) h q a - ownM x1 x0 (blkOf i) h q) := by
  unfold blockRun.sl.HS4_8
  refine read_slabs (Val := Elt Ideal) (e := .bf16) (n := 256) _ _ _ _ _ _ _ _ _ _
    (fun h a q => Ideal.exp (ownS x1 x0 (blkOf i) h q a - ownM x1 x0 (blkOf i) h q)) a q ?_ ?_ ?_ ?_ ?_ ?_ ?_ ?_ h
  all_goals
    refine own_p (K := x1) (Q := x0) (j := blkOf i) (fun a d => (load_k arg3.view _ _ _ ?_ _ a d).trans (congrFun (harg3.read_unread x1) _)) (fun d => (load_q arg2.view _ _ ?_ _ q d).trans (congrFun (harg2.read_unread x0) _)) a
    · exact off_ownk (blkOf i) _
    · rfl

/-- The own block's products. -/
theorem own_acc_at (f : BufTy.Contents (Elt Ideal) arg12.view.ty) (h : Fin 8) (d : Fin 64) (q : Fin 256) :
    arg12.view.read (Elt Ideal) (arg12.view.writes (Elt Ideal) f (blockRun.sl.HS5_8 c i arg2 harg2 arg3 harg3 arg4 harg4 arg11 x0 x1 x2)) (ix2 (hd h d) q)
      = ∑ a, x2 (ix3 (blkOf i) (hd h d) a) * Ideal.exp (ownS x1 x0 (blkOf i) h q a - ownM x1 x0 (blkOf i) h q) := by
  unfold blockRun.sl.HS5_8
  refine read_bands (Val := Elt Ideal) (e := .f32) _ _ _ _ _ _ _ _ _ _
    (fun h d q => ∑ a, x2 (ix3 (blkOf i) (hd h d) a) * Ideal.exp (ownS x1 x0 (blkOf i) h q a - ownM x1 x0 (blkOf i) h q)) d q ?_ ?_ ?_ ?_ ?_ ?_ ?_ ?_ h
  all_goals
    refine (band_cast _ _ d q).trans (own_v (fun a => (load_v arg4.view _ _ _ ?_ _ d a).trans (congrFun (harg4.read_unread x2) _))
      (fun a => (load_slab arg11.view _ _ ?_ _ a q).trans (own_exp_at c i arg2 harg2 arg3 harg3 arg11 x0 x1 _ _ a q)))
    · exact off_ownv (blkOf i) _
    · rfl

end Stores

end Cert.KernelIdeal.Att

end
-- ==== Proof.Att.Block.lean ====
/-
  The block of output that the kernel's body stores at a grid point, entry by entry, at exact numbers: the accumulator over
  the running sum, after the loop over the earlier blocks.
-/
module

public import proofs.«01_k».proof.Proof.Att.Pre

@[expose] public section

set_option maxRecDepth 16384

noncomputable section

namespace Cert.KernelIdeal.Att

open Idealize.ShloMosaic Cert.KernelIdeal.Gen

/-- A store into another head's band leaves an entry as it was. -/
theorem band_skip {κ : Kind} {sp : Space} {e : EltTy} {Val : EltTy → Type} (v : View sig κ sp S512x256 e) (f : v.ty.Contents Val) {o : ℕ}
    {b : ∀ a, (![o, 0] : Fin 2 → ℕ) a + S64x256.size a ≤ S512x256.size a} (w : S64x256.Idx → Val e) (L : List (View.Piece Val S512x256 e))
    (h : Fin 8) (d : Fin 64) (q : Fin 256) (ho : (h.val + 1) * 64 ≤ o ∨ o + 64 ≤ h.val * 64) :
    v.read Val (v.writes Val f (⟨Rect.unit ![o, 0] S64x256.size b, w⟩ :: L)) (ix2 (hd h d) q) = v.read Val (v.writes Val f L) (ix2 (hd h d) q) :=
  View.read_writes_cons_unit_of_not_mem v f _ _ _ _ rfl 0 (band_out h d q o ho)

/-- A stored quotient, from what its arguments hold. -/
theorem quot_at {A : Vec Ideal S64x256 .f32} {L : Vec Ideal S1x256 .f32} {d : Fin 64} {q : Fin 256} {x y : EReal}
    (hA : A (ix2 d q) = x) (hL : L (ix2 0 q) = y) (hc : S64x256.ShapeCasts S64x256) : shapeCast S64x256 (hQuot A L) hc (ix2 d q) = Ideal.div x y := by
  rw [band_cast, hQuot_apply, hA, hL]

/-- The output is the accumulator transposed. -/
theorem out_cast (A : FVec Ideal S512x256 .f32) (x : Fin 512) (q : Fin 256) : k0_pay384 (F := Ideal) A (ix2 q x) = A (ix2 x q) := by
  pointwise [k0_pay384]

section Block
variable (c : Dev nD) (i : grid0.Coords) (arg2 : Memref sig .tc .vmem S256x512 .bf16) (harg2 : arg2.IsWhole) (arg3 : Memref sig .tc .vmem S2048x512 .bf16) (harg3 : arg3.IsWhole) (arg4 : Memref sig .tc .vmem S8x512x256 .bf16) (harg4 : arg4.IsWhole) (arg5 : Memref sig .tc .vmem S8x1x512 .f32) (harg5 : arg5.IsWhole) (arg6 : Memref sig .tc .vmem S256x512 .bf16) (harg6 : arg6.IsWhole) (arg7 : Memref sig .tc .vmem S8x8x256 .f32) (harg7 : arg7.IsWhole) (arg8 : Memref sig .tc .vmem S8x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256x256 .bf16) (harg11 : arg11.IsWhole) (arg12 : Memref sig .tc .vmem S512x256 .f32) (harg12 : arg12.IsWhole)
  (x0 : Vec Ideal S256x512 .bf16) (x1 : Vec Ideal S2048x512 .bf16) (x2 : Vec Ideal S8x512x256 .bf16) (x3 : Vec Ideal S8x1x512 .f32)
  (g : BufTy.Contents (Elt Ideal) arg10.view.ty)

/-- The scratch buffers on entry to the loop. -/
abbrev G7 := arg7.view.writes (Elt Ideal) arg7.view.junk (blockRun.sl.HS0_8 c i arg2 harg2 arg5 harg5 x0 x3)
abbrev G8 := arg8.view.writes (Elt Ideal) arg8.view.junk (blockRun.sl.HS1_8 c i arg2 harg2 arg3 harg3 x0 x1)
abbrev G9 := arg9.view.writes (Elt Ideal) arg9.view.junk (blockRun.sl.HS2_8 c i arg2 harg2 arg3 harg3 x0 x1)
abbrev G11 := arg11.view.writes (Elt Ideal) arg11.view.junk (blockRun.sl.HS4_8 c i arg2 harg2 arg3 harg3 x0 x1)
abbrev G12 := arg12.view.writes (Elt Ideal) arg12.view.junk (blockRun.sl.HS5_8 c i arg2 harg2 arg3 harg3 arg4 harg4 arg11 x0 x1 x2)

/-- The bias rows, as an array. -/
theorem bias_all : arg7.view.read (Elt Ideal) (G7 c i arg2 harg2 arg5 harg5 arg7 x0 x3) = biasOf x3 x0 (blkOf i) := by
  funext p
  idx_vars p
  exact bias_at c i arg2 harg2 arg5 harg5 arg7 x0 x3 _ _ _ _

/-- The running sums after the loop. -/
theorem sum_end (h : Fin 8) (q : Fin 256) :
    arg9.view.read (Elt Ideal) (arg9.view.writes (Elt Ideal) arg9.view.junk ((pb_k0_t1 (F := Ideal) Variants.none c none i arg2 harg2 arg3 harg3 arg4 harg4 arg5 harg5 arg6 harg6 arg7 harg7 arg8 harg8 arg9 harg9 arg10 harg10 arg11 harg11 arg12 harg12 0#32 (constant S64x256 .bf16 0x0000#16) (harg2.unread x0) (harg3.unread x1) (harg4.unread x2) (G7 c i arg2 harg2 arg5 harg5 arg7 x0 x3) (G8 c i arg2 harg2 arg3 harg3 arg8 x0 x1) (G9 c i arg2 harg2 arg3 harg3 arg9 x0 x1) g (G11 c i arg2 harg2 arg3 harg3 arg11 x0 x1) (G12 c i arg2 harg2 arg3 harg3 arg4 harg4 arg11 arg12 x0 x1 x2) (k0_t1_loop i).trips).2.1
      ++ blockRun.sl.HS2_8 c i arg2 harg2 arg3 harg3 x0 x1)) (ix2 h q)
      = runSum (blockS x1 x0 (biasOf x3 x0 (blkOf i)) h q) (ownM x1 x0 (blkOf i) h q) (∑ a, Ideal.exp (ownS x1 x0 (blkOf i) h q a - ownM x1 x0 (blkOf i) h q)) (blkOf i).val := by
  rw [View.writes_append]
  refine (loop_sum Variants.none c none i arg2 harg2 arg3 harg3 arg4 harg4 arg5 harg5 arg6 harg6 arg7 harg7 arg8 harg8 arg9 harg9 arg10 harg10 arg11 harg11 arg12 harg12 0#32 (constant S64x256 .bf16 0x0000#16) (harg2.unread x0) (harg3.unread x1) (harg4.unread x2) (G7 c i arg2 harg2 arg5 harg5 arg7 x0 x3) (G8 c i arg2 harg2 arg3 harg3 arg8 x0 x1) (G9 c i arg2 harg2 arg3 harg3 arg9 x0 x1) g (G11 c i arg2 harg2 arg3 harg3 arg11 x0 x1) (G12 c i arg2 harg2 arg3 harg3 arg4 harg4 arg11 arg12 x0 x1 x2) h q _ (le_refl _)).trans ?_
  rw [bias_all, trips_one, harg2.read_unread, harg3.read_unread, own_max_at, own_sum_at]

/-- The accumulators after the loop. -/
theorem acc_end (h : Fin 8) (d : Fin 64) (q : Fin 256) :
    arg12.view.read (Elt Ideal) (arg12.view.writes (Elt Ideal) arg12.view.junk ((pb_k0_t1 (F := Ideal) Variants.none c none i arg2 harg2 arg3 harg3 arg4 harg4 arg5 harg5 arg6 harg6 arg7 harg7 arg8 harg8 arg9 harg9 arg10 harg10 arg11 harg11 arg12 harg12 0#32 (constant S64x256 .bf16 0x0000#16) (harg2.unread x0) (harg3.unread x1) (harg4.unread x2) (G7 c i arg2 harg2 arg5 harg5 arg7 x0 x3) (G8 c i arg2 harg2 arg3 harg3 arg8 x0 x1) (G9 c i arg2 harg2 arg3 harg3 arg9 x0 x1) g (G11 c i arg2 harg2 arg3 harg3 arg11 x0 x1) (G12 c i arg2 harg2 arg3 harg3 arg4 harg4 arg11 arg12 x0 x1 x2) (k0_t1_loop i).trips).2.2.2.2
      ++ blockRun.sl.HS5_8 c i arg2 harg2 arg3 harg3 arg4 harg4 arg11 x0 x1 x2)) (ix2 (hd h d) q)
      = runAcc (blockS x1 x0 (biasOf x3 x0 (blkOf i)) h q) (fun n a => x2 (ix3 (blkN n) (hd h d) a)) (ownM x1 x0 (blkOf i) h q) (∑ a, x2 (ix3 (blkOf i) (hd h d) a) * Ideal.exp (ownS x1 x0 (blkOf i) h q a - ownM x1 x0 (blkOf i) h q)) (blkOf i).val := by
  rw [View.writes_append]
  refine (loop_acc Variants.none c none i arg2 harg2 arg3 harg3 arg4 harg4 arg5 harg5 arg6 harg6 arg7 harg7 arg8 harg8 arg9 harg9 arg10 harg10 arg11 harg11 arg12 harg12 0#32 (constant S64x256 .bf16 0x0000#16) (harg2.unread x0) (harg3.unread x1) (harg4.unread x2) (G7 c i arg2 harg2 arg5 harg5 arg7 x0 x3) (G8 c i arg2 harg2 arg3 harg3 arg8 x0 x1) (G9 c i arg2 harg2 arg3 harg3 arg9 x0 x1) g (G11 c i arg2 harg2 arg3 harg3 arg11 x0 x1) (G12 c i arg2 harg2 arg3 harg3 arg4 harg4 arg11 arg12 x0 x1 x2) h d q _ (le_refl _)).trans ?_
  rw [bias_all, trips_one, harg2.read_unread, harg3.read_unread, harg4.read_unread, own_max_at, own_acc_at]

/-- An entry of the output block. -/
def outOf (Q : S256x512.Idx → EReal) (K : S2048x512.Idx → EReal) (V : S8x512x256.Idx → EReal) (M : S8x1x512.Idx → EReal) (j h : Fin 8) (d : Fin 64) (q : Fin 256) : EReal :=
  Ideal.div (runAcc (blockS K Q (biasOf M Q j) h q) (fun n a => V (ix3 (blkN n) (hd h d) a)) (ownM K Q j h q) (∑ a, V (ix3 j (hd h d) a) * Ideal.exp (ownS K Q j h q a - ownM K Q j h q)) j.val)
    (runSum (blockS K Q (biasOf M Q j) h q) (ownM K Q j h q) (∑ a, Ideal.exp (ownS K Q j h q a - ownM K Q j h q)) j.val)

set_option maxHeartbeats 2000000 in
/-- The divided accumulators. -/
theorem quot_end (h : Fin 8) (d : Fin 64) (q : Fin 256) :
    arg12.view.read (Elt Ideal) (arg12.view.writes (Elt Ideal) arg12.view.junk (blockRun.sl.HS5_8_1 c i arg2 harg2 arg3 harg3 arg4 harg4 arg5 harg5 arg6 harg6 arg7 harg7 arg8 harg8 arg9 harg9 arg10 harg10 arg11 harg11 arg12 harg12 x0 x1 x2 x3 g)) (ix2 (hd h d) q)
      = outOf x0 x1 x2 x3 (blkOf i) h d q := by
  unfold blockRun.sl.HS5_8_1 blockRun.sl.HS5_7 blockRun.sl.HS5_6 blockRun.sl.HS5_5 blockRun.sl.HS5_4 blockRun.sl.HS5_3 blockRun.sl.HS5_2 blockRun.sl.HS5_1
  refine (congrArg (fun y => arg12.view.read (Elt Ideal) y _) (View.writes_append (Val := Elt Ideal) arg12.view _ [_, _, _, _, _, _, _, _] _)).trans ?_
  refine read_bands (Val := Elt Ideal) (e := .f32) _ _ _ _ _ _ _ _ _ _ (fun h d q => outOf x0 x1 x2 x3 (blkOf i) h d q) d q ?_ ?_ ?_ ?_ ?_ ?_ ?_ ?_ h
  · refine quot_at ((load_band arg12.view _ 0 rfl _ d q).trans ?_) ((load_row arg9.view _ 0 rfl _ q).trans (sum_end c i arg2 harg2 arg3 harg3 arg4 harg4 arg5 harg5 arg6 harg6 arg7 harg7 arg8 harg8 arg9 harg9 arg10 harg10 arg11 harg11 arg12 harg12 x0 x1 x2 x3 g 0 q)) _
    exact acc_end c i arg2 harg2 arg3 harg3 arg4 harg4 arg5 harg5 arg6 harg6 arg7 harg7 arg8 harg8 arg9 harg9 arg10 harg10 arg11 harg11 arg12 harg12 x0 x1 x2 x3 g 0 d q
  · refine quot_at ((load_band arg12.view _ 1 rfl _ d q).trans ?_) ((load_row arg9.view _ 1 rfl _ q).trans (sum_end c i arg2 harg2 arg3 harg3 arg4 harg4 arg5 harg5 arg6 harg6 arg7 harg7 arg8 harg8 arg9 harg9 arg10 harg10 arg11 harg11 arg12 harg12 x0 x1 x2 x3 g 1 q)) _
    exact (band_skip arg12.view _ _ _ _ d q (by decide)).trans (acc_end c i arg2 harg2 arg3 harg3 arg4 harg4 arg5 harg5 arg6 harg6 arg7 harg7 arg8 harg8 arg9 harg9 arg10 harg10 arg11 harg11 arg12 harg12 x0 x1 x2 x3 g 1 d q)
  · refine quot_at ((load_band arg12.view _ 2 rfl _ d q).trans ?_) ((load_row arg9.view _ 2 rfl _ q).trans (sum_end c i arg2 harg2 arg3 harg3 arg4 harg4 arg5 harg5 arg6 harg6 arg7 harg7 arg8 harg8 arg9 harg9 arg10 harg10 arg11 harg11 arg12 harg12 x0 x1 x2 x3 g 2 q)) _
    exact (band_skip arg12.view _ _ _ _ d q (by decide)).trans ((band_skip arg12.view _ _ _ _ d q (by decide)).trans (acc_end c i arg2 harg2 arg3 harg3 arg4 harg4 arg5 harg5 arg6 harg6 arg7 harg7 arg8 harg8 arg9 harg9 arg10 harg10 arg11 harg11 arg12 harg12 x0 x1 x2 x3 g 2 d q))
  · refine quot_at ((load_band arg12.view _ 3 rfl _ d q).trans ?_) ((load_row arg9.view _ 3 rfl _ q).trans (sum_end c i arg2 harg2 arg3 harg3 arg4 harg4 arg5 harg5 arg6 harg6 arg7 harg7 arg8 harg8 arg9 harg9 arg10 harg10 arg11 harg11 arg12 harg12 x0 x1 x2 x3 g 3 q)) _
    exact (band_skip arg12.view _ _ _ _ d q (by decide)).trans ((band_skip arg12.view _ _ _ _ d q (by decide)).trans ((band_skip arg12.view _ _ _ _ d q (by decide)).trans (acc_end c i arg2 harg2 arg3 harg3 arg4 harg4 arg5 harg5 arg6 harg6 arg7 harg7 arg8 harg8 arg9 harg9 arg10 harg10 arg11 harg11 arg12 harg12 x0 x1 x2 x3 g 3 d q)))
  · refine quot_at ((load_band arg12.view _ 4 rfl _ d q).trans ?_) ((load_row arg9.view _ 4 rfl _ q).trans (sum_end c i arg2 harg2 arg3 harg3 arg4 harg4 arg5 harg5 arg6 harg6 arg7 harg7 arg8 harg8 arg9 harg9 arg10 harg10 arg11 harg11 arg12 harg12 x0 x1 x2 x3 g 4 q)) _
    exact (band_skip arg12.view _ _ _ _ d q (by decide)).trans ((band_skip arg12.view _ _ _ _ d q (by decide)).trans ((band_skip arg12.view _ _ _ _ d q (by decide)).trans ((band_skip arg12.view _ _ _ _ d q (by decide)).trans (acc_end c i arg2 harg2 arg3 harg3 arg4 harg4 arg5 harg5 arg6 harg6 arg7 harg7 arg8 harg8 arg9 harg9 arg10 harg10 arg11 harg11 arg12 harg12 x0 x1 x2 x3 g 4 d q))))
  · refine quot_at ((load_band arg12.view _ 5 rfl _ d q).trans ?_) ((load_row arg9.view _ 5 rfl _ q).trans (sum_end c i arg2 harg2 arg3 harg3 arg4 harg4 arg5 harg5 arg6 harg6 arg7 harg7 arg8 harg8 arg9 harg9 arg10 harg10 arg11 harg11 arg12 harg12 x0 x1 x2 x3 g 5 q)) _
    exact (band_skip arg12.view _ _ _ _ d q (by decide)).trans ((band_skip arg12.view _ _ _ _ d q (by decide)).trans ((band_skip arg12.view _ _ _ _ d q (by decide)).trans ((band_skip arg12.view _ _ _ _ d q (by decide)).trans ((band_skip arg12.view _ _ _ _ d q (by decide)).trans (acc_end c i arg2 harg2 arg3 harg3 arg4 harg4 arg5 harg5 arg6 harg6 arg7 harg7 arg8 harg8 arg9 harg9 arg10 harg10 arg11 harg11 arg12 harg12 x0 x1 x2 x3 g 5 d q)))))
  · refine quot_at ((load_band arg12.view _ 6 rfl _ d q).trans ?_) ((load_row arg9.view _ 6 rfl _ q).trans (sum_end c i arg2 harg2 arg3 harg3 arg4 harg4 arg5 harg5 arg6 harg6 arg7 harg7 arg8 harg8 arg9 harg9 arg10 harg10 arg11 harg11 arg12 harg12 x0 x1 x2 x3 g 6 q)) _
    exact (band_skip arg12.view _ _ _ _ d q (by decide)).trans ((band_skip arg12.view _ _ _ _ d q (by decide)).trans ((band_skip arg12.view _ _ _ _ d q (by decide)).trans ((band_skip arg12.view _ _ _ _ d q (by decide)).trans ((band_skip arg12.view _ _ _ _ d q (by decide)).trans ((band_skip arg12.view _ _ _ _ d q (by decide)).trans (acc_end c i arg2 harg2 arg3 harg3 arg4 harg4 arg5 harg5 arg6 harg6 arg7 harg7 arg8 harg8 arg9 harg9 arg10 harg10 arg11 harg11 arg12 harg12 x0 x1 x2 x3 g 6 d q))))))
  · refine quot_at ((load_band arg12.view _ 7 rfl _ d q).trans ?_) ((load_row arg9.view _ 7 rfl _ q).trans (sum_end c i arg2 harg2 arg3 harg3 arg4 harg4 arg5 harg5 arg6 harg6 arg7 harg7 arg8 harg8 arg9 harg9 arg10 harg10 arg11 harg11 arg12 harg12 x0 x1 x2 x3 g 7 q)) _
    exact (band_skip arg12.view _ _ _ _ d q (by decide)).trans ((band_skip arg12.view _ _ _ _ d q (by decide)).trans ((band_skip arg12.view _ _ _ _ d q (by decide)).trans ((band_skip arg12.view _ _ _ _ d q (by decide)).trans ((band_skip arg12.view _ _ _ _ d q (by decide)).trans ((band_skip arg12.view _ _ _ _ d q (by decide)).trans ((band_skip arg12.view _ _ _ _ d q (by decide)).trans (acc_end c i arg2 harg2 arg3 harg3 arg4 harg4 arg5 harg5 arg6 harg6 arg7 harg7 arg8 harg8 arg9 harg9 arg10 harg10 arg11 harg11 arg12 harg12 x0 x1 x2 x3 g 7 d q)))))))
/-- The stored output block. -/
theorem block_at (h : Fin 8) (d : Fin 64) (q : Fin 256) :
    k0_pay384 (F := Ideal) (blockRun.sl.v1453 c i arg2 harg2 arg3 harg3 arg4 harg4 arg5 harg5 arg6 harg6 arg7 harg7 arg8 harg8 arg9 harg9 arg10 harg10 arg11 harg11 arg12 harg12 x0 x1 x2 x3 g) (ix2 q (hd h d)) = outOf x0 x1 x2 x3 (blkOf i) h d q := by
  rw [out_cast]
  unfold blockRun.sl.v1453
  refine (readAt_at arg12.view _ _ (ix2 (hd h d) q) (ix2 (hd h d) q) (Fin.forall_fin_two.mpr ⟨(Nat.zero_add _).symm, (Nat.zero_add _).symm⟩)).trans ?_
  exact quot_end c i arg2 harg2 arg3 harg3 arg4 harg4 arg5 harg5 arg6 harg6 arg7 harg7 arg8 harg8 arg9 harg9 arg10 harg10 arg11 harg11 arg12 harg12 x0 x1 x2 x3 g h d q

end Block

end Cert.KernelIdeal.Att

end
-- ==== Proof.Att.Frame.lean ====
/-
  The attention kernel's launch: the body at every grid point by `blockRun`, so every run terminates with the arguments
  unchanged, every counter at zero, and the output array at what the body leaves block by block.
-/
module

public import proofs.«01_k».proof.Proof.Att.Block
public import Idealize.ShloMosaic.Lib.Claim
public import Idealize.ShloMosaic.Lib.Pipeline.Value

@[expose] public section

set_option maxRecDepth 16384

noncomputable section

namespace Cert.KernelIdeal.Att

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)
/-! ## The output block -/

/-- The head of an output column, and the column within the head. -/
def hOf (x : Fin 512) : Fin 8 := ⟨x.val / 64, by omega⟩
def dOf (x : Fin 512) : Fin 64 := ⟨x.val % 64, Nat.mod_lt _ (by decide)⟩

theorem hd_of (x : Fin 512) : hd (hOf x) (dOf x) = x := Fin.ext (Nat.div_add_mod' x.val 64)

/-- The output block of query block `j`, from the blocks of queries, keys, values and mean keys. -/
def outBlock (Q : Vec Ideal S256x512 .bf16) (K : Vec Ideal S2048x512 .bf16) (W : Vec Ideal S8x512x256 .bf16) (M : Vec Ideal S8x1x512 .f32) (j : Fin 8) : Vec Ideal S256x512 .bf16 :=
  fun p => outOf Q K W M j (hOf (p 1)) (dOf (p 1)) (p 0)

/-- The body's stores make the output block, whatever the buffers held. -/
theorem run_block (c : Dev nD) (i : grid0.Coords) (arg2 : Memref sig .tc .vmem S256x512 .bf16) (harg2 : arg2.IsWhole) (arg3 : Memref sig .tc .vmem S2048x512 .bf16) (harg3 : arg3.IsWhole) (arg4 : Memref sig .tc .vmem S8x512x256 .bf16) (harg4 : arg4.IsWhole) (arg5 : Memref sig .tc .vmem S8x1x512 .f32) (harg5 : arg5.IsWhole) (arg6 : Memref sig .tc .vmem S256x512 .bf16) (harg6 : arg6.IsWhole) (arg7 : Memref sig .tc .vmem S8x8x256 .f32) (harg7 : arg7.IsWhole) (arg8 : Memref sig .tc .vmem S8x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S8x256x256 .bf16) (harg11 : arg11.IsWhole) (arg12 : Memref sig .tc .vmem S512x256 .f32) (harg12 : arg12.IsWhole)
    (x0 : Vec Ideal S256x512 .bf16) (x1 : Vec Ideal S2048x512 .bf16) (x2 : Vec Ideal S8x512x256 .bf16) (x3 : Vec Ideal S8x1x512 .f32)
    (f : BufTy.Contents (Elt Ideal) arg6.view.ty) (g : BufTy.Contents (Elt Ideal) arg10.view.ty) :
    arg6.view.read (Elt Ideal) (arg6.view.writes (Elt Ideal) f ((blockRun (F := Ideal) c i arg2 harg2 arg3 harg3 arg4 harg4 arg5 harg5 arg6 harg6 arg7 harg7 arg8 harg8 arg9 harg9 arg10 harg10 arg11 harg11 arg12 harg12 x0 x1 x2 x3).1 g)) = outBlock x0 x1 x2 x3 (blkOf i) := by
  unfold blockRun
  funext p
  obtain ⟨q, x, rfl⟩ : ∃ (q : Fin 256) (x : Fin 512), p = ix2 q x := ⟨p 0, p 1, by funext a; fin_cases a <;> rfl⟩
  refine (View.read_writes_cons_unit_of_mem arg6.view f _ _ _ _ (ix2 q x) rfl (Fin.forall_fin_two.mpr ⟨(Nat.zero_add _).symm, (Nat.zero_add _).symm⟩)).trans ?_
  refine Eq.trans ?_ (block_at c i arg2 harg2 arg3 harg3 arg4 harg4 arg5 harg5 arg6 harg6 arg7 harg7 arg8 harg8 arg9 harg9 arg10 harg10 arg11 harg11 arg12 harg12 x0 x1 x2 x3 g (hOf x) (dOf x) q)
  rw [hd_of]

/-! ## The output at each grid point -/

/-- The output block at grid point `t`, from the blocks the inputs' staging buffers hold there. -/
def outAt (c : Dev nD) (t : Fin cfg0.N) : Vec Ideal S256x512 .bf16 :=
  outBlock (iblk m c 0 t) (iblk m c 1 t) (iblk m c 2 t) (iblk m c 3 t) (blkOf (grid0.coords t))

/-! ## The pipeline's data -/

/-- The pipeline's data on a core: arrays as they are on entry, the inputs' buffers left at their blocks, the output's at `outAt`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outAt m c t)
  Φ _ := Pipeline.ΦA spec0 c
  q _ := fullShare
  owed _ := 0

/-- The arrays are those found on entry. -/
theorem A_eq (c : Dev nD) (w : Fin cfg0.W) : (dats m 0 c).A w = V m c (Pipeline.arrRef spec0 w) := by
  dsimp only [dats]

/-- What each window's buffer holds after the body. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outAt m c t) := by dsimp only [dats]

/-- Each input's buffer holds its block before the body. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body at a grid point -/

/-- What the body gets at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- What the body gives back. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 800000 in
/-- The body takes the one to the other. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  unfold outAt
  iintro ⟨⟨⟨HS0, HS1, HS2, HS3, HS4, HS5⟩, Hg⟩, Ho, ⟨%d0, H0⟩, ⟨%d1, H1⟩, ⟨%d2, H2⟩, ⟨%d3, H3⟩, ⟨%d4, H4⟩⟩
  iapply ((blockRun c (grid0.coords t) _ _ _ _ _ _ _ _ _ _ _ _ _ _ _ _ _ _ _ _ _ _ (iblk m c 0 t) (iblk m c 1 t) (iblk m c 2 t) (iblk m c 3 t)).2 Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, ⟨%e4, %g4, H4⟩, HS0, HS1, HS2, HS3, HS4, HS5⟩
  isplitl [HS0 HS1 HS2 HS3 HS4 HS5 Hg]
  · isplitl [HS0 HS1 HS2 HS3 HS4 HS5]
    · isplitl [HS0]
      · iexact HS0
      isplitl [HS1]
      · iexact HS1
      isplitl [HS2]
      · iexact HS2
      isplitl [HS3]
      · iexact HS3
      isplitl [HS4]
      · iexact HS4
      iexact HS5
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact run_block c (grid0.coords t) _ _ _ _ _ _ _ _ _ _ _ _ _ _ _ _ _ _ _ _ _ _ _ _ _ _ _ _

/-- The table's row at a point is the body there. -/
theorem defs₀_row (t : Fin cfg0.N) :
    defs₀ (F := Ideal) .tc cfg0.body (cfg0.bodyArgs t (cfg0.slots t)) = bodyAt0 t := by
  unfold defs₀; rw [Defs.onTc_tc]

/-- The obligation the pipeline's theorem asks for. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The whole run -/

-- `θ_run_frame`'s implicit arguments are found by unifying its conclusion with this one, which takes unfolding plain
-- definitions in a metavariable's type
set_option backward.isDefEq.respectTransparency.types false in
/-- Every run ends with the pipeline's arrays at what the data computes, and with every counter at zero. -/
theorem run_quiet : θ_run defs (onTc (τ := τ) (main (F := Ideal))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_all : θ_run defs (onTc (τ := τ) (main (F := Ideal))) (s₀ m ρ) (Pipeline.FramePost cfgs (dats m) 0 (V m)) :=
  (θ_run defs _ _).mono (fun _ h => h.1) (run_quiet m ρ)

/-- The arguments end as they began. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_all m ρ)

/-- The arguments end as they began, every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_quiet m ρ))

/-! ## The output array, block by block -/

/-- What grid point `t` writes back. -/
theorem flushed_out (c : Dev nD) (t : Fin cfg0.N) : (dats m 0 c).flushed 4 t = (cfg0.win 4).cut (grid0.coords t) (outAt m c t) := by
  show (cfg0.win 4).cut (grid0.coords t) ((dats m 0 c).after 4 t) = _
  rw [after0_4]

/-- Different grid points write different blocks. -/
theorem block_inj : ∀ t t' : Fin cfg0.N, win0_4.index t = win0_4.index t' → t = t' :=
  (by decide +kernel : ∀ t t' : Fin grid0.N, win0_4.index t = win0_4.index t' → t = t')

/-- So block `t` of the final array is what point `t` wrote. -/
theorem block_out (c : Dev nD) (t : Fin cfg0.N) (hf : (cfg0.win 4).flush t = true) :
    ((cfg0.win 4).blk t).view.read (Elt Ideal) ((dats m 0 c).arrAt 4 cfg0.N) = (cfg0.win 4).cut (grid0.coords t) (outAt m c t) :=
  ((dats m 0 c).read_blk_arrAt_eq_flushed 4 (fun t t' _ _ hne => (cfg0.win 4).disjoint_blk fun h => hne (block_inj t t' h)) cfg0.N t t.isLt hf).trans
    (flushed_out m c t)

/-- The run, with the output array named and the arguments unchanged. -/
theorem run_out : θ_run defs (onTc (τ := τ) (main (F := Ideal))) ⟨m, fun _ => 0, ρ⟩ fun r => ∀ c : Dev nD,
      r.2.mem ((c : Thread nD τ).loc main_v14) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 4,
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c)⟩) (run_all m ρ)

end Cert.KernelIdeal.Att

end
-- ==== Proof.Att.KVal.lean ====
/-
  What the kernel's windows read of the arguments at exact numbers, and the result array entry by entry.
-/
module

public import proofs.«01_k».proof.Proof.Att.Frame
public import Idealize.ShloMosaic.Lib.Claim

@[expose] public section

set_option maxRecDepth 16384

noncomputable section

namespace Cert.KernelIdeal.Att

open Idealize.ShloMosaic Idealize.ShloMosaic.TcCoe Idealize.ShloMosaic.Tactic Cert.KernelIdeal Cert.KernelIdeal.Gen

variable (m : (ℓ : Loc nD τ sig) → Buf (Elt Ideal) ℓ) (c : Dev nD)

/-- The queries, the keys and the values. -/
abbrev argQ : FVec Ideal S16x2048x512 .f32 := m ((c : Thread nD τ).loc main_arg0)
abbrev argK : FVec Ideal S16x2048x512 .f32 := m ((c : Thread nD τ).loc main_arg1)
abbrev argV : FVec Ideal S16x2048x512 .f32 := m ((c : Thread nD τ).loc main_arg2)

/-- The scaled queries. -/
theorem queries_at (r : Fin 32768) (x : Fin 512) : (V m c main_v4 : FVec Ideal S32768x512 .bf16) (ix2 r x)
    = @HMul.hMul EReal EReal EReal _ (argQ m c (ix3 ⟨r.val / 2048, by omega⟩ ⟨r.val % 2048, by omega⟩ x)) (Ideal.ofBits .f32 0x3E000000#32) := by
  entry_read
  pointwise []

/-- The keys. -/
theorem keys_at (r : Fin 32768) (x : Fin 512) : (V m c main_v5 : FVec Ideal S32768x512 .bf16) (ix2 r x)
    = argK m c (ix3 ⟨r.val / 2048, by omega⟩ ⟨r.val % 2048, by omega⟩ x) := by
  entry_read
  pointwise []

/-- The values, block by block, transposed. -/
theorem values_at (n : Fin 128) (x : Fin 512) (a : Fin 256) : (V m c main_v13 : FVec Ideal S128x512x256 .bf16) (ix3 n x a)
    = argV m c (ix3 ⟨n.val / 8, by omega⟩ ⟨n.val % 8 * 256 + a.val, by omega⟩ x) := by
  entry_read
  pointwise []

/-- The blocks' mean keys. -/
theorem means_at (n : Fin 128) (x : Fin 512) : (V m c main_v10 : FVec Ideal S128x1x512 .f32) (ix3 n 0 x)
    = Ideal.div (∑ a : Fin 256, (argK m c (ix3 ⟨n.val / 8, by omega⟩ ⟨n.val % 8 * 256 + a.val, by omega⟩ x) : EReal)) (Ideal.ofBits .f32 0x43800000#32) := by
  entry_read
  pointwise []

/-- The grid point's sequence and its query block. -/
theorem win_index (t : Fin cfg0.N) : win0_0.index t 0 = t.val ∧ win0_0.index t 1 = 0 ∧ win0_1.index t 0 = t.val / 8 ∧ win0_1.index t 1 = 0
    ∧ win0_2.index t 0 = t.val / 8 ∧ win0_2.index t 1 = 0 ∧ win0_2.index t 2 = 0 ∧ win0_3.index t 0 = t.val / 8 ∧ win0_3.index t 1 = 0 ∧ win0_3.index t 2 = 0
    ∧ win0_4.index t 0 = t.val ∧ win0_4.index t 1 = 0 ∧ (grid0.coords t 1).val = t.val % 8 :=
  (by decide +kernel : ∀ t : Fin grid0.N, win0_0.index t 0 = t.val ∧ win0_0.index t 1 = 0 ∧ win0_1.index t 0 = t.val / 8 ∧ win0_1.index t 1 = 0
    ∧ win0_2.index t 0 = t.val / 8 ∧ win0_2.index t 1 = 0 ∧ win0_2.index t 2 = 0 ∧ win0_3.index t 0 = t.val / 8 ∧ win0_3.index t 1 = 0 ∧ win0_3.index t 2 = 0
    ∧ win0_4.index t 0 = t.val ∧ win0_4.index t 1 = 0 ∧ (grid0.coords t 1).val = t.val % 8) t

theorem blk_query (t : Fin cfg0.N) (q : Fin 256) (x : Fin 512) (r : Fin 32768) (hr : r.val = t.val * 256 + q.val) :
    iblk m c 0 t (ix2 q x) = (V m c main_v4 : FVec Ideal S32768x512 .bf16) (ix2 r x) := by
  unfold iblk
  rw [View.read_apply]
  show V m c main_v4 _ = _
  refine congrArg (V m c main_v4) (funext fun a => Fin.ext ?_)
  have hi := win_index t
  match a with
  | ⟨0, _⟩ => show win0_0.index t 0 * 256 + 1 * q.val = r.val; rw [hi.1]; omega
  | ⟨1, _⟩ => show win0_0.index t 1 * 512 + 1 * x.val = x.val; rw [hi.2.1]; omega

theorem blk_key (t : Fin cfg0.N) (s : Fin 2048) (x : Fin 512) (r : Fin 32768) (hr : r.val = t.val / 8 * 2048 + s.val) :
    iblk m c 1 t (ix2 s x) = (V m c main_v5 : FVec Ideal S32768x512 .bf16) (ix2 r x) := by
  unfold iblk
  rw [View.read_apply]
  show V m c main_v5 _ = _
  refine congrArg (V m c main_v5) (funext fun a => Fin.ext ?_)
  have hi := win_index t
  match a with
  | ⟨0, _⟩ => show win0_1.index t 0 * 2048 + 1 * s.val = r.val; rw [hi.2.2.1]; omega
  | ⟨1, _⟩ => show win0_1.index t 1 * 512 + 1 * x.val = x.val; rw [hi.2.2.2.1]; omega

theorem blk_value (t : Fin cfg0.N) (n : Fin 8) (x : Fin 512) (a : Fin 256) (b : Fin 128) (hb : b.val = t.val / 8 * 8 + n.val) :
    iblk m c 2 t (ix3 n x a) = (V m c main_v13 : FVec Ideal S128x512x256 .bf16) (ix3 b x a) := by
  unfold iblk
  rw [View.read_apply]
  show V m c main_v13 _ = _
  refine congrArg (V m c main_v13) (funext fun e => Fin.ext ?_)
  have hi := win_index t
  match e with
  | ⟨0, _⟩ => show win0_2.index t 0 * 8 + 1 * n.val = b.val; rw [hi.2.2.2.2.1]; omega
  | ⟨1, _⟩ => show win0_2.index t 1 * 512 + 1 * x.val = x.val; rw [hi.2.2.2.2.2.1]; omega
  | ⟨2, _⟩ => show win0_2.index t 2 * 256 + 1 * a.val = a.val; rw [hi.2.2.2.2.2.2.1]; omega

theorem blk_mean (t : Fin cfg0.N) (n : Fin 8) (x : Fin 512) (b : Fin 128) (hb : b.val = t.val / 8 * 8 + n.val) :
    iblk m c 3 t (ix3 n 0 x) = (V m c main_v10 : FVec Ideal S128x1x512 .f32) (ix3 b 0 x) := by
  unfold iblk
  rw [View.read_apply]
  show V m c main_v10 _ = _
  refine congrArg (V m c main_v10) (funext fun e => Fin.ext ?_)
  have hi := win_index t
  match e with
  | ⟨0, _⟩ => show win0_3.index t 0 * 8 + 1 * n.val = b.val; rw [hi.2.2.2.2.2.2.2.1]; omega
  | ⟨1, _⟩ => show win0_3.index t 1 * 1 + 1 * 0 = 0; rw [hi.2.2.2.2.2.2.2.2.1]
  | ⟨2, _⟩ => show win0_3.index t 2 * 512 + 1 * x.val = x.val; rw [hi.2.2.2.2.2.2.2.2.2.1]; omega

/-- The result array, entry by entry: row `q` of the block that point `t` writes. -/
theorem out_entry (t : Fin cfg0.N) (q : Fin 256) (x : Fin 512) (r : Fin 32768) (hr : r.val = t.val * 256 + q.val) :
    ((dats m 0 c).arrAt 4 cfg0.N : FVec Ideal S32768x512 .bf16) (ix2 r x) = outAt m c t (ix2 q x) := by
  have h := congrFun (block_out m c t (flush0_4 t)) (ix2 q x)
  rw [View.read_apply] at h
  refine Eq.trans (congrArg ((dats m 0 c).arrAt 4 cfg0.N) (funext fun a => Fin.ext ?_)) h
  have hi := win_index t
  match a with
  | ⟨0, _⟩ => show r.val = win0_4.index t 0 * 256 + 1 * q.val; rw [hi.2.2.2.2.2.2.2.2.2.2.1]; omega
  | ⟨1, _⟩ => show x.val = win0_4.index t 1 * 512 + 1 * x.val; rw [hi.2.2.2.2.2.2.2.2.2.2.2.1]; omega

end Cert.KernelIdeal.Att

end
-- ==== Proof.Att.Math.lean ====
/-
  The softmax over blocks, on extended reals: the running maximum, sum and accumulator of the block loop have closed forms at
  some real shift, the quotient does not depend on the shift, and a value's weight may be divided before it is summed.
-/
module

public import proofs.«01_k».proof.Proof.Att.Loop
public import proofs.«01_k».proof.Proof.Att.Rank

@[expose] public section

set_option maxRecDepth 16384

noncomputable section

namespace Cert.Att

open Idealize.ShloMosaic Cert.KernelIdeal.Att

/-- The weight of a score at a real shift. -/
def wt (s : EReal) (μ : ℝ) : EReal := Ideal.exp (s - (μ : EReal))

theorem wt_bot (μ : ℝ) : wt ⊥ μ = 0 := by
  unfold wt; rw [EReal.bot_sub, Ideal.exp_bot]

theorem wt_coe (r μ : ℝ) : wt (r : EReal) μ = (Real.exp (r - μ) : ℝ) := by
  unfold wt; rw [← EReal.coe_sub, Ideal.exp_coe]

theorem wt_real (s : EReal) (hs : s ≠ ⊤) (μ : ℝ) : ∃ r : ℝ, 0 ≤ r ∧ wt s μ = (r : EReal) := by
  induction s using EReal.rec with
  | bot => exact ⟨0, le_rfl, by rw [wt_bot]; rfl⟩
  | top => exact absurd rfl hs
  | coe r => exact ⟨_, (Real.exp_pos _).le, wt_coe r μ⟩

/-- Moving the shift multiplies the weight by a positive real. -/
theorem wt_shift (s : EReal) (hs : s ≠ ⊤) (μ ν : ℝ) : ((Real.exp (μ - ν) : ℝ) : EReal) * wt s μ = wt s ν := by
  induction s using EReal.rec with
  | bot => rw [wt_bot, wt_bot, mul_zero]
  | top => exact absurd rfl hs
  | coe r =>
    rw [wt_coe, wt_coe, ← EReal.coe_mul, ← Real.exp_add]
    congr 2
    ring

/-- A nonnegative real distributes over any sum. -/
theorem coe_mul_sum {ι : Type} (t : Finset ι) (f : ι → EReal) (c : ℝ) (hc : 0 ≤ c) : (c : EReal) * ∑ i ∈ t, f i = ∑ i ∈ t, (c : EReal) * f i := by
  classical
  induction t using Finset.induction_on with
  | empty => simp
  | insert a t ha ih =>
    rw [Finset.sum_insert ha, Finset.sum_insert ha, EReal.left_distrib_of_nonneg_of_ne_top (EReal.coe_nonneg.mpr hc) (EReal.coe_ne_top c), ih]

theorem coe_mul_add (x y : EReal) (c : ℝ) (hc : 0 ≤ c) : (c : EReal) * (x + y) = c * x + c * y :=
  EReal.left_distrib_of_nonneg_of_ne_top (EReal.coe_nonneg.mpr hc) (EReal.coe_ne_top c) _ _

/-- A sum of nonnegative reals is one. -/
theorem sum_real {ι : Type} (t : Finset ι) (f : ι → EReal) (hf : ∀ i ∈ t, ∃ r : ℝ, 0 ≤ r ∧ f i = (r : EReal)) : ∃ r : ℝ, 0 ≤ r ∧ ∑ i ∈ t, f i = (r : EReal) := by
  classical
  induction t using Finset.induction_on with
  | empty => exact ⟨0, le_rfl, by simp⟩
  | insert a t ha ih =>
    obtain ⟨r, h0, e⟩ := ih fun i hi => hf i (Finset.mem_insert_of_mem hi)
    obtain ⟨r', h0', e'⟩ := hf a (Finset.mem_insert_self a t)
    exact ⟨r' + r, add_nonneg h0' h0, by rw [Finset.sum_insert ha, e, e', EReal.coe_add]⟩

/-- A maximum of finitely many values below the top is below it. -/
theorem fold_max_ne_top (s : Fin 256 → EReal) (hs : ∀ a, s a ≠ ⊤) : Finset.univ.fold max ⊥ s ≠ ⊤ := by
  rw [← lt_top_iff_ne_top, Finset.fold_max_lt]
  exact ⟨bot_lt_top, fun a _ => lt_top_iff_ne_top.mpr (hs a)⟩

theorem real_of (x : EReal) (h1 : x ≠ ⊤) (h2 : x ≠ ⊥) : ∃ r : ℝ, x = (r : EReal) := ⟨x.toReal, (EReal.coe_toReal h1 h2).symm⟩

theorem stepMax_real (s : Fin 256 → EReal) (hs : ∀ a, s a ≠ ⊤) (μ : ℝ) : ∃ ν : ℝ, stepMax s μ = (ν : EReal) := by
  refine real_of _ ?_ ?_
  · unfold stepMax
    rw [← lt_top_iff_ne_top, max_lt_iff]
    exact ⟨EReal.coe_lt_top μ, lt_top_iff_ne_top.mpr (fold_max_ne_top s hs)⟩
  · unfold stepMax
    rw [← bot_lt_iff_ne_bot]
    exact lt_of_lt_of_le (EReal.bot_lt_coe μ) (le_max_left _ _)

/-- The maximum of the first block's scores is real where one of them is. -/
theorem first_real (s : Fin 256 → EReal) (hs : ∀ a, s a ≠ ⊤) (q : Fin 256) (hq : s q ≠ ⊥) : ∃ ν : ℝ, Finset.univ.fold max ⊥ s = (ν : EReal) := by
  refine real_of _ (fold_max_ne_top s hs) ?_
  rw [← bot_lt_iff_ne_bot, Finset.lt_fold_max]
  exact Or.inr ⟨q, Finset.mem_univ _, bot_lt_iff_ne_bot.mpr hq⟩

/-- The weights of the first block and of `n` more. -/
def total (d : Fin 256 → EReal) (s : ℕ → Fin 256 → EReal) (n : ℕ) (μ : ℝ) : EReal :=
  (∑ a, wt (d a) μ) + ∑ k ∈ Finset.range n, ∑ a, wt (s k a) μ

/-- The weighted values of the first block and of `n` more. -/
def weighted (d v0 : Fin 256 → EReal) (s v : ℕ → Fin 256 → EReal) (n : ℕ) (μ : ℝ) : EReal :=
  (∑ a, v0 a * wt (d a) μ) + ∑ k ∈ Finset.range n, ∑ a, v k a * wt (s k a) μ

section Shift
variable (d v0 : Fin 256 → EReal) (hd : ∀ a, d a ≠ ⊤) (s v : ℕ → Fin 256 → EReal) (hs : ∀ k a, s k a ≠ ⊤)

include hd hs in
theorem total_shift (n : ℕ) (μ ν : ℝ) : ((Real.exp (μ - ν) : ℝ) : EReal) * total d s n μ = total d s n ν := by
  have h0 := (Real.exp_pos (μ - ν)).le
  unfold total
  rw [coe_mul_add _ _ _ h0, coe_mul_sum _ _ _ h0, coe_mul_sum _ _ _ h0]
  refine congrArg₂ (· + ·) (Finset.sum_congr rfl fun a _ => wt_shift _ (hd a) μ ν) (Finset.sum_congr rfl fun k _ => ?_)
  rw [coe_mul_sum _ _ _ h0]
  exact Finset.sum_congr rfl fun a _ => wt_shift _ (hs k a) μ ν

include hd hs in
theorem weighted_shift (n : ℕ) (μ ν : ℝ) : ((Real.exp (μ - ν) : ℝ) : EReal) * weighted d v0 s v n μ = weighted d v0 s v n ν := by
  have h0 := (Real.exp_pos (μ - ν)).le
  unfold weighted
  rw [coe_mul_add _ _ _ h0, coe_mul_sum _ _ _ h0, coe_mul_sum _ _ _ h0]
  refine congrArg₂ (· + ·) (Finset.sum_congr rfl fun a _ => ?_) (Finset.sum_congr rfl fun k _ => ?_)
  · rw [mul_left_comm, wt_shift _ (hd a) μ ν]
  · rw [coe_mul_sum _ _ _ h0]
    refine Finset.sum_congr rfl fun a _ => ?_
    rw [mul_left_comm, wt_shift _ (hs k a) μ ν]

include hd hs in
/-- After `n` blocks the running maximum is real, and the sum and the accumulator are the weights and the weighted values at it. -/
theorem run_closed (q : Fin 256) (hq : d q ≠ ⊥) (n : ℕ) :
    ∃ μ : ℝ, runMax s (Finset.univ.fold max ⊥ d) n = (μ : EReal)
      ∧ runSum s (Finset.univ.fold max ⊥ d) (∑ a, Ideal.exp (d a - Finset.univ.fold max ⊥ d)) n = total d s n μ
      ∧ runAcc s v (Finset.univ.fold max ⊥ d) (∑ a, v0 a * Ideal.exp (d a - Finset.univ.fold max ⊥ d)) n = weighted d v0 s v n μ := by
  induction n with
  | zero =>
    obtain ⟨μ, e⟩ := first_real d hd q hq
    refine ⟨μ, e, ?_, ?_⟩
    · simp [runSum, total, wt, e]
    · simp [runAcc, weighted, wt, e]
  | succ n ih =>
    obtain ⟨μ, e, el, ex⟩ := ih
    obtain ⟨ν, eν⟩ := stepMax_real (s n) (hs n) μ
    have ea : Ideal.exp ((μ : EReal) - ν) = ((Real.exp (μ - ν) : ℝ) : EReal) := by rw [← EReal.coe_sub, Ideal.exp_coe]
    refine ⟨ν, ?_, ?_, ?_⟩
    · rw [runMax, e, eν]
    · rw [runSum, e, el, stepSum, eν, ea, total_shift d hd s hs]
      unfold total
      rw [Finset.sum_range_succ, ← add_assoc]
      rfl
    · rw [runAcc, e, ex, stepAcc, eν, ea, mul_comm, weighted_shift d v0 hd s v hs]
      unfold weighted
      rw [Finset.sum_range_succ, ← add_assoc]
      rfl

include hd hs in
theorem total_pos (q : Fin 256) (hq : d q ≠ ⊥) (n : ℕ) (μ : ℝ) : ∃ l : ℝ, 0 < l ∧ total d s n μ = (l : EReal) := by
  obtain ⟨r1, h1, e1⟩ := sum_real (Finset.univ.erase q) (fun a => wt (d a) μ) fun a _ => wt_real _ (hd a) μ
  obtain ⟨r2, h2, e2⟩ := sum_real (Finset.range n) (fun k => ∑ a, wt (s k a) μ) fun k _ => sum_real _ _ fun a _ => wt_real _ (hs k a) μ
  obtain ⟨x, ex⟩ := real_of _ (hd q) hq
  refine ⟨Real.exp (x - μ) + r1 + r2, by positivity, ?_⟩
  unfold total
  rw [← Finset.add_sum_erase _ _ (Finset.mem_univ q), e1, e2, ex, wt_coe, EReal.coe_add, EReal.coe_add]

/-- A quotient by a positive real, taken term by term. -/
theorem div_sum (l : ℝ) (hl : 0 < l) (f w : Fin 256 → EReal) : (∑ a, f a * w a) * ((1 / l : ℝ) : EReal) = ∑ a, f a * Ideal.div (w a) l := by
  rw [mul_comm, coe_mul_sum _ _ _ (one_div_nonneg.mpr hl.le)]
  refine Finset.sum_congr rfl fun a _ => ?_
  rw [Ideal.div_coe hl.ne', mul_comm, mul_assoc]

include hd hs in
/-- The quotient after `n` blocks, at any shift: the values times their normalised weights. -/
theorem quot_closed (q : Fin 256) (hq : d q ≠ ⊥) (n : ℕ) (ν : ℝ) :
    Ideal.div (runAcc s v (Finset.univ.fold max ⊥ d) (∑ a, v0 a * Ideal.exp (d a - Finset.univ.fold max ⊥ d)) n)
        (runSum s (Finset.univ.fold max ⊥ d) (∑ a, Ideal.exp (d a - Finset.univ.fold max ⊥ d)) n)
      = (∑ a, v0 a * Ideal.div (wt (d a) ν) (total d s n ν)) + ∑ k ∈ Finset.range n, ∑ a, v k a * Ideal.div (wt (s k a) ν) (total d s n ν) := by
  obtain ⟨μ, -, el, ex⟩ := run_closed d v0 hd s v hs q hq n
  obtain ⟨l, hl, e⟩ := total_pos d hd s hs q hq n ν
  have hc := Real.exp_pos (ν - μ)
  have hcl : 0 < Real.exp (ν - μ) * l := mul_pos hc hl
  rw [el, ex, ← total_shift d hd s hs n ν μ, ← weighted_shift d v0 hd s v hs n ν μ, e, ← EReal.coe_mul, Ideal.div_coe hcl.ne']
  have e1 : ((Real.exp (ν - μ) : ℝ) : EReal) * weighted d v0 s v n ν * ((1 / (Real.exp (ν - μ) * l) : ℝ) : EReal)
      = ((1 / l : ℝ) : EReal) * weighted d v0 s v n ν := by
    rw [mul_right_comm, ← EReal.coe_mul]
    congr 2
    field_simp
  rw [e1]
  unfold weighted
  have hi : 0 ≤ 1 / l := one_div_nonneg.mpr hl.le
  rw [coe_mul_add _ _ _ hi, mul_comm, div_sum l hl, coe_mul_sum _ _ _ hi]
  refine congrArg (_ + ·) (Finset.sum_congr rfl fun k _ => ?_)
  rw [mul_comm, div_sum l hl]

end Shift

end Cert.Att

end
-- ==== Proof.Att.Ref.lean ====
/-
  What the reference computes at exact numbers, step by step: heads, blocks of keys and values, gates and the block a
  query lies in.
-/
module

public import proofs.«01_k».proof.Proof.Gen.ReferenceIdeal.Run
public import proofs.«01_k».proof.Proof.Att.Rank
public import proofs.«01_k».proof.Proof.Att.Math
public import Idealize.ShloMosaic.Lib.Pointwise

@[expose] public section

set_option maxRecDepth 16384

noncomputable section

namespace Cert.ReferenceIdeal.Att

open Idealize.ShloMosaic Cert.ReferenceIdeal Cert.ReferenceIdeal.Gen Cert.ReferenceIdeal.Value

variable (V0 : Valuation τ sig (Elt Ideal))

/-- Column `h · 64 + d`. -/
def hd (h : Fin 8) (d : Fin 64) : Fin 512 := ⟨h.val * 64 + d.val, by omega⟩

/-- Row `n · 256 + a` of a sequence. -/
def row (n : Fin 8) (a : Fin 256) : Fin 2048 := ⟨n.val * 256 + a.val, by omega⟩

/-- The queries, the keys and the values. -/
abbrev qs : FVec Ideal S16x2048x512 .f32 := V0 (Proc.devRef .tc main_arg0)
abbrev ks : FVec Ideal S16x2048x512 .f32 := V0 (Proc.devRef .tc main_arg1)
abbrev vs : FVec Ideal S16x2048x512 .f32 := V0 (Proc.devRef .tc main_arg2)

theorem query_at (b : Fin 16) (h : Fin 8) (s : Fin 2048) (d : Fin 64) :
    res_main_v1 V0 (ix4 b h s d) = qs V0 (ix3 b s (hd h d)) := by
  pointwise [res_main_v1, hd]

theorem key_at (b : Fin 16) (h : Fin 8) (n : Fin 8) (a : Fin 256) (d : Fin 64) :
    res_main_v6 V0 (ix5 b h n a d) = ks V0 (ix3 b (row n a) (hd h d)) := by
  pointwise [res_main_v6, hd, row]

theorem value_at (b : Fin 16) (h : Fin 8) (n : Fin 8) (a : Fin 256) (d : Fin 64) :
    res_main_v7 V0 (ix5 b h n a d) = vs V0 (ix3 b (row n a) (hd h d)) := by
  pointwise [res_main_v7, hd, row]

/-- The block a query lies in. -/
def own (s : Fin 2048) : Fin 8 := ⟨s.val / 256, by omega⟩

/-- The block a query lies in, as a word. -/
theorem own_at (s : Fin 2048) : res_main_v13 V0 (ix1 s) = BitVec.ofNat 32 (own s).val := by
  pointwise [res_main_v13, res_main_v12, res_main_call0_v0, res_main_call0_v2]
  revert s
  decide +kernel

/-- Comparing small words compares the numbers. -/
theorem slt_small (a b : ℕ) (ha : a < 4096) (hb : b < 4096) :
    IntOp.cmpi CmpIPredicate.slt (BitVec.ofNat 32 a) (BitVec.ofNat 32 b) = if a < b then 1#1 else 0#1 := by
  have e : (BitVec.ofNat 32 a).slt (BitVec.ofNat 32 b) = decide (a < b) := by
    rw [BitVec.slt_eq_decide, BitVec.toInt_ofNat', BitVec.toInt_ofNat']
    simp only [decide_eq_decide]
    rw [Int.bmod_eq_of_le (by omega) (by omega), Int.bmod_eq_of_le (by omega) (by omega)]
    exact Int.ofNat_lt
  simp [IntOp.cmpi, e]
  by_cases h : a < b <;> simp [h]

theorem sle_small (a b : ℕ) (ha : a < 4096) (hb : b < 4096) :
    IntOp.cmpi CmpIPredicate.sle (BitVec.ofNat 32 a) (BitVec.ofNat 32 b) = if a ≤ b then 1#1 else 0#1 := by
  have e : (BitVec.ofNat 32 a).sle (BitVec.ofNat 32 b) = decide (a ≤ b) := by
    rw [BitVec.sle_eq_decide, BitVec.toInt_ofNat', BitVec.toInt_ofNat']
    simp only [decide_eq_decide]
    rw [Int.bmod_eq_of_le (by omega) (by omega), Int.bmod_eq_of_le (by omega) (by omega)]
    exact Int.ofNat_le
  simp [IntOp.cmpi, e]
  by_cases h : a ≤ b <;> simp [h]

/-- The gate of a block: the query against the mean of the block's keys, where the block lies before the query's own. -/
def gateR (q k : FVec Ideal S16x2048x512 .f32) (b : Fin 16) (h : Fin 8) (s : Fin 2048) (n : Fin 8) : EReal :=
  if n.val < (own s).val then
    ∑ d : Fin 64, q (ix3 b s (hd h d)) * Ideal.div (∑ a : Fin 256, k (ix3 b (row n a) (hd h d))) (Ideal.ofBits .f32 0x43800000#32) else ⊥

theorem gate_at (b : Fin 16) (h : Fin 8) (s : Fin 2048) (n : Fin 8) :
    res_main_v21 V0 (ix4 b h s n) = gateR (qs V0) (ks V0) b h s n := by
  have e : res_main_v21 V0 (ix4 b h s n) = Scalar.select (IntOp.cmpi CmpIPredicate.slt (BitVec.ofNat 32 n.val) (res_main_v13 V0 (ix1 s)))
      (∑ x : Fin 64, @HMul.hMul EReal EReal EReal _ (res_main_v1 V0 (ix4 b h s x)) (Ideal.div (∑ x_1 : Fin 256, (res_main_v6 V0 (ix5 b h n x_1 x) : EReal)) (Ideal.ofBits FTy.f32 1132462080#32)))
      (Ideal.ofBits .f32 0xFF800000#32) := by
    pointwise [res_main_v21]
    rfl
  rw [e, own_at, slt_small _ _ (by omega) (by omega), gateR]
  simp only [query_at, key_at]
  by_cases hn : n.val < (own s).val
  · rw [if_pos hn, if_pos hn]; rfl
  · rw [if_neg hn, if_neg hn]; exact Cert.KernelIdeal.Att.ofBits_bot

/-- The position a stable sort of pairs sends to an entry, read off the second operand. -/
theorem sort2_snd {s : Shape} {d : ℕ} {α β : Type} (cmp : α × β → α × β → BitVec 1) (x : s.Idx → α) (y : s.Idx → β) (hd : d < s.rank) (j : s.Idx) :
    (Host.sort2 s d cmp x y).2 j = y (j.along ⟨d, hd⟩ (sortedFrom (fun k k' => cmp (x (j.along ⟨d, hd⟩ k), y (j.along ⟨d, hd⟩ k))
      (x (j.along ⟨d, hd⟩ k'), y (j.along ⟨d, hd⟩ k')) == 1#1) (j ⟨d, hd⟩))) := by
  unfold Host.sort2
  rw [dif_pos hd]

/-- The positions a top-k of three returns along the last axis. -/
theorem topK_index {α : Type} (gt : α → α → BitVec 1) (x : S16x8x2048x8.Idx → α) (hs : S16x8x2048x8.Slices (fun _ => 0) S16x8x2048x3)
    (b : Fin 16) (h : Fin 8) (s : Fin 2048) (i : Fin 3) :
    (Host.topK S16x8x2048x3 3 gt x hs).2 (ix4 b h s i)
      = BitVec.ofNat 32 (sortedFrom (fun k k' : Fin 8 => gt (x (ix4 b h s k)) (x (ix4 b h s k')) == 1#1) (i.castLE (by decide))).val := by
  have al : ∀ k : Fin 8, Shape.Idx.along (s := S16x8x2048x8) (ix4 b h s (i.castLE (by decide) : Fin 8)) (3 : Fin 4) k = ix4 b h s k := by
    intro k; funext c; fin_cases c <;> rfl
  have ej : ∀ v : S16x8x2048x8.Idx → BitVec 32, extractStridedSlice S16x8x2048x3 (fun _ => 0) v hs (ix4 b h s i) = v (ix4 b h s (i.castLE (by decide) : Fin 8)) := by
    intro v
    refine congrArg v (funext fun c => Fin.ext ?_)
    fin_cases c
    · exact Nat.zero_add _
    · exact Nat.zero_add _
    · exact Nat.zero_add _
    · exact Nat.zero_add _
  show extractStridedSlice S16x8x2048x3 (fun _ => 0) (Host.sort2 S16x8x2048x8 3 (fun l r => gt l.1 r.1) x
    (fun j => if hd : 3 < S16x8x2048x8.rank then iotaInDim S16x8x2048x8 32 ⟨3, hd⟩ j else 0#32)).2 hs (ix4 b h s i) = _
  refine (ej _).trans ((sort2_snd _ _ _ (show 3 < 4 by decide) _).trans ?_)
  exact congrArg (fun f => BitVec.ofNat 32 (sortedFrom f (i.castLE (by decide))).val) (funext fun k => funext fun k' => by
    exact congrArg (· == 1#1) (congrArg₂ gt (congrArg x (al k)) (congrArg x (al k'))))

/-- The blocks the reference selects: the first three in the stable descending order of the gates. -/
def selR (q k : FVec Ideal S16x2048x512 .f32) (b : Fin 16) (h : Fin 8) (s : Fin 2048) (i : Fin 3) : Fin 8 :=
  sortedFrom (Cert.Att.aheadB (gateR q k b h s)) (i.castLE (by decide))

theorem gt_beq (x y : EReal) : (FloatOps.cmpfTotal (F := Ideal) (φ := .f32) .gt x y == 1#1) = decide (y < x) := by
  rw [Ideal.cmpfTotal_def]
  by_cases hxy : y < x
  · simp [Ideal.cmp, CmpDirection.ordered, hxy]
  · simp [Ideal.cmp, CmpDirection.ordered, hxy]

theorem indices_at (b : Fin 16) (h : Fin 8) (s : Fin 2048) (i : Fin 3) :
    res_main_indices V0 (ix4 b h s i) = BitVec.ofNat 32 (selR (qs V0) (ks V0) b h s i).val := by
  refine (topK_index _ _ _ b h s i).trans ?_
  simp only [gate_at]
  rw [selR, ← Cert.Att.sortedFrom_key (gateR (qs V0) (ks V0) b h s) (fun k k' => decide (gateR (qs V0) (ks V0) b h s k' < gateR (qs V0) (ks V0) b h s k)) (fun a b' => decide_eq_true_iff)]
  simp only [gt_beq]

/-- A small word read signed. -/
theorem toInt_small (n : Fin 8) : (BitVec.ofNat 32 n.val).toInt.toNat = n.val := by
  revert n; decide

/-- The reference's read of one block for every query, the block named by a word. -/
theorem take_own (x : FVec Ideal S16x8x8x256x64 .f32) (idx : IVec S16x8x2048x1 32) (b : Fin 16) (h : Fin 8) (s : Fin 2048) (a : Fin 256) (d : Fin 64)
    (n : Fin 8) (hn : idx (ix4 b h s 0) = BitVec.ofNat 32 n.val) :
    Host.gather gather_S16x8x8x256x64_S16x8x2048x1_S16x8x2048x256x64_34_2_01_01_2_3_11125664 x idx (ix5 b h s a d) = x (ix5 b h n a d) := by
  have hs : GatherDims.start gather_S16x8x8x256x64_S16x8x2048x1_S16x8x2048x256x64_34_2_01_01_2_3_11125664 (ix5 b h s a d) idx 2 = n.val := by
    have hi : GatherDims.siIdx gather_S16x8x8x256x64_S16x8x2048x1_S16x8x2048x256x64_34_2_01_01_2_3_11125664 (ix5 b h s a d) ⟨0, by decide⟩ = ix4 b h s 0 := by
      funext c; fin_cases c <;> rfl
    unfold GatherDims.start
    rw [dif_pos (by decide)]
    refine (congrArg (fun w : BitVec 32 => min w.toInt.toNat 7) ((congrArg idx hi).trans hn)).trans ?_
    rw [toInt_small]
    omega
  refine congrArg x (funext fun c => Fin.ext ?_)
  fin_cases c
  · exact (Nat.add_zero _).trans (Nat.zero_add _)
  · exact (Nat.add_zero _).trans (Nat.zero_add _)
  · exact hs
  · exact Nat.zero_add _
  · exact Nat.zero_add _

/-- The reference's read of the three selected blocks for every query. -/
theorem take_sel (x : FVec Ideal S16x8x8x256x64 .f32) (idx : IVec S16x8x2048x3x1 32) (b : Fin 16) (h : Fin 8) (s : Fin 2048) (i : Fin 3) (a : Fin 256)
    (d : Fin 64) (n : Fin 8) (hn : idx (ix5 b h s i 0) = BitVec.ofNat 32 n.val) :
    Host.gather gather_S16x8x8x256x64_S16x8x2048x3x1_S16x8x2048x3x256x64_45_2_01_01_2_4_11125664 x idx (ix6 b h s i a d) = x (ix5 b h n a d) := by
  have hs : GatherDims.start gather_S16x8x8x256x64_S16x8x2048x3x1_S16x8x2048x3x256x64_45_2_01_01_2_4_11125664 (ix6 b h s i a d) idx 2 = n.val := by
    have hi : GatherDims.siIdx gather_S16x8x8x256x64_S16x8x2048x3x1_S16x8x2048x3x256x64_45_2_01_01_2_4_11125664 (ix6 b h s i a d) ⟨0, by decide⟩ = ix5 b h s i 0 := by
      funext c; fin_cases c <;> rfl
    unfold GatherDims.start
    rw [dif_pos (by decide)]
    refine (congrArg (fun w : BitVec 32 => min w.toInt.toNat 7) ((congrArg idx hi).trans hn)).trans ?_
    rw [toInt_small]
    omega
  refine congrArg x (funext fun c => Fin.ext ?_)
  fin_cases c
  · exact (Nat.add_zero _).trans (Nat.zero_add _)
  · exact (Nat.add_zero _).trans (Nat.zero_add _)
  · exact hs
  · exact Nat.zero_add _
  · exact Nat.zero_add _

/-- A block's word, kept from below zero, is itself. -/
theorem wrap_small (n : Fin 8) : Scalar.select (IntOp.cmpi CmpIPredicate.slt (BitVec.ofNat 32 n.val) 0#32)
    (IntOp.addi (BitVec.ofNat 32 n.val) 8#32) (BitVec.ofNat 32 n.val) = BitVec.ofNat 32 n.val := by
  revert n; decide

/-- The block words of the queries' own blocks. -/
def ownIdx : IVec S16x8x2048x1 32 := broadcastInDim S16x8x2048x1 ![0, 1, 2] bcast_S16x8x2048_S16x8x2048x1_0_1_2
  (select (cmpi .slt (res_main_v30 V0) (broadcastInDim S16x8x2048 ![] bcast_S_S16x8x2048 (constantI S_ 32 0#32)))
    (addi (res_main_v30 V0) (broadcastInDim S16x8x2048 ![] bcast_S_S16x8x2048 (constantI S_ 32 8#32))) (res_main_v30 V0))

/-- The block words of the selected blocks. -/
def selIdx : IVec S16x8x2048x3x1 32 := broadcastInDim S16x8x2048x3x1 ![0, 1, 2, 3] bcast_S16x8x2048x3_S16x8x2048x3x1_0_1_2_3
  (select (cmpi .slt (res_main_indices V0) (broadcastInDim S16x8x2048x3 ![] bcast_S_S16x8x2048x3 (constantI S_ 32 0#32)))
    (addi (res_main_indices V0) (broadcastInDim S16x8x2048x3 ![] bcast_S_S16x8x2048x3 (constantI S_ 32 8#32))) (res_main_indices V0))

theorem ownIdx_at (b : Fin 16) (h : Fin 8) (s : Fin 2048) : ownIdx V0 (ix4 b h s 0) = BitVec.ofNat 32 (own s).val := by
  have e : ownIdx V0 (ix4 b h s 0) = Scalar.select (IntOp.cmpi CmpIPredicate.slt (res_main_v13 V0 (ix1 s)) 0#32)
    (IntOp.addi (res_main_v13 V0 (ix1 s)) 8#32) (res_main_v13 V0 (ix1 s)) := by
    pointwise [ownIdx, res_main_v30]
  rw [e, own_at, wrap_small]

theorem selIdx_at (b : Fin 16) (h : Fin 8) (s : Fin 2048) (i : Fin 3) :
    selIdx V0 (ix5 b h s i 0) = BitVec.ofNat 32 (selR (qs V0) (ks V0) b h s i).val := by
  have e : selIdx V0 (ix5 b h s i 0) = Scalar.select (IntOp.cmpi CmpIPredicate.slt (res_main_indices V0 (ix4 b h s i)) 0#32)
    (IntOp.addi (res_main_indices V0 (ix4 b h s i)) 8#32) (res_main_indices V0 (ix4 b h s i)) := by
    pointwise [selIdx]
  rw [e, indices_at, wrap_small]

/-- A query against a key of a block. -/
def dotR (q k : FVec Ideal S16x2048x512 .f32) (b : Fin 16) (h : Fin 8) (s : Fin 2048) (n : Fin 8) (a : Fin 256) : EReal :=
  (∑ d : Fin 64, q (ix3 b s (hd h d)) * k (ix3 b (row n a) (hd h d))) * Ideal.ofBits .f32 0x3E000000#32

/-- The scores of the query's own block. -/
def ownR (q k : FVec Ideal S16x2048x512 .f32) (b : Fin 16) (h : Fin 8) (s : Fin 2048) (a : Fin 256) : EReal :=
  if (own s).val * 256 + a.val ≤ s.val then dotR q k b h s (own s) a else ⊥

/-- The scores of a selected block. -/
def pickR (q k : FVec Ideal S16x2048x512 .f32) (b : Fin 16) (h : Fin 8) (s : Fin 2048) (i : Fin 3) (a : Fin 256) : EReal :=
  if i.val < (own s).val then dotR q k b h s (selR q k b h s i) a else ⊥

/-- Column `256 + i · 256 + a`. -/
def pickCol (i : Fin 3) (a : Fin 256) : Fin 1024 := ⟨i.val * 256 + a.val + 256, by omega⟩

/-- Column `a` of the own block. -/
def ownCol (a : Fin 256) : Fin 1024 := ⟨a.val, by omega⟩

theorem scores_own (b : Fin 16) (h : Fin 8) (s : Fin 2048) (a : Fin 256) :
    res_main_v81 V0 (ix4 b h s (ownCol a)) = ownR (qs V0) (ks V0) b h s a := by
  have e : res_main_v81 V0 (ix4 b h s (ownCol a)) = Scalar.select
        (IntOp.cmpi CmpIPredicate.sle (IntOp.addi (IntOp.muli (res_main_v13 V0 (ix1 s)) 256#32) (BitVec.ofNat 32 a.val)) (BitVec.ofNat 32 s.val))
        ((∑ d : Fin 64, @HMul.hMul EReal EReal EReal _ (res_main_v1 V0 (ix4 b h s d))
              (Host.gather gather_S16x8x8x256x64_S16x8x2048x1_S16x8x2048x256x64_34_2_01_01_2_3_11125664 (res_main_v6 V0) (ownIdx V0) (ix5 b h s a d))) *
          Ideal.ofBits FTy.f32 1040187392#32) (Ideal.ofBits .f32 0xFF800000#32) := by
    have ha : (ownCol a).val < 256 := a.isLt
    pointwise [res_main_v81]
    rw [dif_pos ha]
    rfl
  have w : IntOp.addi (IntOp.muli (BitVec.ofNat 32 (own s).val) 256#32) (BitVec.ofNat 32 a.val) = BitVec.ofNat 32 ((own s).val * 256 + a.val) := by
    show BitVec.ofNat 32 _ * BitVec.ofNat 32 256 + BitVec.ofNat 32 _ = _
    rw [← BitVec.ofNat_mul, ← BitVec.ofNat_add]
  rw [e, own_at, w, sle_small _ _ (by have := (own s).isLt; omega) (by omega), ownR, dotR]
  simp only [query_at, take_own _ _ b h s a _ _ (ownIdx_at V0 b h s), key_at]
  by_cases hn : (own s).val * 256 + a.val ≤ s.val
  · rw [if_pos hn, if_pos hn]; rfl
  · rw [if_neg hn, if_neg hn]; exact Cert.KernelIdeal.Att.ofBits_bot

theorem scores_pick (b : Fin 16) (h : Fin 8) (s : Fin 2048) (i : Fin 3) (a : Fin 256) :
    res_main_v81 V0 (ix4 b h s (pickCol i a)) = pickR (qs V0) (ks V0) b h s i a := by
  have e : res_main_v81 V0 (ix4 b h s (pickCol i a)) = Scalar.select
        (IntOp.cmpi CmpIPredicate.slt (BitVec.ofNat 32 i.val) (res_main_v13 V0 (ix1 s)))
        ((∑ d : Fin 64, @HMul.hMul EReal EReal EReal _ (res_main_v1 V0 (ix4 b h s d))
              (Host.gather gather_S16x8x8x256x64_S16x8x2048x3x1_S16x8x2048x3x256x64_45_2_01_01_2_4_11125664 (res_main_v6 V0) (selIdx V0) (ix6 b h s i a d))) *
          Ideal.ofBits FTy.f32 1040187392#32) (Ideal.ofBits .f32 0xFF800000#32) := by
    have ha : ¬ (pickCol i a).val < 256 := by show ¬ i.val * 256 + a.val + 256 < 256; omega
    have h1 : ((pickCol i a).val - 256) / 256 = i.val := by show (i.val * 256 + a.val + 256 - 256) / 256 = _; omega
    have h2 : ((pickCol i a).val - 256) % 256 = a.val := by show (i.val * 256 + a.val + 256 - 256) % 256 = _; omega
    pointwise [res_main_v81]
    rw [dif_neg ha]
    simp only [h1, h2]
    rfl
  rw [e, own_at, slt_small _ _ (by omega) (by omega), pickR, dotR]
  simp only [query_at, take_sel _ _ b h s i a _ _ (selIdx_at V0 b h s i), key_at]
  by_cases hn : i.val < (own s).val
  · rw [if_pos hn, if_pos hn]; rfl
  · rw [if_neg hn, if_neg hn]; exact Cert.KernelIdeal.Att.ofBits_bot

end Cert.ReferenceIdeal.Att

end
-- ==== Proof.Att.RefOut.lean ====
/-
  The reference's result at exact numbers: for every query and every column, two sums of the values, each weighted by the
  softmax of the query's scores, one over its own block and one over the three selected blocks.
-/
module

public import proofs.«01_k».proof.Proof.Att.Ref

@[expose] public section

set_option maxRecDepth 16384

noncomputable section

namespace Cert.ReferenceIdeal.Att

open Idealize.ShloMosaic Cert.ReferenceIdeal Cert.ReferenceIdeal.Gen Cert.ReferenceIdeal.Value

variable (V0 : Valuation τ sig (Elt Ideal))

/-- A sum over all score columns: the own block's and the selected blocks'. -/
theorem sum_cols (f : Fin 1024 → EReal) : ∑ x, f x = (∑ a, f (ownCol a)) + ∑ i, ∑ a, f (pickCol i a) := by
  have e : (∑ x : Fin (256 + 768), f x) = (∑ a : Fin 256, f (Fin.castAdd 768 a)) + ∑ y : Fin 768, f (Fin.natAdd 256 y) := Fin.sum_univ_add _
  have e2 : (∑ y : Fin 768, f (Fin.natAdd 256 y)) = ∑ i : Fin 3, ∑ a : Fin 256, f (pickCol i a) := by
    rw [← Fintype.sum_prod_type']
    refine (Fintype.sum_equiv (finProdFinEquiv (m := 3) (n := 256)) _ _ fun p => congrArg f (Fin.ext ?_)).symm
    show p.1.val * 256 + p.2.val + 256 = 256 + (p.2.val + 256 * p.1.val)
    omega
  exact e.trans (congrArg₂ (· + ·) rfl e2)

/-- The greatest score of each query. -/
def maxR : FVec Ideal S16x8x2048 .f32 :=
  Host.reduce FloatOps.maximumf (res_main_v81 V0) (constant S_ .f32 0xFF800000#32) reducesTo_S16x8x2048x1024_S16x8x2048_d3 h_S_

/-- The shift of the softmax: the greatest score. -/
def shiftR (b : Fin 16) (h : Fin 8) (s : Fin 2048) : EReal := max (Ideal.ofBits FTy.f32 4286578688#32) (maxR V0 (ix3 b h s))

/-- The total of the exponentials. -/
def totalR (b : Fin 16) (h : Fin 8) (s : Fin 2048) (ν : EReal) : EReal :=
  (∑ a, Ideal.exp (ownR (qs V0) (ks V0) b h s a - ν)) + ∑ i, ∑ a, Ideal.exp (pickR (qs V0) (ks V0) b h s i a - ν)

theorem exp_shift (S : FVec Ideal S16x8x2048x1024 .f32) (M : FVec Ideal S16x8x2048 .f32) (b : Fin 16) (h : Fin 8) (s : Fin 2048) (x : Fin 1024) :
    Host.exp (subf S (broadcastInDim S16x8x2048x1024 ![0, 1, 2, 3] bcast_S16x8x2048x1_S16x8x2048x1024_0_1_2_3 (broadcastInDim S16x8x2048x1 ![0, 1, 2] bcast_S16x8x2048_S16x8x2048x1_0_1_2 (maximumf (broadcastInDim S16x8x2048 ![] bcast_S_S16x8x2048 (constant S_ .f32 0xFF800000#32)) M)))) (ix4 b h s x)
      = Ideal.exp (S (ix4 b h s x) - max (Ideal.ofBits FTy.f32 4286578688#32) (M (ix3 b h s)) : EReal) := by
  pointwise []

theorem exp_at (b : Fin 16) (h : Fin 8) (s : Fin 2048) (x : Fin 1024) :
    res_main_v88 V0 (ix4 b h s x) = Ideal.exp (@HSub.hSub EReal EReal EReal _ (res_main_v81 V0 (ix4 b h s x)) (shiftR V0 b h s)) :=
  exp_shift (res_main_v81 V0) (maxR V0) b h s x

theorem probs_at (b : Fin 16) (h : Fin 8) (s : Fin 2048) (x : Fin 1024) :
    res_main_v92 V0 (ix4 b h s x) = Ideal.div (Ideal.exp (@HSub.hSub EReal EReal EReal _ (res_main_v81 V0 (ix4 b h s x)) (shiftR V0 b h s)))
      (totalR V0 b h s (shiftR V0 b h s)) := by
  have e : res_main_v92 V0 (ix4 b h s x) = Ideal.div (res_main_v88 V0 (ix4 b h s x)) (∑ x : Fin 1024, (res_main_v88 V0 (ix4 b h s x) : EReal)) := by
    pointwise [res_main_v92]
  simp only [exp_at V0 b h s] at e
  rw [e]
  refine congrArg (Ideal.div _) ((sum_cols _).trans (congrArg₂ (· + ·) (Finset.sum_congr rfl fun a _ => ?_)
    (Finset.sum_congr rfl fun i _ => Finset.sum_congr rfl fun a _ => ?_)))
  · exact congrArg (fun y : EReal => Ideal.exp (y - shiftR V0 b h s)) (scores_own V0 b h s a)
  · exact congrArg (fun y : EReal => Ideal.exp (y - shiftR V0 b h s)) (scores_pick V0 b h s i a)

/-- The weights and the values, at their shapes. -/
def probs : FVec Ideal S16x8x2048x1024 .f32 := res_main_v92 V0
def vals : FVec Ideal S16x8x8x256x64 .f32 := res_main_v7 V0

/-- The reference's result. -/
def outR : FVec Ideal S32768x512 .bf16 := truncf .bf16 (shapeCast S32768x512 (transpose S16x2048x8x64 [0, 2, 1, 3] (addf (Host.dotGeneral (F := Ideal) (φ₁ := .f32) (φ₂ := .f32) dot_S16x8x2048x256_S16x8x2048x256x64_S16x8x2048x64_3_3_n_4_012_012 none (extractStridedSlice S16x8x2048x256 ![0, 0, 0, 0] (probs V0) slices_S16x8x2048x1024_S16x8x2048x256_0_0_0_0) (Host.gather gather_S16x8x8x256x64_S16x8x2048x1_S16x8x2048x256x64_34_2_01_01_2_3_11125664 (vals V0) (ownIdx V0))) (Host.dotGeneral (F := Ideal) (φ₁ := .f32) (φ₂ := .f32) dot_S16x8x2048x3x256_S16x8x2048x3x256x64_S16x8x2048x64_43_43_n_5_012_012 none (shapeCast S16x8x2048x3x256 (extractStridedSlice S16x8x2048x768 ![0, 0, 0, 256] (probs V0) slices_S16x8x2048x1024_S16x8x2048x768_0_0_0_256) shapeCasts_S16x8x2048x768_S16x8x2048x3x256) (Host.gather gather_S16x8x8x256x64_S16x8x2048x3x1_S16x8x2048x3x256x64_45_2_01_01_2_4_11125664 (vals V0) (selIdx V0)))) transposes_S16x8x2048x64_S16x2048x8x64_0_2_1_3) shapeCasts_S16x2048x8x64_S32768x512) bitsLt_bf16_f32

/-- The result before the heads are joined. -/
def valR (b : Fin 16) (h : Fin 8) (s : Fin 2048) (d : Fin 64) : EReal :=
  (∑ a, Ideal.div (Ideal.exp (ownR (qs V0) (ks V0) b h s a - shiftR V0 b h s)) (totalR V0 b h s (shiftR V0 b h s)) * vs V0 (ix3 b (row (own s) a) (hd h d)))
  + ∑ i, ∑ a, Ideal.div (Ideal.exp (pickR (qs V0) (ks V0) b h s i a - shiftR V0 b h s)) (totalR V0 b h s (shiftR V0 b h s))
      * vs V0 (ix3 b (row (selR (qs V0) (ks V0) b h s i) a) (hd h d))

theorem out_at (r : Fin 32768) (x : Fin 512) :
    outR V0 (ix2 r x) = valR V0 ⟨r.val / 2048, by omega⟩ ⟨x.val / 64, by omega⟩ ⟨r.val % 2048, by omega⟩ ⟨x.val % 64, by omega⟩ := by
  have e : ∀ (b : Fin 16) (h : Fin 8) (s : Fin 2048) (d : Fin 64), ⟨r.val / 2048, by omega⟩ = b → ⟨x.val / 64, by omega⟩ = h → ⟨r.val % 2048, by omega⟩ = s → ⟨x.val % 64, by omega⟩ = d →
    outR V0 (ix2 r x) = @HAdd.hAdd EReal EReal EReal _ (∑ a : Fin 256, @HMul.hMul EReal EReal EReal _ (probs V0 (ix4 b h s (ownCol a)))
        (Host.gather gather_S16x8x8x256x64_S16x8x2048x1_S16x8x2048x256x64_34_2_01_01_2_3_11125664 (vals V0) (ownIdx V0) (ix5 b h s a d)))
      (∑ i : Fin 3, ∑ a : Fin 256, @HMul.hMul EReal EReal EReal _ (probs V0 (ix4 b h s (pickCol i a)))
        (Host.gather gather_S16x8x8x256x64_S16x8x2048x3x1_S16x8x2048x3x256x64_45_2_01_01_2_4_11125664 (vals V0) (selIdx V0) (ix6 b h s i a d))) := by
    intro b h s d hb hh hs hd
    pointwise [outR]
    simp only [hb, hh, hs, hd]
    refine congrArg₂ (· + ·) rfl ?_
    rw [Finset.sum_comm]
    refine Finset.sum_congr rfl fun i _ => Finset.sum_congr rfl fun a _ => ?_
    refine congrArg (fun y : Fin 1024 => @HMul.hMul EReal EReal EReal _ (probs V0 (ix4 b h s y)) _) (Fin.ext ?_)
    show 256 + (i.val * 256 + a.val) = i.val * 256 + a.val + 256
    omega
  rw [e ⟨r.val / 2048, by omega⟩ ⟨x.val / 64, by omega⟩ ⟨r.val % 2048, by omega⟩ ⟨x.val % 64, by omega⟩ rfl rfl rfl rfl, valR]
  simp only [probs, vals, probs_at, scores_own, scores_pick, take_own _ _ _ _ _ _ _ _ (ownIdx_at V0 _ _ _), take_sel _ _ _ _ _ _ _ _ _ (selIdx_at V0 _ _ _ _), value_at]

end Cert.ReferenceIdeal.Att

end
-- ==== Proof.Att.Blocks.lean ====
/-
  The two softmaxes over the same selected blocks: the running one over every earlier block, with a bias that shuts out all
  but the three best, and the plain one over the own block and the three best.
-/
module

public import proofs.«01_k».proof.Proof.Att.Math

@[expose] public section

set_option maxRecDepth 16384

noncomputable section

namespace Cert.Att

open Idealize.ShloMosaic Cert.KernelIdeal.Att

theorem sum_range_eight (j : ℕ) (hj : j ≤ 8) (f : ℕ → EReal) : ∑ k ∈ Finset.range j, f k = ∑ n : Fin 8, if n.val < j then f n.val else 0 := by
  rw [Fin.sum_univ_eq_sum_range (fun n => if n < j then f n else 0) 8, ← Finset.sum_filter]
  refine Finset.sum_congr ?_ fun _ _ => rfl
  ext k
  simp only [Finset.mem_range, Finset.mem_filter]
  omega

theorem blkN_val (n : Fin 8) : blkN n.val = n := Fin.ext (Nat.mod_eq_of_lt n.isLt)

section Selected
variable (j : ℕ) (hj : j ≤ 8) (gK gR : Fin 8 → EReal) (h1 : ∀ n : Fin 8, n.val < j → gR n ≠ ⊥) (h2 : ∀ n : Fin 8, ¬ n.val < j → gR n = ⊥)
  (hg : ∀ n : Fin 8, rankOf gK n = rankOf gR n) (S V : Fin 8 → Fin 256 → EReal)

/-- The best block number `i`. -/
def sel (i : Fin 3) : Fin 8 := sortedFrom (aheadB gR) (i.castLE (by decide))

/-- The scores of the best block number `i`, where there is one. -/
def pick (i : Fin 3) (a : Fin 256) : EReal := if i.val < j then S (sel gR i) a else ⊥

/-- The scores of a block, with the bias added. -/
def biased (n : Fin 8) (a : Fin 256) : EReal := S n a + if n.val < j ∧ rankOf gK n < 3 then 0 else ⊥

include hj h1 h2 hg in
/-- Summed over the earlier blocks, what vanishes where the score is shut out is summed over the best blocks. -/
theorem sum_biased (F : EReal → Fin 8 → Fin 256 → EReal) (hF : ∀ n a, F ⊥ n a = 0) :
    ∑ k ∈ Finset.range j, ∑ a, F (biased j gK S (blkN k) a) (blkN k) a = ∑ i : Fin 3, ∑ a, F (pick j gR S i a) (sel gR i) a := by
  have e := sum_selected gR j hj h1 h2 fun n => ∑ a, F (S n a) n a
  rw [sum_range_eight j hj]
  refine Eq.trans (Finset.sum_congr rfl fun n _ => ?_) (e.symm.trans (Finset.sum_congr rfl fun i _ => ?_))
  · rw [blkN_val]
    by_cases hn : n.val < j
    · by_cases hr : rankOf gR n < 3
      · simp [biased, hn, hr, hg]
      · simp [biased, hn, hr, hg, hF]
    · simp [hn]
  · by_cases hi : i.val < j
    · simp [pick, sel, hi]
    · simp [pick, hi, hF]

variable (d v0 : Fin 256 → EReal) (hd : ∀ a, d a ≠ ⊤) (hS : ∀ n a, S n a ≠ ⊤) (q : Fin 256) (hq : d q ≠ ⊥)

/-- The softmax's denominator over the own block and the best blocks. -/
def denom (ν : EReal) : EReal := (∑ a, Ideal.exp (d a - ν)) + ∑ i : Fin 3, ∑ a, Ideal.exp (pick j gR S i a - ν)

include hj h1 h2 hg hd hS hq in
/-- The running softmax's quotient is the plain softmax of the own block and the best blocks, at any real shift. -/
theorem running_plain (ν : ℝ) :
    Ideal.div (runAcc (fun k => biased j gK S (blkN k)) (fun k => V (blkN k)) (Finset.univ.fold max ⊥ d) (∑ a, v0 a * Ideal.exp (d a - Finset.univ.fold max ⊥ d)) j)
        (runSum (fun k => biased j gK S (blkN k)) (Finset.univ.fold max ⊥ d) (∑ a, Ideal.exp (d a - Finset.univ.fold max ⊥ d)) j)
      = (∑ a, Ideal.div (Ideal.exp (d a - ν)) (denom j gR S d ν) * v0 a)
        + ∑ i : Fin 3, ∑ a, Ideal.div (Ideal.exp (pick j gR S i a - ν)) (denom j gR S d ν) * V (sel gR i) a := by
  have hs : ∀ k a, biased j gK S (blkN k) a ≠ ⊤ := by
    intro k a
    unfold biased
    split
    · rw [add_zero]; exact hS _ _
    · rw [EReal.add_bot]; exact bot_ne_top
  have ht : total d (fun k => biased j gK S (blkN k)) j ν = denom j gR S d ν := by
    unfold total denom
    exact congrArg (_ + ·) (sum_biased j hj gK gR h1 h2 hg S (fun x _ _ => wt x ν) fun _ _ => wt_bot ν)
  obtain ⟨l, hl, el⟩ := total_pos d hd (fun k => biased j gK S (blkN k)) hs q hq j ν
  rw [quot_closed d v0 hd (fun k => biased j gK S (blkN k)) (fun k => V (blkN k)) hs q hq j ν, ht]
  refine congrArg₂ (· + ·) (Finset.sum_congr rfl fun a _ => mul_comm _ _)
    ((sum_biased j hj gK gR h1 h2 hg S (fun x n a => V n a * Ideal.div (wt x ν) (denom j gR S d ν)) fun n a => ?_).trans
      (Finset.sum_congr rfl fun i _ => Finset.sum_congr rfl fun a _ => mul_comm _ _))
  rw [wt_bot, ← ht, el, Ideal.div_coe hl.ne', zero_mul, mul_zero]

end Selected

/-! ## Scaling by a positive real -/

theorem mul_lt_iff (c : ℝ) (hc : 0 < c) (x y : EReal) : x * (c : EReal) < y * (c : EReal) ↔ x < y := by
  induction x using EReal.rec <;> induction y using EReal.rec <;>
    simp [EReal.bot_mul_coe_of_pos hc, EReal.top_mul_coe_of_pos hc, ← EReal.coe_mul, EReal.coe_lt_coe_iff, hc]

theorem mul_eq_iff (c : ℝ) (hc : 0 < c) (x y : EReal) : x * (c : EReal) = y * (c : EReal) ↔ x = y := by
  constructor
  · intro h
    by_contra hn
    rcases lt_or_gt_of_ne hn with h' | h'
    · exact absurd h (((mul_lt_iff c hc _ _).mpr h').ne)
    · exact absurd h (((mul_lt_iff c hc _ _).mpr h').ne')
  · rintro rfl; rfl

/-- Ranks do not change when every gate is scaled by a positive real. -/
theorem rank_scaled (c : ℝ) (hc : 0 < c) (g : Fin 8 → EReal) (n : Fin 8) : rankOf (fun n => g n * (c : EReal)) n = rankOf g n := by
  have e : ∀ m n, Ahead (fun n => g n * (c : EReal)) m n ↔ Ahead g m n := fun m n => by
    unfold Ahead
    rw [mul_lt_iff c hc, mul_eq_iff c hc]
  classical
  unfold rankOf
  exact congrArg Finset.card (Finset.filter_congr fun m _ => e m n)

/-- A factor common to real products moves out of the sum. -/
theorem scale_dot (f g : Fin 64 → EReal) (c : ℝ) (hf : ∀ d, ∃ r : ℝ, f d = (r : EReal)) (hg : ∀ d, ∃ r : ℝ, g d = (r : EReal)) :
    ∑ d, g d * (f d * (c : EReal)) = (∑ d, f d * g d) * (c : EReal) := by
  choose x hx using hf
  choose y hy using hg
  have e : ∀ z : Fin 64 → ℝ, ∑ d, ((z d : ℝ) : EReal) = ((∑ d, z d : ℝ) : EReal) := fun z => (map_sum (⟨⟨fun r : ℝ => (r : EReal), EReal.coe_zero⟩, EReal.coe_add⟩ : ℝ →+ EReal) z Finset.univ).symm
  simp only [hx, hy, ← EReal.coe_mul, e, Finset.sum_mul]
  exact congrArg _ (Finset.sum_congr rfl fun d _ => by ring)

/-- A sum of products of reals is one. -/
theorem dot_real {ι : Type} [Fintype ι] (f g : ι → EReal) (hf : ∀ d, ∃ r : ℝ, f d = (r : EReal)) (hg : ∀ d, ∃ r : ℝ, g d = (r : EReal)) :
    ∃ r : ℝ, ∑ d, f d * g d = (r : EReal) := by
  choose x hx using hf
  choose y hy using hg
  refine ⟨∑ d, x d * y d, ?_⟩
  simp only [hx, hy, ← EReal.coe_mul]
  exact (map_sum (⟨⟨fun r : ℝ => (r : EReal), EReal.coe_zero⟩, EReal.coe_add⟩ : ℝ →+ EReal) _ Finset.univ).symm

theorem real_sum {ι : Type} [Fintype ι] (f : ι → EReal) (hf : ∀ d, ∃ r : ℝ, f d = (r : EReal)) : ∃ r : ℝ, ∑ d, f d = (r : EReal) := by
  choose x hx using hf
  refine ⟨∑ d, x d, ?_⟩
  simp only [hx]
  exact (map_sum (⟨⟨fun r : ℝ => (r : EReal), EReal.coe_zero⟩, EReal.coe_add⟩ : ℝ →+ EReal) _ Finset.univ).symm

end Cert.Att

end
-- ==== Proof.Att.Finite.lean ====
/-
  The precondition read at exact numbers: every query and every key is a real number. With it, facts of the folds by
  which a host reduction is stated.
-/
module

public import proofs.«01_k».proof.Proof.Gen.Pre_finite_scores
public import Idealize.ShloMosaic.Lib.Pointwise

@[expose] public section

set_option maxRecDepth 16384

noncomputable section

namespace Cert.Att

open Idealize.ShloMosaic Idealize.ShloMosaic.TcCoe

/-! ## Folds over lists -/

theorem foldl_max_lt {β : Type} (l : List β) (f : β → EReal) (c : EReal) : ∀ a : EReal, a < c → (∀ n ∈ l, f n < c) → l.foldl (fun r n => max r (f n)) a < c := by
  induction l with
  | nil => exact fun a ha _ => ha
  | cons x l ih => exact fun a ha hf => ih _ (max_lt ha (hf x List.mem_cons_self)) fun n hn => hf n (List.mem_cons_of_mem _ hn)

theorem le_foldl_max {β : Type} (l : List β) (f : β → EReal) : ∀ a : EReal, a ≤ l.foldl (fun r n => max r (f n)) a ∧ ∀ n ∈ l, f n ≤ l.foldl (fun r n => max r (f n)) a := by
  induction l with
  | nil => exact fun a => ⟨le_rfl, fun n hn => absurd hn List.not_mem_nil⟩
  | cons x l ih =>
    intro a
    obtain ⟨h1, h2⟩ := ih (max a (f x))
    refine ⟨(le_max_left _ _).trans h1, fun n hn => ?_⟩
    rcases List.mem_cons.mp hn with rfl | hn
    · exact (le_max_right _ _).trans h1
    · exact h2 n hn

theorem and_one : ∀ a b : BitVec 1, IntOp.andi a b = 1#1 → a = 1#1 ∧ b = 1#1 := by decide

theorem foldl_and {β : Type} (l : List β) (f : β → BitVec 1) : ∀ a : BitVec 1, l.foldl (fun r n => IntOp.andi r (f n)) a = 1#1 → a = 1#1 ∧ ∀ n ∈ l, f n = 1#1 := by
  induction l with
  | nil => exact fun a h => ⟨h, fun n hn => absurd hn List.not_mem_nil⟩
  | cons x l ih =>
    intro a h
    obtain ⟨h1, h2⟩ := ih _ h
    obtain ⟨h3, h4⟩ := and_one _ _ h1
    refine ⟨h3, fun n hn => ?_⟩
    rcases List.mem_cons.mp hn with rfl | hn
    · exact h4
    · exact h2 n hn

/-! ## The precondition -/

/-- An array all of whose magnitudes lie below infinity holds real numbers. -/
theorem finite_of_all (q : FVec Ideal Cert.Pre_finite_scores.S16x2048x512 .f32) (hb hr hu)
    (h : Host.reduce IntOp.andi (cmpf .olt (Host.absf q) (broadcastInDim Cert.Pre_finite_scores.S16x2048x512 ![] hb (constant Cert.Pre_finite_scores.S_ .f32 0x7F800000#32)))
      (constantI Cert.Pre_finite_scores.S_ 1 1#1) (t := Cert.Pre_finite_scores.S_) (axes := [0, 1, 2]) hr hu ix0 = 1#1) (i : Cert.Pre_finite_scores.S16x2048x512.Idx) :
    (q i : EReal) ≠ ⊤ ∧ (q i : EReal) ≠ ⊥ := by
  have h1 := (foldl_and _ _ _ h).2 (Cert.Pre_finite_scores.S16x2048x512.rowMajor i)
    (List.mem_filter.mpr ⟨List.mem_finRange _, decide_eq_true (funext fun a => a.elim0)⟩)
  rw [Equiv.symm_apply_apply] at h1
  have h2 : (max (q i : EReal) (-(q i : EReal))) < ⊤ := by
    by_contra hn
    have h3 : Ideal.cmp .olt (max (q i : EReal) (-(q i : EReal))) (Ideal.ofBits .f32 0x7F800000#32) = 1#1 := h1
    have h4 : Ideal.ofBits .f32 0x7F800000#32 = (⊤ : EReal) := by simp [Ideal.ofBits, Ideal.ieee]
    rw [h4] at h3
    simp [Ideal.cmp, hn] at h3
  refine ⟨fun e => ?_, fun e => ?_⟩ <;> simp [e] at h2

/-- Under the precondition every query and every key is a real number. -/
theorem finite_of_pre (q k v : FVec Ideal Cert.Pre_finite_scores.S16x2048x512 .f32) (h : Cert.Pre_finite_scores.fn (F := Ideal) q k v = fun _ => 1#1) :
    (∀ i, (q i : EReal) ≠ ⊤ ∧ (q i : EReal) ≠ ⊥) ∧ ∀ i, (k i : EReal) ≠ ⊤ ∧ (k i : EReal) ≠ ⊥ := by
  obtain ⟨h1, h2⟩ := and_one _ _ (congrFun h ix0)
  exact ⟨finite_of_all q _ _ _ h1, finite_of_all k _ _ _ h2⟩

end Cert.Att

end
-- ==== Proof.Att.Equal.lean ====
/-
  One entry of the kernel's result and the same entry of the reference's, as functions of the queries, keys and values:
  they are equal when queries and keys are real.
-/
module

public import proofs.«01_k».proof.Proof.Att.Block
public import proofs.«01_k».proof.Proof.Att.RefOut
public import proofs.«01_k».proof.Proof.Att.Blocks
public import proofs.«01_k».proof.Proof.Att.Finite

@[expose] public section

set_option maxRecDepth 16384

noncomputable section

namespace Cert.ReferenceIdeal.Att

open Idealize.ShloMosaic Cert.ReferenceIdeal Cert.ReferenceIdeal.Gen Cert.ReferenceIdeal.Value
open Cert.KernelIdeal.Att (outOf ownS ownM dotKQ gateOf biasOf blockS sc blkN)
open Cert.Att (real_of scale_dot dot_real real_sum running_plain rankOf biased rank_scaled)

/-- The scale is an eighth. -/
theorem ofBits_eighth : Ideal.ofBits .f32 0x3E000000#32 = ((1 / 8 : ℝ) : EReal) := by
  simp [Ideal.ofBits, Ideal.ieee, -EReal.coe_mul]; norm_num

/-- The length of a block is 256. -/
theorem ofBits_block : Ideal.ofBits .f32 0x43800000#32 = ((256 : ℝ) : EReal) := by
  simp [Ideal.ofBits, Ideal.ieee, -EReal.coe_mul]; norm_num

section
variable (q k v : FVec Ideal S16x2048x512 .f32) (hq : ∀ i, (q i : EReal) ≠ ⊤ ∧ (q i : EReal) ≠ ⊥) (hk : ∀ i, (k i : EReal) ≠ ⊤ ∧ (k i : EReal) ≠ ⊥)
  (b : Fin 16) (h : Fin 8) (s : Fin 2048)

include hq hk in
theorem dotR_real (n : Fin 8) (a : Fin 256) : ∃ r : ℝ, dotR q k b h s n a = (r : EReal) := by
  obtain ⟨r, e⟩ := dot_real (fun d : Fin 64 => (q (ix3 b s (hd h d)) : EReal)) (fun d => k (ix3 b (row n a) (hd h d)))
    (fun d => real_of _ (hq _).1 (hq _).2) (fun d => real_of _ (hk _).1 (hk _).2)
  refine ⟨r * (1 / 8), ?_⟩
  unfold dotR
  rw [ofBits_eighth, EReal.coe_mul]
  exact congrArg (· * ((1 / 8 : ℝ) : EReal)) e

include hk in
theorem mean_real (n : Fin 8) (x : Fin 512) : ∃ r : ℝ, Ideal.div (∑ a : Fin 256, (k (ix3 b (row n a) x) : EReal)) (Ideal.ofBits .f32 0x43800000#32) = (r : EReal) := by
  obtain ⟨r, e⟩ := real_sum (fun a : Fin 256 => (k (ix3 b (row n a) x) : EReal)) fun a => real_of _ (hk _).1 (hk _).2
  refine ⟨r * (1 / 256), ?_⟩
  rw [e, ofBits_block, Ideal.div_coe (by norm_num), EReal.coe_mul]

include hq hk in
theorem gateR_real (n : Fin 8) (hn : n.val < (own s).val) : ∃ r : ℝ, gateR q k b h s n = (r : EReal) := by
  unfold gateR
  rw [if_pos hn]
  exact dot_real (fun d : Fin 64 => (q (ix3 b s (hd h d)) : EReal)) _ (fun d => real_of _ (hq _).1 (hq _).2) fun d => mean_real k hk b n (hd h d)

include hq hk in
theorem ownR_top (a : Fin 256) : ownR q k b h s a ≠ ⊤ := by
  unfold ownR
  obtain ⟨r, e⟩ := dotR_real q k hq hk b h s (own s) a
  split
  · rw [e]; exact EReal.coe_ne_top r
  · exact bot_ne_top

include hq hk in
theorem pickR_top (i : Fin 3) (a : Fin 256) : pickR q k b h s i a ≠ ⊤ := by
  unfold pickR
  obtain ⟨r, e⟩ := dotR_real q k hq hk b h s (selR q k b h s i) a
  split
  · rw [e]; exact EReal.coe_ne_top r
  · exact bot_ne_top

include hq hk in
/-- A query sees its own key. -/
theorem ownR_bot (a : Fin 256) (ha : s.val = (own s).val * 256 + a.val) : ownR q k b h s a ≠ ⊥ := by
  unfold ownR
  obtain ⟨r, e⟩ := dotR_real q k hq hk b h s (own s) a
  rw [if_pos ha.ge, e]
  exact EReal.coe_ne_bot r

include hq hk in
/-- The kernel's entry is the reference's, at any real shift. -/
theorem entry_eq (d : Fin 64) (q0 : Fin 256) (hs : s.val = (own s).val * 256 + q0.val)
    (Q : Cert.KernelIdeal.S256x512.Idx → EReal) (K : Cert.KernelIdeal.S2048x512.Idx → EReal) (W : Cert.KernelIdeal.S8x512x256.Idx → EReal) (M : Cert.KernelIdeal.S8x1x512.Idx → EReal)
    (hQ : ∀ x, Q (ix2 q0 x) = @HMul.hMul EReal EReal EReal _ (q (ix3 b s x)) (Ideal.ofBits .f32 0x3E000000#32))
    (hK : ∀ n a x, K (ix2 (row n a) x) = k (ix3 b (row n a) x))
    (hW : ∀ n a x, W (ix3 n x a) = v (ix3 b (row n a) x))
    (hM : ∀ n x, M (ix3 n 0 x) = Ideal.div (∑ a : Fin 256, (k (ix3 b (row n a) x) : EReal)) (Ideal.ofBits .f32 0x43800000#32)) (ν : ℝ) :
    outOf Q K W M (own s) h d q0
      = (∑ a, Ideal.div (Ideal.exp (ownR q k b h s a - ν)) ((∑ a, Ideal.exp (ownR q k b h s a - ν)) + ∑ i, ∑ a, Ideal.exp (pickR q k b h s i a - ν))
          * (v (ix3 b (row (own s) a) (hd h d)) : EReal))
        + ∑ i, ∑ a, Ideal.div (Ideal.exp (pickR q k b h s i a - ν)) ((∑ a, Ideal.exp (ownR q k b h s a - ν)) + ∑ i, ∑ a, Ideal.exp (pickR q k b h s i a - ν))
          * (v (ix3 b (row (selR q k b h s i) a) (hd h d)) : EReal) := by
  have eD : ∀ n a, dotKQ K Q h n a q0 = dotR q k b h s n a := fun n a => by
    unfold dotKQ dotR
    rw [ofBits_eighth]
    refine (Finset.sum_congr rfl fun x _ => congrArg₂ _ (hK n a (hd h x)) (hQ (hd h x))).trans ?_
    rw [ofBits_eighth]
    exact scale_dot _ _ _ (fun d => real_of _ (hq _).1 (hq _).2) fun d => real_of _ (hk _).1 (hk _).2
  have eO : ownS K Q (own s) h q0 = ownR q k b h s := funext fun a => by
    unfold ownS ownR
    rw [eD]
    refine if_congr ?_ rfl rfl
    rw [Fin.le_def]
    omega
  have eG : gateOf M Q (own s) h q0 = fun n => gateR q k b h s n * ((1 / 8 : ℝ) : EReal) := funext fun n => by
    unfold gateOf gateR
    by_cases hn : n < own s
    · rw [if_pos hn, if_pos (Fin.lt_def.mp hn)]
      refine (Finset.sum_congr rfl fun x _ => congrArg₂ _ (hM n (hd h x)) (hQ (hd h x))).trans ?_
      rw [ofBits_eighth]
      exact scale_dot _ _ _ (fun d => real_of _ (hq _).1 (hq _).2) fun d => mean_real k hk b n (hd h d)
    · rw [if_neg hn, if_neg fun h' => hn (Fin.lt_def.mpr h'), EReal.bot_mul_coe_of_pos (by norm_num)]
  have eS : blockS K Q (biasOf M Q (own s)) h q0 = fun t => biased (own s).val (gateOf M Q (own s) h q0) (dotR q k b h s) (blkN t) := funext fun t => funext fun a => by
    unfold blockS sc biased
    rw [eD]
    rfl
  unfold outOf ownM
  rw [eO, eS, show (fun n a => W (ix3 (blkN n) (Cert.KernelIdeal.Att.hd h d) a)) = fun n => (fun n a => (v (ix3 b (row n a) (hd h d)) : EReal)) (blkN n) from
    funext fun n => funext fun a => hW (blkN n) a (hd h d)]
  rw [show (fun a => W (ix3 (own s) (Cert.KernelIdeal.Att.hd h d) a) * Ideal.exp (ownR q k b h s a - Finset.univ.fold max ⊥ (ownR q k b h s)))
    = fun a => (v (ix3 b (row (own s) a) (hd h d)) : EReal) * Ideal.exp (ownR q k b h s a - Finset.univ.fold max ⊥ (ownR q k b h s)) from
    funext fun a => congrArg (· * _) (hW (own s) a (hd h d))]
  refine running_plain (own s).val (own s).isLt.le (gateOf M Q (own s) h q0) (gateR q k b h s) (fun n hn => ?_) (fun n hn => ?_) (fun n => ?_) (dotR q k b h s)
    (fun n a => (v (ix3 b (row n a) (hd h d)) : EReal)) (ownR q k b h s) (fun a => (v (ix3 b (row (own s) a) (hd h d)) : EReal)) (ownR_top q k hq hk b h s) (fun n a => ?_) q0 (ownR_bot q k hq hk b h s q0 hs) ν
  · obtain ⟨r, e⟩ := gateR_real q k hq hk b h s n hn
    rw [e]; exact EReal.coe_ne_bot r
  · unfold gateR; rw [if_neg hn]
  · rw [eG]; exact rank_scaled _ (by norm_num) _ n
  · obtain ⟨r, e⟩ := dotR_real q k hq hk b h s n a
    rw [e]; exact EReal.coe_ne_top r

end

/-! ## The reference's shift -/

variable (V0 : Valuation τ sig (Elt Ideal)) (hq : ∀ i, (qs V0 i : EReal) ≠ ⊤ ∧ (qs V0 i : EReal) ≠ ⊥) (hk : ∀ i, (ks V0 i : EReal) ≠ ⊤ ∧ (ks V0 i : EReal) ≠ ⊥)
  (b : Fin 16) (h : Fin 8) (s : Fin 2048)

/-- Every score column is one of the own block or one of a selected block. -/
theorem col_cases (x : Fin 1024) : (∃ a, x = ownCol a) ∨ ∃ i a, x = pickCol i a := by
  by_cases hx : x.val < 256
  · exact Or.inl ⟨⟨x.val, hx⟩, rfl⟩
  · exact Or.inr ⟨⟨x.val / 256 - 1, by omega⟩, ⟨x.val % 256, by omega⟩, Fin.ext (by simp only [pickCol]; omega)⟩

include hq hk in
theorem score_top (x : Fin 1024) : @Ne EReal (res_main_v81 V0 (ix4 b h s x)) ⊤ := by
  rcases col_cases x with ⟨a, rfl⟩ | ⟨i, a, rfl⟩
  · rw [scores_own]; exact ownR_top _ _ hq hk b h s a
  · rw [scores_pick]; exact pickR_top _ _ hq hk b h s i a

/-- A maximum over the last dimension of a four-dimensional array, bounded. -/
theorem reduce_max_bounds (S : FVec Ideal S16x8x2048x1024 .f32) (R : FVec Ideal S16x8x2048 .f32)
    (hR : R = Host.reduce FloatOps.maximumf S (constant S_ .f32 0xFF800000#32) reducesTo_S16x8x2048x1024_S16x8x2048_d3 h_S_)
    (hS : ∀ b h s x, @Ne EReal (S (ix4 b h s x)) ⊤) (x : Fin 1024) :
    @Ne EReal (R (ix3 b h s)) ⊤ ∧ @LE.le EReal _ (S (ix4 b h s x)) (R (ix3 b h s)) := by
  have e0 : Ideal.ofBits FTy.f32 4286578688#32 = (⊥ : EReal) := by simp [Ideal.ofBits, Ideal.ieee]
  rw [hR]
  unfold Host.reduce
  constructor
  · refine ne_of_lt (Cert.Att.foldl_max_lt _ (fun n => (S (S16x8x2048x1024.rowMajor.symm n) : EReal)) ⊤ _ ?_ fun n _ => ?_)
    · exact e0.trans_lt bot_lt_top
    · rw [lt_top_iff_ne_top, eq_ix4 (S16x8x2048x1024.rowMajor.symm n)]
      exact hS _ _ _ _
  · refine le_trans (le_of_eq (congrArg S (Equiv.symm_apply_apply S16x8x2048x1024.rowMajor (ix4 b h s x))).symm)
      ((Cert.Att.le_foldl_max _ (fun n => (S (S16x8x2048x1024.rowMajor.symm n) : EReal)) (Ideal.ofBits FTy.f32 4286578688#32)).2
        (S16x8x2048x1024.rowMajor (ix4 b h s x)) (List.mem_filter.mpr ⟨List.mem_finRange _, decide_eq_true ?_⟩))
    rw [Equiv.symm_apply_apply]
    exact funext fun a => by fin_cases a <;> rfl

include hq hk in
theorem shift_real : ∃ ν : ℝ, shiftR V0 b h s = (ν : EReal) := by
  have e0 : Ideal.ofBits FTy.f32 4286578688#32 = (⊥ : EReal) := by simp [Ideal.ofBits, Ideal.ieee]
  have hb := reduce_max_bounds b h s (res_main_v81 V0) (maxR V0) rfl (fun b h s x => score_top V0 hq hk b h s x)
  unfold shiftR
  rw [e0, max_eq_right bot_le]
  refine real_of _ (hb 0).1 fun e => ?_
  have h1 := (hb (ownCol ⟨s.val % 256, by omega⟩)).2
  rw [e, le_bot_iff, scores_own] at h1
  exact ownR_bot _ _ hq hk b h s ⟨s.val % 256, by omega⟩ (by simp only [own]; omega) h1

end Cert.ReferenceIdeal.Att

end
-- ==== Proof.Att.Whole.lean ====
/-
  The kernel's result is the reference's, entry by entry, on real queries and keys.
-/
module

public import proofs.«01_k».proof.Proof.Att.KVal
public import proofs.«01_k».proof.Proof.Att.Equal

@[expose] public section

set_option maxRecDepth 16384

noncomputable section

namespace Cert.KernelIdeal.Att

open Idealize.ShloMosaic Cert.KernelIdeal Cert.KernelIdeal.Gen

variable (m : (ℓ : Loc nD τ sig) → Buf (Elt Ideal) ℓ) (c : Dev nD)
  (V0 : Valuation Cert.ReferenceIdeal.τ Cert.ReferenceIdeal.sig (Elt Ideal))
  (eq : Cert.ReferenceIdeal.Att.qs V0 = argQ m c) (ek : Cert.ReferenceIdeal.Att.ks V0 = argK m c) (ev : Cert.ReferenceIdeal.Att.vs V0 = argV m c)
  (hq : ∀ i, @Ne EReal (argQ m c i) ⊤ ∧ @Ne EReal (argQ m c i) ⊥) (hk : ∀ i, @Ne EReal (argK m c i) ⊤ ∧ @Ne EReal (argK m c i) ⊥)

include eq ek ev hq hk in
theorem entry_ref (r : Fin 32768) (x : Fin 512) :
    ((dats m 0 c).arrAt 4 cfg0.N : FVec Ideal S32768x512 .bf16) (ix2 r x) = Cert.ReferenceIdeal.Att.outR V0 (ix2 r x) := by
  have ht : r.val / 256 < cfg0.N := (show r.val / 256 < 128 by omega)
  obtain ⟨-, -, -, -, -, -, -, -, -, -, -, -, ej⟩ := win_index ⟨r.val / 256, ht⟩
  obtain ⟨ν, eν⟩ := Cert.ReferenceIdeal.Att.shift_real V0 (by rw [eq]; exact hq) (by rw [ek]; exact hk) ⟨r.val / 2048, by omega⟩ ⟨x.val / 64, by omega⟩ ⟨r.val % 2048, by omega⟩
  have ej' : blkOf (grid0.coords ⟨r.val / 256, ht⟩) = Cert.ReferenceIdeal.Att.own ⟨r.val % 2048, by omega⟩ :=
    Fin.ext (ej.trans (show r.val / 256 % 8 = r.val % 2048 / 256 by omega))
  rw [out_entry m c ⟨r.val / 256, ht⟩ ⟨r.val % 256, by omega⟩ x r (show r.val = r.val / 256 * 256 + r.val % 256 by omega), Cert.ReferenceIdeal.Att.out_at]
  unfold Cert.ReferenceIdeal.Att.valR Cert.ReferenceIdeal.Att.totalR
  rw [eν, eq, ek, ev]
  unfold outAt outBlock
  rw [ej']
  refine Cert.ReferenceIdeal.Att.entry_eq (argQ m c) (argK m c) (argV m c) hq hk ⟨r.val / 2048, by omega⟩ ⟨x.val / 64, by omega⟩ ⟨r.val % 2048, by omega⟩ ⟨x.val % 64, by omega⟩
    ⟨r.val % 256, by omega⟩ (show r.val % 2048 = r.val % 2048 / 256 * 256 + r.val % 256 by omega) (iblk m c 0 ⟨r.val / 256, ht⟩) (iblk m c 1 ⟨r.val / 256, ht⟩) (iblk m c 2 ⟨r.val / 256, ht⟩) (iblk m c 3 ⟨r.val / 256, ht⟩)
    (fun y => ?_) (fun n a y => ?_) (fun n a y => ?_) (fun n y => ?_) ν
  · rw [blk_query m c ⟨r.val / 256, ht⟩ ⟨r.val % 256, by omega⟩ y r (show r.val = r.val / 256 * 256 + r.val % 256 by omega), queries_at]
  · have hr : r.val / 256 / 8 * 2048 + (n.val * 256 + a.val) < 32768 := by omega
    refine (blk_key m c ⟨r.val / 256, ht⟩ (row n a) y ⟨_, hr⟩ rfl).trans ((keys_at m c _ y).trans (congrArg (argK m c) ?_))
    refine congrArg₂ (fun p s => ix3 p s y) (Fin.ext ?_) (Fin.ext ?_)
    · show (r.val / 256 / 8 * 2048 + (n.val * 256 + a.val)) / 2048 = r.val / 2048
      omega
    · show (r.val / 256 / 8 * 2048 + (n.val * 256 + a.val)) % 2048 = n.val * 256 + a.val
      omega
  · have hr : r.val / 256 / 8 * 8 + n.val < 128 := by omega
    refine (blk_value m c ⟨r.val / 256, ht⟩ n y a ⟨_, hr⟩ rfl).trans ((values_at m c _ y a).trans (congrArg (argV m c) ?_))
    refine congrArg₂ (fun p s => ix3 p s y) (Fin.ext ?_) (Fin.ext ?_)
    · show (r.val / 256 / 8 * 8 + n.val) / 8 = r.val / 2048
      omega
    · show (r.val / 256 / 8 * 8 + n.val) % 8 * 256 + a.val = n.val * 256 + a.val
      omega
  · have hr : r.val / 256 / 8 * 8 + n.val < 128 := by omega
    refine (blk_mean m c ⟨r.val / 256, ht⟩ n y ⟨_, hr⟩ rfl).trans ((means_at m c _ y).trans (congrArg (fun z => Ideal.div z _) (Finset.sum_congr rfl fun a _ => congrArg (argK m c) ?_)))
    refine congrArg₂ (fun p s => ix3 p s y) (Fin.ext ?_) (Fin.ext ?_)
    · show (r.val / 256 / 8 * 8 + n.val) / 8 = r.val / 2048
      omega
    · show (r.val / 256 / 8 * 8 + n.val) % 8 * 256 + a.val = n.val * 256 + a.val
      omega

include eq ek ev hq hk in
/-- The whole result. -/
theorem result_ref : ((dats m 0 c).arrAt 4 cfg0.N : FVec Ideal S32768x512 .bf16) = Cert.ReferenceIdeal.Att.outR V0 :=
  funext fun i => by
    rw [eq_ix2 i]
    exact entry_ref m c V0 eq ek ev hq hk (i 0) (i 1)

end Cert.KernelIdeal.Att

end
-- ==== Proof.Att.Algebraic.lean ====
/-
  The two programs' results agree: from launches on the same real queries and keys, and any values, the kernel and the
  reference leave the same result.
-/
module

public import proofs.«01_k».proof.Defs
public import proofs.«01_k».proof.Proof.Att.Whole

@[expose] public section

set_option maxRecDepth 16384

noncomputable section

namespace Cert.KernelIdeal.Att

open Idealize.ShloMosaic Idealize.SL.Sem Cert.KernelIdeal Cert.KernelIdeal.Gen

/-- The reference's result from its launch memory. -/
theorem reference_result (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r => ∀ c : Dev Cert.ReferenceIdeal.nD,
      r.2.mem ((c.tc : Thread Cert.ReferenceIdeal.nD Cert.ReferenceIdeal.τ).loc Cert.ReferenceIdeal.main_v101) = Cert.ReferenceIdeal.Att.outR (StableHlo.launchContents m c)
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2) :=
  Cert.ReferenceIdeal.Value.run (F := Ideal) m ρ

/-- The value claim. -/
theorem algebraic : Cert.algebraic_KernelIdeal_ReferenceIdeal_pre_finite_scores := fun m ρ m' ρ' hpre hag =>
  ⟨fun c => (dats m 0 c).arrAt 4 cfg0.N, run_out m ρ,
    (θ_run _ _ _).mono (fun _ h c => ⟨(h c).1.trans
      (have hf := Cert.Att.finite_of_pre _ _ _ (hpre c)
       (result_ref m c (StableHlo.launchContents m' c) (hag c).1 (hag c).2.1 (hag c).2.2 hf.1 hf.2).symm), (h c).2⟩) (reference_result m' ρ')⟩

end Cert.KernelIdeal.Att

end
-- ==== Proof.Proj.Same.lean ====
/-
  The kernel and its ideal reading have the same text, so one run gives both frames.
-/
module

public import proofs.«01_k».proof.Defs
public import proofs.«01_k».proof.Proof.Gen.Kernel2
public import proofs.«01_k».proof.Proof.Gen.Kernel2Ideal.Frame

@[expose] public section

set_option maxRecDepth 16384

noncomputable section

namespace Cert.Kernel2Ideal.Proj

open Idealize.ShloMosaic Idealize.ShloMosaic.TcCoe Idealize.ShloMosaic.Tactic Idealize.SL.Sem

set_option smartUnfolding false in
/-- The two programs' procedures are the same. -/
theorem defs_eq : Cert.Kernel2.defs (F := Bits) = Cert.Kernel2Ideal.defs (F := Bits) := rfl

set_option maxHeartbeats 1000000 in
/-- Their main programs are the same. -/
theorem main_eq : Cert.Kernel2.main (F := Bits) = Cert.Kernel2Ideal.main (F := Bits) := by
  delta Cert.Kernel2.main Cert.Kernel2Ideal.main
  rfl

set_option smartUnfolding false in
set_option maxHeartbeats 1000000 in
/-- The kernel's frame is the run of its ideal reading, taken at the bits. -/
theorem frame_kernel : Cert.quiescent_Kernel2 := fun m ρ _ => by
  rw [main_eq, defs_eq]
  exact Cert.Kernel2Ideal.Gen.frame (F := Bits) m ρ

end Cert.Kernel2Ideal.Proj

end
-- ==== Proof.Proj.Tile.lean ====
/-
  What one grid point of the projection kernel leaves: its outputs and its carried scratch as terms of the blocks it reads and of the
  eight rows of the product `c * v` that the point before left, at the first point of a sequence zeros.
-/
module

public import proofs.«01_k».proof.Proof.Gen.Kernel2Ideal.Value
public import Idealize.ShloMosaic.Lib.Tactic

@[expose] public section

set_option maxRecDepth 16384

noncomputable section

namespace Cert.Kernel2Ideal.Proj

open Cert.Kernel2Ideal Cert.Kernel2Ideal.Gen Idealize.ShloMosaic Idealize.ShloMosaic.TcCoe Idealize.SL.Sem

variable {F : FTy → Type} [FloatOps F]
variable (m : (ℓ : Loc nD τ sig) → Buf (Elt F) ℓ)

/-- The third of the convolution weights that starts at column `o`. -/
abbrev third (x1 : Vec F S1024x3072 .bf16) (o : ℕ) (h : ∀ a, (![0, o] : Fin 2 → ℕ) a + S1024x1024.size a ≤ S1024x3072.size a) :
    Vec F S1024x1024 .bf16 := View.ld (Val := Elt F) (S := S1024x3072) (e' := .bf16) x1 (Rect.unit (s := S1024x3072) ![0, o] S1024x1024.size h)

/-- Row `o` of the convolution's taps. -/
abbrev tap (x5 : Vec F S3x1024 .f32) (o : ℕ) (h : ∀ a, (![o, 0] : Fin 2 → ℕ) a + S1x1024.size a ≤ S3x1024.size a) :
    Vec F S1x1024 .f32 := View.ld (Val := Elt F) (S := S3x1024) (e' := .f32) x5 (Rect.unit (s := S3x1024) ![o, 0] S1x1024.size h)

/-- The product of the second and the third projection of the tile. -/
def uTile (x0 : Vec F S512x1024 .f32) (x1 : Vec F S1024x3072 .bf16) : FVec F S512x1024 .f32 :=
  k0_pay4 x0 (third x1 1024 inb_S1024x3072_S1024x1024_0_1024) (third x1 2048 inb_S1024x3072_S1024x1024_0_2048)

/-- The convolution branch of the tile, projected out. -/
def yTile (x0 : Vec F S512x1024 .f32) (x1 : Vec F S1024x3072 .bf16) (x5 : Vec F S3x1024 .f32) (x6 : Vec F S1024x1024 .bf16)
    (prev : Vec F S8x1024 .f32) : FVec F S512x1024 .f32 :=
  k0_pay8 (k0_pay3 x0 (third x1 0 inb_S1024x3072_S1024x1024_0_0)) (uTile x0 x1) prev
    (iota .tc S512x1024 32 [0] iota_S512x1024_d0_w32)
    (k0_pay6 x0 (third x1 1024 inb_S1024x3072_S1024x1024_0_1024) (third x1 2048 inb_S1024x3072_S1024x1024_0_2048) prev)
    (tap x5 0 inb_S3x1024_S1x1024_0_0) (tap x5 1 inb_S3x1024_S1x1024_1_0) (tap x5 2 inb_S3x1024_S1x1024_2_0) x6

/-- The first output of the tile: the gated convolution branch. -/
def aTile (x0 : Vec F S512x1024 .f32) (x1 : Vec F S1024x3072 .bf16) (x3 : Vec F S1024x2048 .bf16) (x4 : Vec F S1x2048 .f32)
    (x5 : Vec F S3x1024 .f32) (x6 : Vec F S1024x1024 .bf16) (prev : Vec F S8x1024 .f32) : FVec F S512x1024 .bf16 :=
  k0_pay11 (yTile x0 x1 x5 x6 prev) (k0_pay9 (k0_pay2 x0) x3) x4

/-- The rotated keys of the tile, from its rows, the packed weights and the three tables. -/
def kTile (x0 : Vec F S512x1024 .f32) (x2 : Vec F S1024x1536 .bf16) (x7 x8 x9 : Vec F S512x512 .f32) : FVec F S512x512 .bf16 :=
  k0_pay22 (k0_pay16 x9) (k0_pay18 (k0_pay2 x0) x2) (k0_pay19 (k0_pay2 x0) x2 x7 x8)

/-- The two mean keys of the tile. -/
def meanTile (x0 : Vec F S512x1024 .f32) (x2 : Vec F S1024x1536 .bf16) (x7 x8 x9 : Vec F S512x512 .f32) : Vec F S2x1x512 .f32 :=
  View.canon (Val := Elt F) [⟨Rect.unit (s := S2x1x512) ![1, 0, 0] S1x1x512.size inb_S2x1x512_S1x1x512_1_0_0,
      k0_pay26 (k0_pay16 x9) (k0_pay18 (k0_pay2 x0) x2) (k0_pay19 (k0_pay2 x0) x2 x7 x8)⟩,
    ⟨Rect.unit (s := S2x1x512) ![0, 0, 0] S1x1x512.size inb_S2x1x512_S1x1x512_0_0_0,
      k0_pay24 (k0_pay16 x9) (k0_pay18 (k0_pay2 x0) x2) (k0_pay19 (k0_pay2 x0) x2 x7 x8)⟩]

/-- The two transposed value blocks of the tile. -/
def vtTile (x0 : Vec F S512x1024 .f32) (x2 : Vec F S1024x1536 .bf16) : Vec F S2x512x256 .bf16 :=
  View.canon (Val := Elt F) [⟨Rect.unit (s := S2x512x256) ![1, 0, 0] S1x512x256.size inb_S2x512x256_S1x512x256_1_0_0,
      k0_pay1 (k0_pay27 (k0_pay13 (k0_pay2 x0) x2))⟩,
    ⟨Rect.unit (s := S2x512x256) ![0, 0, 0] S1x512x256.size inb_S2x512x256_S1x512x256_0_0_0,
      k0_pay25 (k0_pay13 (k0_pay2 x0) x2)⟩]

/-- What a point leaves, over the eight rows before its tile. -/
def left (c : Dev nD) (t : Fin cfg0.N) (prev : Vec F S8x1024 .f32) :
    Vec F S512x1024 .bf16 × Vec F S512x1024 .bf16 × Vec F S512x512 .bf16 × Vec F S512x512 .bf16 × Vec F S2x512x256 .bf16 × Vec F S2x1x512 .f32 × Vec F S8x1024 .f32 :=
  (aTile (iblk m c 0 t) (iblk m c 1 t) (iblk m c 3 t) (iblk m c 4 t) (iblk m c 5 t) (iblk m c 6 t) prev,
   k0_pay12 (k0_pay9 (k0_pay2 (iblk m c 0 t)) (iblk m c 3 t)) (iblk m c 4 t),
   k0_pay21 (k0_pay17 (k0_pay2 (iblk m c 0 t)) (iblk m c 2 t) (iblk m c 7 t) (iblk m c 8 t) (iblk m c 9 t)),
   kTile (iblk m c 0 t) (iblk m c 2 t) (iblk m c 7 t) (iblk m c 8 t) (iblk m c 9 t),
   vtTile (iblk m c 0 t) (iblk m c 2 t),
   meanTile (iblk m c 0 t) (iblk m c 2 t) (iblk m c 7 t) (iblk m c 8 t) (iblk m c 9 t),
   k0_pay7 (uTile (iblk m c 0 t) (iblk m c 1 t)))

theorem hz : (![0, 0] : Fin 2 → Nat) = fun _ => 0 := funext fun a => by fin_cases a <;> rfl

set_option maxHeartbeats 2000000 in
/-- At the first tile of a sequence the rows before it are zeros. -/
theorem outs_A (c : Dev nD) (t : Fin cfg0.N) (h0 : t.val % 4 = 0) :
    outsAt0 m c t.val t.isLt = left m c t k0_pay5 := by
  rw [outsAt0_A m c t h0]
  refine Prod.ext ?_ (Prod.ext ?_ (Prod.ext ?_ (Prod.ext ?_ (Prod.ext ?_ (Prod.ext ?_ ?_)))))
  · dsimp only [left]; unfold out0_A_10
    rw [View.read_writes_eq_canon _ _ _ (by intro y; apply cover0_A_10)]
    unfold kernelRun0_A; dsimp only; sl_unfold_words
    simp only [View.canon_cons_unit_zero (S := S512x1024) hz, View.canon_cons_unit_zero (S := S512x512) hz, View.canon_cons_unit_zero (S := S8x1024) hz, View.readCov_unit_zero (S := S8x1024) _ hz, View.readAt_eq_ld, Memref.IsWhole.read_unread, View.ld_unit_zero (S := S512x1024) hz, View.ld_unit_zero (S := S1024x1536) hz, View.ld_unit_zero (S := S1024x2048) hz, View.ld_unit_zero (S := S1x2048) hz, View.ld_unit_zero (S := S1024x1024) hz, View.ld_unit_zero (S := S512x512) hz, View.ld_unit_zero (S := S8x1024) hz] <;> rfl
  · dsimp only [left]; unfold out0_A_11
    rw [View.read_writes_eq_canon _ _ _ (by intro y; apply cover0_A_11)]
    unfold kernelRun0_A; dsimp only; sl_unfold_words
    simp only [View.canon_cons_unit_zero (S := S512x1024) hz, View.canon_cons_unit_zero (S := S512x512) hz, View.canon_cons_unit_zero (S := S8x1024) hz, View.readCov_unit_zero (S := S8x1024) _ hz, View.readAt_eq_ld, Memref.IsWhole.read_unread, View.ld_unit_zero (S := S512x1024) hz, View.ld_unit_zero (S := S1024x1536) hz, View.ld_unit_zero (S := S1024x2048) hz, View.ld_unit_zero (S := S1x2048) hz, View.ld_unit_zero (S := S1024x1024) hz, View.ld_unit_zero (S := S512x512) hz, View.ld_unit_zero (S := S8x1024) hz] <;> rfl
  · dsimp only [left]; unfold out0_A_12
    rw [View.read_writes_eq_canon _ _ _ (by intro y; apply cover0_A_12)]
    unfold kernelRun0_A; dsimp only; sl_unfold_words
    simp only [View.canon_cons_unit_zero (S := S512x1024) hz, View.canon_cons_unit_zero (S := S512x512) hz, View.canon_cons_unit_zero (S := S8x1024) hz, View.readCov_unit_zero (S := S8x1024) _ hz, View.readAt_eq_ld, Memref.IsWhole.read_unread, View.ld_unit_zero (S := S512x1024) hz, View.ld_unit_zero (S := S1024x1536) hz, View.ld_unit_zero (S := S1024x2048) hz, View.ld_unit_zero (S := S1x2048) hz, View.ld_unit_zero (S := S1024x1024) hz, View.ld_unit_zero (S := S512x512) hz, View.ld_unit_zero (S := S8x1024) hz] <;> rfl
  · dsimp only [left]; unfold out0_A_13
    rw [View.read_writes_eq_canon _ _ _ (by intro y; apply cover0_A_13)]
    unfold kernelRun0_A; dsimp only; sl_unfold_words
    simp only [View.canon_cons_unit_zero (S := S512x1024) hz, View.canon_cons_unit_zero (S := S512x512) hz, View.canon_cons_unit_zero (S := S8x1024) hz, View.readCov_unit_zero (S := S8x1024) _ hz, View.readAt_eq_ld, Memref.IsWhole.read_unread, View.ld_unit_zero (S := S512x1024) hz, View.ld_unit_zero (S := S1024x1536) hz, View.ld_unit_zero (S := S1024x2048) hz, View.ld_unit_zero (S := S1x2048) hz, View.ld_unit_zero (S := S1024x1024) hz, View.ld_unit_zero (S := S512x512) hz, View.ld_unit_zero (S := S8x1024) hz] <;> rfl
  · dsimp only [left]; unfold out0_A_14
    rw [View.read_writes_eq_canon _ _ _ (by intro y; apply cover0_A_14)]
    unfold kernelRun0_A; dsimp only; sl_unfold_words
    simp only [View.canon_cons_unit_zero (S := S512x1024) hz, View.canon_cons_unit_zero (S := S512x512) hz, View.canon_cons_unit_zero (S := S8x1024) hz, View.readCov_unit_zero (S := S8x1024) _ hz, View.readAt_eq_ld, Memref.IsWhole.read_unread, View.ld_unit_zero (S := S512x1024) hz, View.ld_unit_zero (S := S1024x1536) hz, View.ld_unit_zero (S := S1024x2048) hz, View.ld_unit_zero (S := S1x2048) hz, View.ld_unit_zero (S := S1024x1024) hz, View.ld_unit_zero (S := S512x512) hz, View.ld_unit_zero (S := S8x1024) hz] <;> rfl
  · dsimp only [left]; unfold out0_A_15
    rw [View.read_writes_eq_canon _ _ _ (by intro y; apply cover0_A_15)]
    unfold kernelRun0_A; dsimp only; sl_unfold_words
    simp only [View.canon_cons_unit_zero (S := S512x1024) hz, View.canon_cons_unit_zero (S := S512x512) hz, View.canon_cons_unit_zero (S := S8x1024) hz, View.readCov_unit_zero (S := S8x1024) _ hz, View.readAt_eq_ld, Memref.IsWhole.read_unread, View.ld_unit_zero (S := S512x1024) hz, View.ld_unit_zero (S := S1024x1536) hz, View.ld_unit_zero (S := S1024x2048) hz, View.ld_unit_zero (S := S1x2048) hz, View.ld_unit_zero (S := S1024x1024) hz, View.ld_unit_zero (S := S512x512) hz, View.ld_unit_zero (S := S8x1024) hz] <;> rfl
  · dsimp only [left]; unfold sout0_A_0
    rw [View.read_writes_eq_canon _ _ _ (by intro y; apply scover0_A_0)]
    unfold kernelRun0_A; dsimp only; sl_unfold_words
    simp only [View.canon_cons_unit_zero (S := S512x1024) hz, View.canon_cons_unit_zero (S := S512x512) hz, View.canon_cons_unit_zero (S := S8x1024) hz, View.readCov_unit_zero (S := S8x1024) _ hz, View.readAt_eq_ld, Memref.IsWhole.read_unread, View.ld_unit_zero (S := S512x1024) hz, View.ld_unit_zero (S := S1024x1536) hz, View.ld_unit_zero (S := S1024x2048) hz, View.ld_unit_zero (S := S1x2048) hz, View.ld_unit_zero (S := S1024x1024) hz, View.ld_unit_zero (S := S512x512) hz, View.ld_unit_zero (S := S8x1024) hz] <;> rfl

set_option maxHeartbeats 2000000 in
/-- At a later tile they are what the point before left. -/
theorem outs_B (c : Dev nD) (t : Fin cfg0.N) (h0 : ¬t.val % 4 = 0) :
    outsAt0 m c t.val t.isLt = left m c t (outsAt0 m c (t.val - 1) (Nat.lt_of_le_of_lt (Nat.sub_le _ _) t.isLt)).2.2.2.2.2.2 := by
  rw [outsAt0_B m c t h0]
  have hs : ∀ X : Vec F S8x1024 .f32, View.read (Elt F) (View.whole cc0_scratch0) ((Memref.isWhole_whole cc0_scratch0).unread X) = X :=
    fun X => (Memref.isWhole_whole cc0_scratch0).read_unread X
  refine Prod.ext ?_ (Prod.ext ?_ (Prod.ext ?_ (Prod.ext ?_ (Prod.ext ?_ (Prod.ext ?_ ?_)))))
  · dsimp only [left]; unfold out0_B_10
    rw [View.read_writes_eq_canon _ _ _ (by intro y; apply cover0_B_10)]
    unfold kernelRun0_B; dsimp only; sl_unfold_words
    simp only [View.canon_cons_unit_zero (S := S512x1024) hz, View.canon_cons_unit_zero (S := S512x512) hz, View.canon_cons_unit_zero (S := S8x1024) hz, View.readCov_unit_zero (S := S8x1024) _ hz, hs, View.readAt_eq_ld, Memref.IsWhole.read_unread, View.ld_unit_zero (S := S512x1024) hz, View.ld_unit_zero (S := S1024x1536) hz, View.ld_unit_zero (S := S1024x2048) hz, View.ld_unit_zero (S := S1x2048) hz, View.ld_unit_zero (S := S1024x1024) hz, View.ld_unit_zero (S := S512x512) hz, View.ld_unit_zero (S := S8x1024) hz] <;> rfl
  · dsimp only [left]; unfold out0_B_11
    rw [View.read_writes_eq_canon _ _ _ (by intro y; apply cover0_B_11)]
    unfold kernelRun0_B; dsimp only; sl_unfold_words
    simp only [View.canon_cons_unit_zero (S := S512x1024) hz, View.canon_cons_unit_zero (S := S512x512) hz, View.canon_cons_unit_zero (S := S8x1024) hz, View.readCov_unit_zero (S := S8x1024) _ hz, View.readAt_eq_ld, Memref.IsWhole.read_unread, View.ld_unit_zero (S := S512x1024) hz, View.ld_unit_zero (S := S1024x1536) hz, View.ld_unit_zero (S := S1024x2048) hz, View.ld_unit_zero (S := S1x2048) hz, View.ld_unit_zero (S := S1024x1024) hz, View.ld_unit_zero (S := S512x512) hz, View.ld_unit_zero (S := S8x1024) hz] <;> rfl
  · dsimp only [left]; unfold out0_B_12
    rw [View.read_writes_eq_canon _ _ _ (by intro y; apply cover0_B_12)]
    unfold kernelRun0_B; dsimp only; sl_unfold_words
    simp only [View.canon_cons_unit_zero (S := S512x1024) hz, View.canon_cons_unit_zero (S := S512x512) hz, View.canon_cons_unit_zero (S := S8x1024) hz, View.readCov_unit_zero (S := S8x1024) _ hz, View.readAt_eq_ld, Memref.IsWhole.read_unread, View.ld_unit_zero (S := S512x1024) hz, View.ld_unit_zero (S := S1024x1536) hz, View.ld_unit_zero (S := S1024x2048) hz, View.ld_unit_zero (S := S1x2048) hz, View.ld_unit_zero (S := S1024x1024) hz, View.ld_unit_zero (S := S512x512) hz, View.ld_unit_zero (S := S8x1024) hz] <;> rfl
  · dsimp only [left]; unfold out0_B_13
    rw [View.read_writes_eq_canon _ _ _ (by intro y; apply cover0_B_13)]
    unfold kernelRun0_B; dsimp only; sl_unfold_words
    simp only [View.canon_cons_unit_zero (S := S512x1024) hz, View.canon_cons_unit_zero (S := S512x512) hz, View.canon_cons_unit_zero (S := S8x1024) hz, View.readCov_unit_zero (S := S8x1024) _ hz, View.readAt_eq_ld, Memref.IsWhole.read_unread, View.ld_unit_zero (S := S512x1024) hz, View.ld_unit_zero (S := S1024x1536) hz, View.ld_unit_zero (S := S1024x2048) hz, View.ld_unit_zero (S := S1x2048) hz, View.ld_unit_zero (S := S1024x1024) hz, View.ld_unit_zero (S := S512x512) hz, View.ld_unit_zero (S := S8x1024) hz] <;> rfl
  · dsimp only [left]; unfold out0_B_14
    rw [View.read_writes_eq_canon _ _ _ (by intro y; apply cover0_B_14)]
    unfold kernelRun0_B; dsimp only; sl_unfold_words
    simp only [View.canon_cons_unit_zero (S := S512x1024) hz, View.canon_cons_unit_zero (S := S512x512) hz, View.canon_cons_unit_zero (S := S8x1024) hz, View.readCov_unit_zero (S := S8x1024) _ hz, View.readAt_eq_ld, Memref.IsWhole.read_unread, View.ld_unit_zero (S := S512x1024) hz, View.ld_unit_zero (S := S1024x1536) hz, View.ld_unit_zero (S := S1024x2048) hz, View.ld_unit_zero (S := S1x2048) hz, View.ld_unit_zero (S := S1024x1024) hz, View.ld_unit_zero (S := S512x512) hz, View.ld_unit_zero (S := S8x1024) hz] <;> rfl
  · dsimp only [left]; unfold out0_B_15
    rw [View.read_writes_eq_canon _ _ _ (by intro y; apply cover0_B_15)]
    unfold kernelRun0_B; dsimp only; sl_unfold_words
    simp only [View.canon_cons_unit_zero (S := S512x1024) hz, View.canon_cons_unit_zero (S := S512x512) hz, View.canon_cons_unit_zero (S := S8x1024) hz, View.readCov_unit_zero (S := S8x1024) _ hz, View.readAt_eq_ld, Memref.IsWhole.read_unread, View.ld_unit_zero (S := S512x1024) hz, View.ld_unit_zero (S := S1024x1536) hz, View.ld_unit_zero (S := S1024x2048) hz, View.ld_unit_zero (S := S1x2048) hz, View.ld_unit_zero (S := S1024x1024) hz, View.ld_unit_zero (S := S512x512) hz, View.ld_unit_zero (S := S8x1024) hz] <;> rfl
  · dsimp only [left]; unfold sout0_B_0
    rw [View.read_writes_eq_canon _ _ _ (by intro y; apply scover0_B_0)]
    unfold kernelRun0_B; dsimp only; sl_unfold_words
    simp only [View.canon_cons_unit_zero (S := S512x1024) hz, View.canon_cons_unit_zero (S := S512x512) hz, View.canon_cons_unit_zero (S := S8x1024) hz, View.readCov_unit_zero (S := S8x1024) _ hz, View.readAt_eq_ld, Memref.IsWhole.read_unread, View.ld_unit_zero (S := S512x1024) hz, View.ld_unit_zero (S := S1024x1536) hz, View.ld_unit_zero (S := S1024x2048) hz, View.ld_unit_zero (S := S1x2048) hz, View.ld_unit_zero (S := S1024x1024) hz, View.ld_unit_zero (S := S512x512) hz, View.ld_unit_zero (S := S8x1024) hz] <;> rfl

end Cert.Kernel2Ideal.Proj

end
-- ==== Proof.Proj.Entry.lean ====
/-
  The kernel's values of one tile at exact numbers, entry by entry, over the tile's blocks.
-/
module

public import proofs.«01_k».proof.Proof.Proj.Tile
public import Idealize.ShloMosaic.Lib.Pointwise
public import Idealize.ShloMosaic.Lib.ValueIdx
public import Idealize.ShloMosaic.Lib.Claim
public import Idealize.ShloMosaic.Lib.Pipeline.Value

@[expose] public section

set_option maxRecDepth 16384

noncomputable section

namespace Cert.Kernel2Ideal.Proj

open Idealize.ShloMosaic Idealize.ShloMosaic.TcCoe Idealize.ShloMosaic.Tactic Cert.Kernel2Ideal Cert.Kernel2Ideal.Gen

/-- Row `q` of a tile against column `j` of the weights. -/
def dotRow {n : ℕ} (x : FVec Ideal S512x1024 .f32) (w : FVec Ideal ⟨2, ![1024, n]⟩ .bf16) (q : Fin 512) (j : Fin n) : EReal :=
  ∑ k : Fin 1024, @HMul.hMul EReal EReal EReal _ (x (ix2 q k)) (w (ix2 k j))

theorem third_at (x1 : FVec Ideal S1024x3072 .bf16) (o : ℕ) (h) (k j : Fin 1024) (j' : Fin 3072) (hj : j'.val = o + j.val) :
    (third (F := Ideal) x1 o h : FVec Ideal S1024x1024 .bf16) (ix2 k j) = x1 (ix2 k j') := by
  show x1 _ = x1 _
  refine congrArg x1 (funext fun a => Fin.ext ?_)
  match a with
  | ⟨0, _⟩ => show 0 + 1 * k.val = k.val; omega
  | ⟨1, _⟩ => show o + 1 * j.val = j'.val; omega

theorem tap_at (x5 : FVec Ideal S3x1024 .f32) (o : Fin 3) (n : ℕ) (hn : o.val = n) (h) (j : Fin 1024) :
    (tap (F := Ideal) x5 n h : FVec Ideal S1x1024 .f32) (ix2 0 j) = x5 (ix2 o j) := by
  show x5 _ = x5 _
  refine congrArg x5 (funext fun a => Fin.ext ?_)
  match a with
  | ⟨0, _⟩ => show n + 1 * 0 = o.val; omega
  | ⟨1, _⟩ => show 0 + 1 * j.val = j.val; omega

theorem dotRow_third (x0 : FVec Ideal S512x1024 .f32) (x1 : FVec Ideal S1024x3072 .bf16) (o : ℕ) (h) (q : Fin 512) (j : Fin 1024) (j' : Fin 3072)
    (hj : j'.val = o + j.val) : dotRow x0 (third (F := Ideal) x1 o h : FVec Ideal S1024x1024 .bf16) q j = dotRow x0 x1 q j' := by
  unfold dotRow
  exact Finset.sum_congr rfl fun k _ => congrArg (fun e : EReal => @HMul.hMul EReal EReal EReal _ (x0 (ix2 q k)) e) (third_at x1 o h k j j' hj)

theorem pay3_at (x0 : FVec Ideal S512x1024 .f32) (w : FVec Ideal S1024x1024 .bf16) (q : Fin 512) (j : Fin 1024) :
    k0_pay3 (F := Ideal) x0 w (ix2 q j) = dotRow x0 w q j := by
  unfold dotRow
  pointwise [k0_pay3, k0_pay2]

theorem pay4_at (x0 : FVec Ideal S512x1024 .f32) (w w' : FVec Ideal S1024x1024 .bf16) (q : Fin 512) (j : Fin 1024) :
    k0_pay4 (F := Ideal) x0 w w' (ix2 q j) = @HMul.hMul EReal EReal EReal _ (dotRow x0 w q j) (dotRow x0 w' q j) := by
  unfold dotRow
  pointwise [k0_pay4, k0_pay2]

theorem pay9_at (x0 : FVec Ideal S512x1024 .f32) (w : FVec Ideal S1024x2048 .bf16) (q : Fin 512) (j : Fin 2048) :
    k0_pay9 (F := Ideal) (k0_pay2 x0) w (ix2 q j) = dotRow x0 w q j := by
  unfold dotRow
  pointwise [k0_pay9, k0_pay2]

theorem pay13_at (x0 : FVec Ideal S512x1024 .f32) (w : FVec Ideal S1024x1536 .bf16) (q : Fin 512) (j : Fin 1536) :
    k0_pay13 (F := Ideal) (k0_pay2 x0) w (ix2 q j) = dotRow x0 w q j := by
  unfold dotRow
  pointwise [k0_pay13, k0_pay2]

/-- The product's rows one back: the row before, at row 0 the last row left by the tile before. -/
theorem pay6_at (x0 : FVec Ideal S512x1024 .f32) (w w' : FVec Ideal S1024x1024 .bf16) (p : FVec Ideal S8x1024 .f32) (q : Fin 512) (j : Fin 1024) :
    k0_pay6 (F := Ideal) x0 w w' p (ix2 q j) = Scalar.select (IntOp.cmpi CmpIPredicate.eq (BitVec.ofNat 32 q.val) 0#32) (p (ix2 7 j))
      (k0_pay4 (F := Ideal) x0 w w' (ix2 ⟨(q.val + 512 - 1) % 512, Nat.mod_lt _ (by decide)⟩ j)) := by
  unfold k0_pay6
  pointwise []

theorem pay8_at (cb u : FVec Ideal S512x1024 .f32) (p : FVec Ideal S8x1024 .f32) (s1 : FVec Ideal S512x1024 .f32) (t0 t1 t2 : FVec Ideal S1x1024 .f32)
    (w : FVec Ideal S1024x1024 .bf16) (q : Fin 512) (j : Fin 1024) :
    k0_pay8 (F := Ideal) cb u p (iota .tc S512x1024 32 [0] iota_S512x1024_d0_w32) s1 t0 t1 t2 w (ix2 q j)
    = ∑ x : Fin 1024, @HMul.hMul EReal EReal EReal _ (@HMul.hMul EReal EReal EReal _ (cb (ix2 q x))
        (@HAdd.hAdd EReal EReal EReal _ (@HAdd.hAdd EReal EReal EReal _ (@HMul.hMul EReal EReal EReal _ (t0 (ix2 0 x))
          (Scalar.select (IntOp.cmpi CmpIPredicate.eq (BitVec.ofNat 32 q.val) 0#32) (p (ix2 6 x))
            (Scalar.select (IntOp.cmpi CmpIPredicate.eq (BitVec.ofNat 32 q.val) 1#32) (p (ix2 7 x))
              (u (ix2 ⟨(q.val + 512 - 2) % 512, Nat.mod_lt _ (by decide)⟩ x)))))
          (@HMul.hMul EReal EReal EReal _ (t1 (ix2 0 x)) (s1 (ix2 q x)))) (@HMul.hMul EReal EReal EReal _ (t2 (ix2 0 x)) (u (ix2 q x))))) (w (ix2 x j)) := by
  pointwise [k0_pay8]

/-- The gate of a row's sum and the bias. -/
def gateOf (z b : EReal) : EReal := Ideal.div 1 (1 + Ideal.exp (-(z + b)))

theorem pay12_at (z : FVec Ideal S512x2048 .f32) (b : FVec Ideal S1x2048 .f32) (q : Fin 512) (j : Fin 1024) :
    k0_pay12 (F := Ideal) z b (ix2 q j) = gateOf (z (ix2 q ⟨1024 + j.val, by omega⟩)) (b (ix2 0 ⟨1024 + j.val, by omega⟩)) := by
  unfold gateOf
  rw [← zero_sub]
  pointwise [k0_pay12, k0_pay10]

theorem pay11_at (y : FVec Ideal S512x1024 .f32) (z : FVec Ideal S512x2048 .f32) (b : FVec Ideal S1x2048 .f32) (q : Fin 512) (j : Fin 1024) :
    k0_pay11 (F := Ideal) y z b (ix2 q j)
    = @HMul.hMul EReal EReal EReal _ (gateOf (z (ix2 q ⟨j.val, by omega⟩)) (b (ix2 0 ⟨j.val, by omega⟩))) (y (ix2 q j)) := by
  unfold gateOf
  rw [← zero_sub]
  pointwise [k0_pay11, k0_pay10]

/-- The rotation the kernel makes of a row, by the three tables. -/
def turn (v : Fin 512 → EReal) (c l h : Fin 512 → EReal) (y : Fin 512) : EReal :=
  v y * c y + v ⟨(y.val + 512 - 504) % 512, Nat.mod_lt _ (by decide)⟩ * l y + v ⟨(y.val + 512 - 8) % 512, Nat.mod_lt _ (by decide)⟩ * h y

theorem key_at (x0 : FVec Ideal S512x1024 .f32) (w : FVec Ideal S1024x1536 .bf16) (x7 x8 x9 : FVec Ideal S512x512 .f32) (q y : Fin 512) :
    k0_pay20 (F := Ideal) (k0_pay16 x9) (k0_pay18 (k0_pay2 x0) w) (k0_pay19 (k0_pay2 x0) w x7 x8) (ix2 q y)
    = turn (fun y => dotRow x0 w q ⟨512 + y.val, by omega⟩) (fun y => x7 (ix2 q y)) (fun y => x8 (ix2 q y)) (fun y => x9 (ix2 q y)) y := by
  unfold turn
  pointwise [k0_pay20, k0_pay16, k0_pay18, k0_pay19, k0_pay14, k0_pay15, pay13_at]

theorem query_at (x0 : FVec Ideal S512x1024 .f32) (w : FVec Ideal S1024x1536 .bf16) (x7 x8 x9 : FVec Ideal S512x512 .f32) (q y : Fin 512) :
    k0_pay21 (F := Ideal) (k0_pay17 (k0_pay2 x0) w x7 x8 x9) (ix2 q y)
    = @HMul.hMul EReal EReal EReal _ (turn (fun y => dotRow x0 w q ⟨y.val, by omega⟩) (fun y => x7 (ix2 q y)) (fun y => x8 (ix2 q y)) (fun y => x9 (ix2 q y)) y)
      (Ideal.ofBits .f32 0x3E000000#32) := by
  unfold turn
  pointwise [k0_pay21, k0_pay17, k0_pay16, k0_pay14, k0_pay15, pay13_at]

theorem kTile_at (x0 : FVec Ideal S512x1024 .f32) (w : FVec Ideal S1024x1536 .bf16) (x7 x8 x9 : FVec Ideal S512x512 .f32) (q y : Fin 512) :
    kTile (F := Ideal) x0 w x7 x8 x9 (ix2 q y)
    = turn (fun y => dotRow x0 w q ⟨512 + y.val, by omega⟩) (fun y => x7 (ix2 q y)) (fun y => x8 (ix2 q y)) (fun y => x9 (ix2 q y)) y := by
  pointwise [kTile, k0_pay22, key_at]

/-- Two blocks stored one after the other fill an array of two. -/
theorem canon_two {e : EltTy} {n d : ℕ} (w1 w0 : (⟨3, ![1, n, d]⟩ : Shape).Idx → Elt Ideal e)
    (h1 : ∀ a, (![1, 0, 0] : Fin 3 → ℕ) a + (![1, n, d] : Fin 3 → ℕ) a ≤ (⟨3, ![2, n, d]⟩ : Shape).size a)
    (h0 : ∀ a, (![0, 0, 0] : Fin 3 → ℕ) a + (![1, n, d] : Fin 3 → ℕ) a ≤ (⟨3, ![2, n, d]⟩ : Shape).size a) (a : Fin 2) (i : Fin n) (j : Fin d) :
    View.canon (Val := Elt Ideal) (s := ⟨3, ![2, n, d]⟩) (e := e) [⟨Rect.unit (s := ⟨3, ![2, n, d]⟩) ![1, 0, 0] ![1, n, d] h1, w1⟩,
      ⟨Rect.unit (s := ⟨3, ![2, n, d]⟩) ![0, 0, 0] ![1, n, d] h0, w0⟩] (ix3 a i j) = if a = 0 then w0 (ix3 0 i j) else w1 (ix3 0 i j) := by
  by_cases ha : a = 0
  · rw [if_pos ha, View.canon_cons_of_not_mem]
    · have hx : (ix3 a i j : (⟨3, ![2, n, d]⟩ : Shape).Idx) = (Rect.unit (s := ⟨3, ![2, n, d]⟩) ![0, 0, 0] ![1, n, d] h0).emb (ix3 0 i j) := by
        funext b
        apply Fin.ext
        match b with
        | ⟨0, _⟩ => show a.val = 0 + 1 * 0; rw [ha]; rfl
        | ⟨1, _⟩ => show i.val = 0 + 1 * i.val; omega
        | ⟨2, _⟩ => show j.val = 0 + 1 * j.val; omega
      rw [hx, View.canon_cons_emb]
    · intro hm
      obtain ⟨x, hx⟩ := (Rect.unit (s := ⟨3, ![2, n, d]⟩) ![1, 0, 0] ![1, n, d] h1).exists_idx_of_mem hm
      have h := congrArg Fin.val (congrFun hx 0)
      have h' : 1 + 1 * (x 0).val = a.val := h
      rw [ha] at h'
      have h'' : 1 + 1 * (x 0).val = 0 := h'
      omega
  · rw [if_neg ha]
    have hx : (ix3 a i j : (⟨3, ![2, n, d]⟩ : Shape).Idx) = (Rect.unit (s := ⟨3, ![2, n, d]⟩) ![1, 0, 0] ![1, n, d] h1).emb (ix3 0 i j) := by
      funext b
      apply Fin.ext
      match b with
      | ⟨0, _⟩ => show a.val = 1 + 1 * 0; omega
      | ⟨1, _⟩ => show i.val = 0 + 1 * i.val; omega
      | ⟨2, _⟩ => show j.val = 0 + 1 * j.val; omega
    rw [hx, View.canon_cons_emb]

theorem pay24_at (v100 v109 v113 : FVec Ideal S512x512 .f32) (y : Fin 512) : k0_pay24 (F := Ideal) v100 v109 v113 (ix3 0 0 y)
    = Ideal.div (∑ a : Fin 256, (k0_pay20 (F := Ideal) v100 v109 v113 (ix2 ⟨a.val, by omega⟩ y) : EReal)) (Ideal.ofBits .f32 0x43800000#32) := by
  unfold k0_pay24
  pointwise []

theorem pay26_at (v100 v109 v113 : FVec Ideal S512x512 .f32) (y : Fin 512) : k0_pay26 (F := Ideal) v100 v109 v113 (ix3 0 0 y)
    = Ideal.div (∑ a : Fin 256, (k0_pay20 (F := Ideal) v100 v109 v113 (ix2 ⟨256 + a.val, by omega⟩ y) : EReal)) (Ideal.ofBits .f32 0x43800000#32) := by
  unfold k0_pay26
  pointwise []

theorem pay25_at (v94 : FVec Ideal S512x1536 .f32) (x : Fin 512) (a : Fin 256) : k0_pay25 (F := Ideal) v94 (ix3 0 x a)
    = v94 (ix2 ⟨a.val, by omega⟩ ⟨1024 + x.val, by omega⟩) := by
  pointwise [k0_pay25, k0_pay23]

theorem pay27_at (v94 : FVec Ideal S512x1536 .f32) (x : Fin 512) (a : Fin 256) : k0_pay1 (F := Ideal) (k0_pay27 v94) (ix3 0 x a)
    = v94 (ix2 ⟨256 + a.val, by omega⟩ ⟨1024 + x.val, by omega⟩) := by
  pointwise [k0_pay1, k0_pay27, k0_pay23]

theorem meanTile_at (x0 : FVec Ideal S512x1024 .f32) (w : FVec Ideal S1024x1536 .bf16) (x7 x8 x9 : FVec Ideal S512x512 .f32) (a : Fin 2) (y : Fin 512) :
    meanTile (F := Ideal) x0 w x7 x8 x9 (ix3 a 0 y) = Ideal.div (∑ i : Fin 256, turn (fun y => dotRow x0 w ⟨a.val * 256 + i.val, by omega⟩ ⟨512 + y.val, by omega⟩)
      (fun y => x7 (ix2 ⟨a.val * 256 + i.val, by omega⟩ y)) (fun y => x8 (ix2 ⟨a.val * 256 + i.val, by omega⟩ y))
      (fun y => x9 (ix2 ⟨a.val * 256 + i.val, by omega⟩ y)) y) (Ideal.ofBits .f32 0x43800000#32) := by
  refine (canon_two _ _ _ _ a 0 y).trans ?_
  by_cases ha : a = 0
  · rw [if_pos ha]
    subst ha
    refine (pay24_at _ _ _ y).trans (congrArg (fun e => Ideal.div e _) (Finset.sum_congr rfl fun i _ => ?_))
    rw [key_at]
    have h : (⟨i.val, by omega⟩ : Fin 512) = ⟨(0 : Fin 2).val * 256 + i.val, by have := i.isLt; show 0 * 256 + i.val < 512; omega⟩ :=
      Fin.ext (by show i.val = 0 * 256 + i.val; omega)
    rw [h]
  · rw [if_neg ha]
    have ha1 : a = 1 := by omega
    subst ha1
    refine (pay26_at _ _ _ y).trans (congrArg (fun e => Ideal.div e _) (Finset.sum_congr rfl fun i _ => ?_))
    rw [key_at]
    have h : (⟨256 + i.val, by omega⟩ : Fin 512) = ⟨(1 : Fin 2).val * 256 + i.val, by have := i.isLt; show 1 * 256 + i.val < 512; omega⟩ :=
      Fin.ext (by show 256 + i.val = 1 * 256 + i.val; omega)
    rw [h]

theorem vtTile_at (x0 : FVec Ideal S512x1024 .f32) (w : FVec Ideal S1024x1536 .bf16) (a : Fin 2) (x : Fin 512) (i : Fin 256) :
    vtTile (F := Ideal) x0 w (ix3 a x i) = dotRow x0 w ⟨a.val * 256 + i.val, by omega⟩ ⟨1024 + x.val, by omega⟩ := by
  refine (canon_two _ _ _ _ a x i).trans ?_
  by_cases ha : a = 0
  · rw [if_pos ha, pay25_at, pay13_at]
    exact congrArg (fun q => dotRow x0 w q _) (Fin.ext (by subst ha; show i.val = 0 * 256 + i.val; omega))
  · rw [if_neg ha, pay27_at, pay13_at]
    exact congrArg (fun q => dotRow x0 w q _) (Fin.ext (by show 256 + i.val = a.val * 256 + i.val; omega))

end Cert.Kernel2Ideal.Proj

end
-- ==== Proof.Proj.Host.lean ====
/-
  The arrays that the projection call's host code prepares, entry by entry, in terms of the arguments at exact numbers.
-/
module

public import proofs.«01_k».proof.Proof.Gen.Kernel2Ideal.Value
public import Idealize.ShloMosaic.Lib.Claim
public import Idealize.ShloMosaic.Lib.Pointwise
public import Idealize.ShloMosaic.Lib.ValueIdx
public import Idealize.ShloMosaic.Lib.StableHlo.RunRead

@[expose] public section

set_option maxRecDepth 16384

noncomputable section

namespace Cert.Kernel2Ideal.Proj

open Idealize.ShloMosaic Idealize.ShloMosaic.TcCoe Idealize.ShloMosaic.Tactic Cert.Kernel2Ideal Cert.Kernel2Ideal.Gen

variable (m : (ℓ : Loc nD τ sig) → Buf (Elt Ideal) ℓ) (c : Dev nD)

/-- The tokens, the input weights, the gates' bias, the taps and the output weights. -/
abbrev argX : FVec Ideal S16x2048x1024 .f32 := m ((c : Thread nD τ).loc main_arg0)
abbrev argW : FVec Ideal S1x1024x6656 .f32 := m ((c : Thread nD τ).loc main_arg1)
abbrev argB : FVec Ideal S1x2048 .f32 := m ((c : Thread nD τ).loc main_arg2)
abbrev argT : FVec Ideal S1x3x1024 .f32 := m ((c : Thread nD τ).loc main_arg3)
abbrev argO : FVec Ideal S1x1024x1024 .f32 := m ((c : Thread nD τ).loc main_arg4)

section Tables

variable {F : FTy → Type} [FloatOps F] (mF : (ℓ : Loc nD τ sig) → Buf (Elt F) ℓ)

/-- The angles, the position times the frequency. -/
def angTab : FVec F S2048x8 .f32 :=
  mulf (broadcastInDim S2048x8 ![0, 1] bcast_S2048x1_S2048x8_0_1 (broadcastInDim S2048x1 ![0] bcast_S2048_S2048x1_0 (sitofp .f32 (iotaInDim S2048 32 0))))
    (broadcastInDim S2048x8 ![0, 1] bcast_S1x8_S2048x8_0_1 (broadcastInDim S1x8 ![1] bcast_S8_S1x8_1 (Host.powf (broadcastInDim S8 ![] bcast_S_S8 (constant S_ .f32 0x48F42400#32)) (Host.divf (mulf (Host.negf (sitofp .f32 (iotaInDim S8 32 0))) (broadcastInDim S8 ![] bcast_S_S8 (constant S_ .f32 0x40000000#32))) (broadcastInDim S8 ![] bcast_S_S8 (constant S_ .f32 0x41800000#32))))))

/-- One table for a head: its first eight columns, the next eight and the other 48. -/
def headTab (a b : FVec F S2048x8 .f32) (r : FVec F S2048x48 .f32) : FVec F S2048x64 .f32 :=
  concatenate S2048x64 1 [⟨S2048x8, a⟩, ⟨S2048x8, b⟩, ⟨S2048x48, r⟩] concatenates_S2048x8_S2048x8_S2048x48_S2048x64_d1

/-- The table of a head repeated over the eight heads. -/
def tiled (x : FVec F S2048x64 .f32) : FVec F S2048x512 .f32 :=
  shapeCast S2048x512 (broadcastInDim S1x2048x8x64 ![0, 1, 2, 3] bcast_S1x2048x1x64_S1x2048x8x64_0_1_2_3 (shapeCast S1x2048x1x64 x shapeCasts_S2048x64_S1x2048x1x64)) shapeCasts_S1x2048x8x64_S2048x512

theorem cos_arr : (V mF c main_v31 : FVec F S2048x512 .f32)
    = tiled (headTab (Host.cos angTab) (Host.cos angTab) (broadcastInDim S2048x48 ![] bcast_S_S2048x48 (constant S_ .f32 0x3F800000#32))) := by
  unfold tiled headTab angTab V
  after_reads_simp
  rfl

theorem lo_arr : (V mF c main_v34 : FVec F S2048x512 .f32)
    = tiled (headTab (Host.negf (Host.sin angTab)) (broadcastInDim S2048x8 ![] bcast_S_S2048x8 (constant S_ .f32 0x00000000#32)) (broadcastInDim S2048x48 ![] bcast_S_S2048x48 (constant S_ .f32 0x00000000#32))) := by
  unfold tiled headTab angTab V
  after_reads_simp
  rfl

theorem hi_arr : (V mF c main_v37 : FVec F S2048x512 .f32)
    = tiled (headTab (broadcastInDim S2048x8 ![] bcast_S_S2048x8 (constant S_ .f32 0x00000000#32)) (Host.sin angTab) (broadcastInDim S2048x48 ![] bcast_S_S2048x48 (constant S_ .f32 0x00000000#32))) := by
  unfold tiled headTab angTab V
  after_reads_simp
  rfl

end Tables

theorem x_at (r : Fin 32768) (x : Fin 1024) : (V m c main_v0 : FVec Ideal S32768x1024 .f32) (ix2 r x)
    = argX m c (ix3 ⟨r.val / 2048, by omega⟩ ⟨r.val % 2048, by omega⟩ x) := by
  entry_read
  pointwise []

theorem wc_at (k : Fin 1024) (j : Fin 3072) : (V m c main_v3 : FVec Ideal S1024x3072 .bf16) (ix2 k j)
    = argW m c (ix3 0 k ⟨j.val, by omega⟩) := by
  entry_read
  pointwise []

theorem wqkv_at (k : Fin 1024) (j : Fin 1536) : (V m c main_v4 : FVec Ideal S1024x1536 .bf16) (ix2 k j)
    = argW m c (ix3 0 k ⟨3072 + j.val, by omega⟩) := by
  entry_read
  pointwise []

theorem wg_at (k : Fin 1024) (j : Fin 2048) : (V m c main_v5 : FVec Ideal S1024x2048 .bf16) (ix2 k j)
    = argW m c (ix3 0 k ⟨4608 + j.val, by omega⟩) := by
  entry_read
  pointwise []

theorem bg_at (j : Fin 2048) : (V m c main_v39 : FVec Ideal S1x2048 .f32) (ix2 0 j) = argB m c (ix2 0 j) := by
  entry_read
  pointwise []

theorem taps_at (i : Fin 3) (j : Fin 1024) : (V m c main_v40 : FVec Ideal S3x1024 .f32) (ix2 i j) = argT m c (ix3 0 i j) := by
  entry_read
  pointwise []

theorem wo_at (k j : Fin 1024) : (V m c main_v42 : FVec Ideal S1024x1024 .bf16) (ix2 k j) = argO m c (ix3 0 k j) := by
  entry_read
  pointwise []

theorem tiled_at (x : FVec Ideal S2048x64 .f32) (s : Fin 2048) (y : Fin 512) : tiled x (ix2 s y) = x (ix2 s ⟨y.val % 64, by omega⟩) := by
  pointwise [tiled]

theorem headTab_first (a b : FVec Ideal S2048x8 .f32) (r : FVec Ideal S2048x48 .f32) (s : Fin 2048) (y : Fin 64) (h : y.val < 8) :
    headTab a b r (ix2 s y) = a (ix2 s ⟨y.val, h⟩) := by
  pointwise [headTab]
  rw [dif_pos h]

theorem headTab_second (a b : FVec Ideal S2048x8 .f32) (r : FVec Ideal S2048x48 .f32) (s : Fin 2048) (y : Fin 64) (h : 8 ≤ y.val) (h' : y.val < 16) :
    headTab a b r (ix2 s y) = b (ix2 s ⟨y.val - 8, by omega⟩) := by
  pointwise [headTab]
  rw [dif_neg (by omega), dif_pos (by omega)]

theorem headTab_rest (a b : FVec Ideal S2048x8 .f32) (r : FVec Ideal S2048x48 .f32) (s : Fin 2048) (y : Fin 64) (h : 16 ≤ y.val) :
    headTab a b r (ix2 s y) = r (ix2 s ⟨y.val - 16, by omega⟩) := by
  pointwise [headTab]
  rw [dif_neg (by omega), dif_neg (by omega)]
  exact congrArg (fun i => r (ix2 s i)) (Fin.ext (by show y.val - 8 - 8 = y.val - 16; omega))

end Cert.Kernel2Ideal.Proj

end
-- ==== Proof.Proj.Spec.lean ====
/-
  The projection call's results as functions of the arguments' entries, at exact numbers. Both programs' results are read as these.
-/
module

public import Idealize.ShloMosaic.Lib.Pointwise
public import Idealize.ShloMosaic.Lib.ValueIdx

@[expose] public section

set_option maxRecDepth 16384

noncomputable section

namespace Cert.ProjSpec

open Idealize.ShloMosaic

variable (X : FVec Ideal ⟨3, ![16, 2048, 1024]⟩ .f32) (W : FVec Ideal ⟨3, ![1, 1024, 6656]⟩ .f32) (B : FVec Ideal ⟨2, ![1, 2048]⟩ .f32)
  (T : FVec Ideal ⟨3, ![1, 3, 1024]⟩ .f32) (O : FVec Ideal ⟨3, ![1, 1024, 1024]⟩ .f32) (C S : Fin 2048 → Fin 8 → EReal)

/-- Column `j` of the token's projection. -/
def z (b : Fin 16) (s : Fin 2048) (j : Fin 6656) : EReal :=
  ∑ k : Fin 1024, @HMul.hMul EReal EReal EReal _ (X (ix3 b s k)) (W (ix3 0 k j))

/-- The product of the second and the third thousand of columns. -/
def u (b : Fin 16) (s : Fin 2048) (x : Fin 1024) : EReal := z X W b s ⟨1024 + x.val, by omega⟩ * z X W b s ⟨2048 + x.val, by omega⟩

/-- That product `d` tokens back, zero before the sequence. -/
def back (d : ℕ) (b : Fin 16) (s : Fin 2048) (x : Fin 1024) : EReal := if h : d ≤ s.val then u X W b ⟨s.val - d, by omega⟩ x else 0

/-- The short convolution, times the first thousand of columns. -/
def branch (b : Fin 16) (s : Fin 2048) (k : Fin 1024) : EReal :=
  z X W b s ⟨k.val, by omega⟩ * (@HMul.hMul EReal EReal EReal _ (T (ix3 0 0 k)) (back X W 2 b s k)
    + @HMul.hMul EReal EReal EReal _ (T (ix3 0 1 k)) (back X W 1 b s k) + @HMul.hMul EReal EReal EReal _ (T (ix3 0 2 k)) (u X W b s k))

/-- The gate `j`. -/
def gate (b : Fin 16) (s : Fin 2048) (j : Fin 2048) : EReal :=
  Ideal.div 1 (1 + Ideal.exp (-(z X W b s ⟨4608 + j.val, by omega⟩ + (B (ix2 0 j) : EReal))))

/-- The gated branch, projected out. -/
def conv (b : Fin 16) (s : Fin 2048) (x : Fin 1024) : EReal :=
  gate X W B b s ⟨x.val, by omega⟩ * ∑ k : Fin 1024, @HMul.hMul EReal EReal EReal _ (branch X W T b s k) (O (ix3 0 k x))

/-- The rotation of the first sixteen columns of every head. -/
def rope (v : Fin 512 → EReal) (s : Fin 2048) (y : Fin 512) : EReal :=
  if h : y.val % 64 < 8 then v y * C s ⟨y.val % 64, h⟩ - v ⟨y.val + 8, by omega⟩ * S s ⟨y.val % 64, h⟩
  else if h' : y.val % 64 < 16 then v y * C s ⟨y.val % 64 - 8, by omega⟩ + v ⟨y.val - 8, by omega⟩ * S s ⟨y.val % 64 - 8, by omega⟩
  else v y

/-- The rotated key. -/
def key (b : Fin 16) (s : Fin 2048) (y : Fin 512) : EReal := rope C S (fun y => z X W b s ⟨3584 + y.val, by omega⟩) s y

/-- The rotated and scaled query. -/
def query (b : Fin 16) (s : Fin 2048) (y : Fin 512) : EReal :=
  rope C S (fun y => z X W b s ⟨3072 + y.val, by omega⟩) s y * Ideal.ofBits .f32 0x3E000000#32

/-- The value. -/
def value (b : Fin 16) (s : Fin 2048) (y : Fin 512) : EReal := z X W b s ⟨4096 + y.val, by omega⟩

/-- The mean key of block `n` of 256 tokens. -/
def mean (n : Fin 128) (y : Fin 512) : EReal :=
  Ideal.div (∑ a : Fin 256, key X W C S ⟨n.val / 8, by omega⟩ ⟨n.val % 8 * 256 + a.val, by omega⟩ y) (Ideal.ofBits .f32 0x43800000#32)

end Cert.ProjSpec

end
-- ==== Proof.Proj.Blocks.lean ====
/-
  What the kernel's windows read of the arguments, and the tile values in terms of the arguments' entries.
-/
module

public import proofs.«01_k».proof.Proof.Proj.Entry
public import proofs.«01_k».proof.Proof.Proj.Host
public import proofs.«01_k».proof.Proof.Proj.Spec

@[expose] public section

set_option maxRecDepth 16384

noncomputable section

namespace Cert.Kernel2Ideal.Proj

open Idealize.ShloMosaic Idealize.ShloMosaic.TcCoe Idealize.ShloMosaic.Tactic Cert.Kernel2Ideal Cert.Kernel2Ideal.Gen

variable (m : (ℓ : Loc nD τ sig) → Buf (Elt Ideal) ℓ) (c : Dev nD)

/-- The grid point's tile of rows and its tile of the tables; the other inputs are read whole. -/
theorem win_index (t : Fin cfg0.N) : win0_0.index t 0 = t.val ∧ win0_0.index t 1 = 0 ∧ win0_7.index t 0 = t.val % 4 ∧ win0_7.index t 1 = 0
    ∧ win0_8.index t 0 = t.val % 4 ∧ win0_8.index t 1 = 0 ∧ win0_9.index t 0 = t.val % 4 ∧ win0_9.index t 1 = 0 :=
  (by decide +kernel : ∀ t : Fin grid0.N, win0_0.index t 0 = t.val ∧ win0_0.index t 1 = 0 ∧ win0_7.index t 0 = t.val % 4 ∧ win0_7.index t 1 = 0
    ∧ win0_8.index t 0 = t.val % 4 ∧ win0_8.index t 1 = 0 ∧ win0_9.index t 0 = t.val % 4 ∧ win0_9.index t 1 = 0) t

theorem win_whole (t : Fin cfg0.N) : (win0_1.index t 0 = 0 ∧ win0_1.index t 1 = 0) ∧ (win0_2.index t 0 = 0 ∧ win0_2.index t 1 = 0)
    ∧ (win0_3.index t 0 = 0 ∧ win0_3.index t 1 = 0) ∧ (win0_4.index t 0 = 0 ∧ win0_4.index t 1 = 0)
    ∧ (win0_5.index t 0 = 0 ∧ win0_5.index t 1 = 0) ∧ (win0_6.index t 0 = 0 ∧ win0_6.index t 1 = 0) :=
  (by decide +kernel : ∀ t : Fin grid0.N, (win0_1.index t 0 = 0 ∧ win0_1.index t 1 = 0) ∧ (win0_2.index t 0 = 0 ∧ win0_2.index t 1 = 0)
    ∧ (win0_3.index t 0 = 0 ∧ win0_3.index t 1 = 0) ∧ (win0_4.index t 0 = 0 ∧ win0_4.index t 1 = 0)
    ∧ (win0_5.index t 0 = 0 ∧ win0_5.index t 1 = 0) ∧ (win0_6.index t 0 = 0 ∧ win0_6.index t 1 = 0)) t

theorem blk_x (t : Fin cfg0.N) (q : Fin 512) (k : Fin 1024) (b : Fin 16) (s : Fin 2048) (hb : b.val = t.val / 4) (hs : s.val = t.val % 4 * 512 + q.val) :
    iblk m c 0 t (ix2 q k) = argX m c (ix3 b s k) := by
  have hN : t.val < 64 := lt_of_lt_of_eq t.isLt (show cfg0.N = 64 from N_0)
  have h := x_at m c ⟨t.val * 512 + q.val, by omega⟩ k
  refine Eq.trans ?_ (h.trans (congrArg (argX m c) ?_))
  · unfold iblk
    rw [View.read_apply]
    show V m c main_v0 _ = _
    refine congrArg (V m c main_v0) (funext fun a => Fin.ext ?_)
    have hi := win_index t
    match a with
    | ⟨0, _⟩ => show win0_0.index t 0 * 512 + 1 * q.val = t.val * 512 + q.val; rw [hi.1]; omega
    | ⟨1, _⟩ => show win0_0.index t 1 * 1024 + 1 * k.val = k.val; rw [hi.2.1]; omega
  · have e1 : (⟨(t.val * 512 + q.val) / 2048, by omega⟩ : Fin 16) = b := Fin.ext (by show (t.val * 512 + q.val) / 2048 = b.val; omega)
    have e2 : (⟨(t.val * 512 + q.val) % 2048, by omega⟩ : Fin 2048) = s := Fin.ext (by show (t.val * 512 + q.val) % 2048 = s.val; omega)
    exact congrArg₂ (fun b s => ix3 b s k) e1 e2

theorem blk_wc (t : Fin cfg0.N) (k : Fin 1024) (j : Fin 3072) : iblk m c 1 t (ix2 k j) = (V m c main_v3 : FVec Ideal S1024x3072 .bf16) (ix2 k j) := by
  unfold iblk
  rw [View.read_apply]
  show V m c main_v3 _ = _
  refine congrArg (V m c main_v3) (funext fun a => Fin.ext ?_)
  have hi := (win_whole t).1
  match a with
  | ⟨0, _⟩ => show win0_1.index t 0 * 1024 + 1 * k.val = k.val; rw [hi.1]; omega
  | ⟨1, _⟩ => show win0_1.index t 1 * 3072 + 1 * j.val = j.val; rw [hi.2]; omega

theorem blk_wqkv (t : Fin cfg0.N) (k : Fin 1024) (j : Fin 1536) : iblk m c 2 t (ix2 k j) = (V m c main_v4 : FVec Ideal S1024x1536 .bf16) (ix2 k j) := by
  unfold iblk
  rw [View.read_apply]
  show V m c main_v4 _ = _
  refine congrArg (V m c main_v4) (funext fun a => Fin.ext ?_)
  have hi := (win_whole t).2.1
  match a with
  | ⟨0, _⟩ => show win0_2.index t 0 * 1024 + 1 * k.val = k.val; rw [hi.1]; omega
  | ⟨1, _⟩ => show win0_2.index t 1 * 1536 + 1 * j.val = j.val; rw [hi.2]; omega

theorem blk_wg (t : Fin cfg0.N) (k : Fin 1024) (j : Fin 2048) : iblk m c 3 t (ix2 k j) = (V m c main_v5 : FVec Ideal S1024x2048 .bf16) (ix2 k j) := by
  unfold iblk
  rw [View.read_apply]
  show V m c main_v5 _ = _
  refine congrArg (V m c main_v5) (funext fun a => Fin.ext ?_)
  have hi := (win_whole t).2.2.1
  match a with
  | ⟨0, _⟩ => show win0_3.index t 0 * 1024 + 1 * k.val = k.val; rw [hi.1]; omega
  | ⟨1, _⟩ => show win0_3.index t 1 * 2048 + 1 * j.val = j.val; rw [hi.2]; omega

theorem blk_bg (t : Fin cfg0.N) (k : Fin 1) (j : Fin 2048) : iblk m c 4 t (ix2 k j) = (V m c main_v39 : FVec Ideal S1x2048 .f32) (ix2 k j) := by
  unfold iblk
  rw [View.read_apply]
  show V m c main_v39 _ = _
  refine congrArg (V m c main_v39) (funext fun a => Fin.ext ?_)
  have hi := (win_whole t).2.2.2.1
  match a with
  | ⟨0, _⟩ => show win0_4.index t 0 * 1 + 1 * k.val = k.val; rw [hi.1]; omega
  | ⟨1, _⟩ => show win0_4.index t 1 * 2048 + 1 * j.val = j.val; rw [hi.2]; omega

theorem blk_taps (t : Fin cfg0.N) (k : Fin 3) (j : Fin 1024) : iblk m c 5 t (ix2 k j) = (V m c main_v40 : FVec Ideal S3x1024 .f32) (ix2 k j) := by
  unfold iblk
  rw [View.read_apply]
  show V m c main_v40 _ = _
  refine congrArg (V m c main_v40) (funext fun a => Fin.ext ?_)
  have hi := (win_whole t).2.2.2.2.1
  match a with
  | ⟨0, _⟩ => show win0_5.index t 0 * 3 + 1 * k.val = k.val; rw [hi.1]; omega
  | ⟨1, _⟩ => show win0_5.index t 1 * 1024 + 1 * j.val = j.val; rw [hi.2]; omega

theorem blk_wo (t : Fin cfg0.N) (k : Fin 1024) (j : Fin 1024) : iblk m c 6 t (ix2 k j) = (V m c main_v42 : FVec Ideal S1024x1024 .bf16) (ix2 k j) := by
  unfold iblk
  rw [View.read_apply]
  show V m c main_v42 _ = _
  refine congrArg (V m c main_v42) (funext fun a => Fin.ext ?_)
  have hi := (win_whole t).2.2.2.2.2
  match a with
  | ⟨0, _⟩ => show win0_6.index t 0 * 1024 + 1 * k.val = k.val; rw [hi.1]; omega
  | ⟨1, _⟩ => show win0_6.index t 1 * 1024 + 1 * j.val = j.val; rw [hi.2]; omega

theorem blk_cos (t : Fin cfg0.N) (q y : Fin 512) (s : Fin 2048) (hs : s.val = t.val % 4 * 512 + q.val) :
    iblk m c 7 t (ix2 q y) = (V m c main_v31 : FVec Ideal S2048x512 .f32) (ix2 s y) := by
  unfold iblk
  rw [View.read_apply]
  show V m c main_v31 _ = _
  refine congrArg (V m c main_v31) (funext fun a => Fin.ext ?_)
  have hi := win_index t
  match a with
  | ⟨0, _⟩ => show win0_7.index t 0 * 512 + 1 * q.val = s.val; rw [hi.2.2.1]; omega
  | ⟨1, _⟩ => show win0_7.index t 1 * 512 + 1 * y.val = y.val; rw [hi.2.2.2.1]; omega

theorem blk_lo (t : Fin cfg0.N) (q y : Fin 512) (s : Fin 2048) (hs : s.val = t.val % 4 * 512 + q.val) :
    iblk m c 8 t (ix2 q y) = (V m c main_v34 : FVec Ideal S2048x512 .f32) (ix2 s y) := by
  unfold iblk
  rw [View.read_apply]
  show V m c main_v34 _ = _
  refine congrArg (V m c main_v34) (funext fun a => Fin.ext ?_)
  have hi := win_index t
  match a with
  | ⟨0, _⟩ => show win0_8.index t 0 * 512 + 1 * q.val = s.val; rw [hi.2.2.2.2.1]; omega
  | ⟨1, _⟩ => show win0_8.index t 1 * 512 + 1 * y.val = y.val; rw [hi.2.2.2.2.2.1]; omega

theorem blk_hi (t : Fin cfg0.N) (q y : Fin 512) (s : Fin 2048) (hs : s.val = t.val % 4 * 512 + q.val) :
    iblk m c 9 t (ix2 q y) = (V m c main_v37 : FVec Ideal S2048x512 .f32) (ix2 s y) := by
  unfold iblk
  rw [View.read_apply]
  show V m c main_v37 _ = _
  refine congrArg (V m c main_v37) (funext fun a => Fin.ext ?_)
  have hi := win_index t
  match a with
  | ⟨0, _⟩ => show win0_9.index t 0 * 512 + 1 * q.val = s.val; rw [hi.2.2.2.2.2.2.1]; omega
  | ⟨1, _⟩ => show win0_9.index t 1 * 512 + 1 * y.val = y.val; rw [hi.2.2.2.2.2.2.2]; omega

theorem z_wc (t : Fin cfg0.N) (q : Fin 512) (j : Fin 3072) (b : Fin 16) (s : Fin 2048) (hb : b.val = t.val / 4) (hs : s.val = t.val % 4 * 512 + q.val) :
    dotRow (iblk m c 0 t) (iblk m c 1 t) q j = ProjSpec.z (argX m c) (argW m c) b s ⟨j.val, by omega⟩ := by
  unfold dotRow ProjSpec.z
  refine Finset.sum_congr rfl fun k _ => ?_
  rw [blk_x m c t q k b s hb hs, blk_wc, wc_at]

theorem z_wqkv (t : Fin cfg0.N) (q : Fin 512) (j : Fin 1536) (b : Fin 16) (s : Fin 2048) (hb : b.val = t.val / 4) (hs : s.val = t.val % 4 * 512 + q.val) :
    dotRow (iblk m c 0 t) (iblk m c 2 t) q j = ProjSpec.z (argX m c) (argW m c) b s ⟨3072 + j.val, by omega⟩ := by
  unfold dotRow ProjSpec.z
  refine Finset.sum_congr rfl fun k _ => ?_
  rw [blk_x m c t q k b s hb hs, blk_wqkv, wqkv_at]

theorem z_wg (t : Fin cfg0.N) (q : Fin 512) (j : Fin 2048) (b : Fin 16) (s : Fin 2048) (hb : b.val = t.val / 4) (hs : s.val = t.val % 4 * 512 + q.val) :
    dotRow (iblk m c 0 t) (iblk m c 3 t) q j = ProjSpec.z (argX m c) (argW m c) b s ⟨4608 + j.val, by omega⟩ := by
  unfold dotRow ProjSpec.z
  refine Finset.sum_congr rfl fun k _ => ?_
  rw [blk_x m c t q k b s hb hs, blk_wg, wg_at]

/-- The angles' cosines and sines. -/
def cosA (s : Fin 2048) (i : Fin 8) : EReal := Host.cos (F := Ideal) angTab (ix2 s i)
def sinA (s : Fin 2048) (i : Fin 8) : EReal := Host.sin (F := Ideal) angTab (ix2 s i)

/-- The kernel's rotation by the three tables is the rotation of the first sixteen columns of every head. -/
theorem turn_eq (t : Fin cfg0.N) (q : Fin 512) (v : Fin 512 → EReal) (s : Fin 2048) (hs : s.val = t.val % 4 * 512 + q.val) (y : Fin 512) :
    turn v (fun y => iblk m c 7 t (ix2 q y)) (fun y => iblk m c 8 t (ix2 q y)) (fun y => iblk m c 9 t (ix2 q y)) y
    = ProjSpec.rope cosA sinA v s y := by
  unfold turn ProjSpec.rope
  simp only [blk_cos m c t q _ s hs, blk_lo m c t q _ s hs, blk_hi m c t q _ s hs]
  rw [congrFun (cos_arr c m) (ix2 s y), congrFun (lo_arr c m) (ix2 s y), congrFun (hi_arr c m) (ix2 s y), tiled_at, tiled_at, tiled_at]
  have hz : ∀ i, (broadcastInDim S2048x8 ![] bcast_S_S2048x8 (constant (F := Ideal) S_ .f32 0x00000000#32) : FVec Ideal S2048x8 .f32) i = (0 : EReal) := by
    intro i; pointwise []
  have hz' : ∀ i, (broadcastInDim S2048x48 ![] bcast_S_S2048x48 (constant (F := Ideal) S_ .f32 0x00000000#32) : FVec Ideal S2048x48 .f32) i = (0 : EReal) := by
    intro i; pointwise []
  have ho : ∀ i, (broadcastInDim S2048x48 ![] bcast_S_S2048x48 (constant (F := Ideal) S_ .f32 0x3F800000#32) : FVec Ideal S2048x48 .f32) i = (1 : EReal) := by
    intro i; pointwise []
  have hn : ∀ i, (Host.negf (Host.sin (F := Ideal) angTab) : FVec Ideal S2048x8 .f32) i = -(Host.sin (F := Ideal) angTab i : EReal) := fun i => rfl
  by_cases h : y.val % 64 < 8
  · rw [dif_pos h, headTab_first _ _ _ s ⟨y.val % 64, by omega⟩ h, headTab_first _ _ _ s ⟨y.val % 64, by omega⟩ h, headTab_first _ _ _ s ⟨y.val % 64, by omega⟩ h, hz, mul_zero, add_zero]
    have e : (⟨(y.val + 512 - 504) % 512, Nat.mod_lt _ (by decide)⟩ : Fin 512) = ⟨y.val + 8, by omega⟩ :=
      Fin.ext (by show (y.val + 512 - 504) % 512 = y.val + 8; omega)
    rw [e, hn, mul_neg, sub_eq_add_neg]
    rfl
  · rw [dif_neg h]
    by_cases h' : y.val % 64 < 16
    · have h8 : 8 ≤ y.val % 64 := by omega
      rw [dif_pos h', headTab_second _ _ _ s ⟨y.val % 64, by omega⟩ h8 h', headTab_second _ _ _ s ⟨y.val % 64, by omega⟩ h8 h', headTab_second _ _ _ s ⟨y.val % 64, by omega⟩ h8 h', hz, mul_zero, add_zero]
      have e : (⟨(y.val + 512 - 8) % 512, Nat.mod_lt _ (by decide)⟩ : Fin 512) = ⟨y.val - 8, by omega⟩ :=
        Fin.ext (by show (y.val + 512 - 8) % 512 = y.val - 8; omega)
      rw [e]
      rfl
    · have h16 : 16 ≤ y.val % 64 := by omega
      rw [dif_neg h', headTab_rest _ _ _ s ⟨y.val % 64, by omega⟩ h16, headTab_rest _ _ _ s ⟨y.val % 64, by omega⟩ h16, headTab_rest _ _ _ s ⟨y.val % 64, by omega⟩ h16, hz', ho, mul_zero, mul_zero, add_zero, add_zero, mul_one]

end Cert.Kernel2Ideal.Proj

end
-- ==== Proof.Proj.Outs.lean ====
/-
  What every grid point leaves, entry by entry, in terms of the arguments.
-/
module

public import proofs.«01_k».proof.Proof.Proj.Blocks

@[expose] public section

set_option maxRecDepth 16384

noncomputable section

namespace Cert.Kernel2Ideal.Proj

open Idealize.ShloMosaic Idealize.ShloMosaic.TcCoe Idealize.ShloMosaic.Tactic Cert.Kernel2Ideal Cert.Kernel2Ideal.Gen

variable (m : (ℓ : Loc nD τ sig) → Buf (Elt Ideal) ℓ) (c : Dev nD)

/-- The eight rows before the point's tile, as the point finds them. -/
def prevAt (t : Fin cfg0.N) : FVec Ideal S8x1024 .f32 :=
  if t.val % 4 = 0 then k0_pay5 (F := Ideal) else (outsAt0 m c (t.val - 1) (Nat.lt_of_le_of_lt (Nat.sub_le _ _) t.isLt)).2.2.2.2.2.2

theorem outs_eq (t : Fin cfg0.N) : outsAt0 m c t.val t.isLt = left m c t (prevAt m c t) := by
  unfold prevAt
  by_cases h : t.val % 4 = 0
  · rw [if_pos h]; exact outs_A m c t h
  · rw [if_neg h]; exact outs_B m c t h

theorem uTile_at (t : Fin cfg0.N) (q : Fin 512) (x : Fin 1024) (b : Fin 16) (s : Fin 2048) (hb : b.val = t.val / 4) (hs : s.val = t.val % 4 * 512 + q.val) :
    uTile (F := Ideal) (iblk m c 0 t) (iblk m c 1 t) (ix2 q x) = ProjSpec.u (argX m c) (argW m c) b s x := by
  unfold uTile ProjSpec.u
  rw [pay4_at, dotRow_third _ _ _ _ _ _ ⟨1024 + x.val, by omega⟩ rfl, dotRow_third _ _ _ _ _ _ ⟨2048 + x.val, by omega⟩ rfl,
    z_wc m c t q _ b s hb hs, z_wc m c t q _ b s hb hs]

/-- Row `8 - d` of the carried rows, seen from row `q` of the tile: the product `d + q` tokens before row `q`. -/
theorem prev_at (t : Fin cfg0.N) (d : ℕ) (hd : d < 8) (hd0 : 0 < d) (q : Fin 512) (x : Fin 1024) (b : Fin 16) (s : Fin 2048) (hb : b.val = t.val / 4)
    (hs : s.val = t.val % 4 * 512 + q.val) :
    prevAt m c t (ix2 ⟨8 - d, by omega⟩ x) = ProjSpec.back (argX m c) (argW m c) (d + q.val) b s x := by
  have hN : t.val < 64 := lt_of_lt_of_eq t.isLt (show cfg0.N = 64 from N_0)
  unfold prevAt ProjSpec.back
  by_cases h : t.val % 4 = 0
  · rw [if_pos h, dif_neg (by omega)]
    pointwise [k0_pay5]
  · rw [if_neg h, dif_pos (by omega), outs_eq m c ⟨t.val - 1, Nat.lt_of_le_of_lt (Nat.sub_le _ _) t.isLt⟩]
    unfold left
    have e : k0_pay7 (F := Ideal) (uTile (iblk m c 0 ⟨t.val - 1, Nat.lt_of_le_of_lt (Nat.sub_le _ _) t.isLt⟩) (iblk m c 1 ⟨t.val - 1, Nat.lt_of_le_of_lt (Nat.sub_le _ _) t.isLt⟩))
        (ix2 ⟨8 - d, by omega⟩ x) = uTile (F := Ideal) (iblk m c 0 ⟨t.val - 1, Nat.lt_of_le_of_lt (Nat.sub_le _ _) t.isLt⟩) (iblk m c 1 ⟨t.val - 1, Nat.lt_of_le_of_lt (Nat.sub_le _ _) t.isLt⟩)
        (ix2 ⟨504 + (8 - d), by omega⟩ x) := by
      generalize uTile (F := Ideal) (iblk m c 0 ⟨t.val - 1, Nat.lt_of_le_of_lt (Nat.sub_le _ _) t.isLt⟩) (iblk m c 1 ⟨t.val - 1, Nat.lt_of_le_of_lt (Nat.sub_le _ _) t.isLt⟩) = U
      pointwise [k0_pay7]
    refine e.trans (uTile_at m c _ _ x b _ ?_ ?_)
    · show b.val = (t.val - 1) / 4; omega
    · show s.val - (d + q.val) = (t.val - 1) % 4 * 512 + (504 + (8 - d)); omega

theorem sel_eq (a b : ℕ) (ha : a < 512) (hb : b < 512) (x y : EReal) :
    Scalar.select (IntOp.cmpi .eq (BitVec.ofNat 32 a) (BitVec.ofNat 32 b)) x y = if a = b then x else y := by
  rw [WordCmp.cmpi_eq_ofNat (by omega) (by omega)]
  by_cases h : a = b <;> simp [Scalar.select, h]

/-- The convolution branch of the point's tile. -/
theorem yTile_at (t : Fin cfg0.N) (q : Fin 512) (x : Fin 1024) (b : Fin 16) (s : Fin 2048) (hb : b.val = t.val / 4) (hs : s.val = t.val % 4 * 512 + q.val) :
    yTile (F := Ideal) (iblk m c 0 t) (iblk m c 1 t) (iblk m c 5 t) (iblk m c 6 t) (prevAt m c t) (ix2 q x)
    = ∑ k : Fin 1024, @HMul.hMul EReal EReal EReal _ (ProjSpec.branch (argX m c) (argW m c) (argT m c) b s k) (argO m c (ix3 0 k x)) := by
  have hN : t.val < 64 := lt_of_lt_of_eq t.isLt (show cfg0.N = 64 from N_0)
  unfold yTile
  rw [pay8_at]
  refine Finset.sum_congr rfl fun k _ => ?_
  have hu : ∀ (d : ℕ) (hd : d ≤ q.val), uTile (F := Ideal) (iblk m c 0 t) (iblk m c 1 t) (ix2 ⟨(q.val + 512 - d) % 512, Nat.mod_lt _ (by decide)⟩ k)
      = ProjSpec.back (argX m c) (argW m c) d b s k := by
    intro d hd
    unfold ProjSpec.back
    rw [dif_pos (by omega)]
    exact uTile_at m c t _ k b _ hb (by show s.val - d = t.val % 4 * 512 + (q.val + 512 - d) % 512; omega)
  have h1 : k0_pay6 (F := Ideal) (iblk m c 0 t) (third (F := Ideal) (iblk m c 1 t) 1024 inb_S1024x3072_S1024x1024_0_1024)
      (third (F := Ideal) (iblk m c 1 t) 2048 inb_S1024x3072_S1024x1024_0_2048) (prevAt m c t) (ix2 q k) = ProjSpec.back (argX m c) (argW m c) 1 b s k := by
    refine (pay6_at _ _ _ _ q k).trans ((sel_eq q.val 0 q.isLt (by omega) _ _).trans ?_)
    by_cases h : q.val = 0
    · rw [if_pos h]
      have e := prev_at m c t 1 (by omega) (by omega) q k b s hb hs
      rw [h] at e
      exact e
    · rw [if_neg h]
      exact hu 1 (by omega)
  have h2 : Scalar.select (IntOp.cmpi CmpIPredicate.eq (BitVec.ofNat 32 q.val) 0#32) (prevAt m c t (ix2 6 k))
      (Scalar.select (IntOp.cmpi CmpIPredicate.eq (BitVec.ofNat 32 q.val) 1#32) (prevAt m c t (ix2 7 k))
        (uTile (F := Ideal) (iblk m c 0 t) (iblk m c 1 t) (ix2 ⟨(q.val + 512 - 2) % 512, Nat.mod_lt _ (by decide)⟩ k)))
      = ProjSpec.back (argX m c) (argW m c) 2 b s k := by
    refine (sel_eq q.val 0 q.isLt (by omega) _ _).trans ?_
    by_cases h : q.val = 0
    · rw [if_pos h]
      have e := prev_at m c t 2 (by omega) (by omega) q k b s hb hs
      rw [h] at e
      exact e
    · rw [if_neg h]
      refine (sel_eq q.val 1 q.isLt (by omega) _ _).trans ?_
      by_cases h' : q.val = 1
      · rw [if_pos h']
        have e := prev_at m c t 1 (by omega) (by omega) q k b s hb hs
        rw [h'] at e
        exact e
      · rw [if_neg h']
        exact hu 2 (by omega)
  rw [h1, h2, tap_at _ 0 0 rfl, tap_at _ 1 1 rfl, tap_at _ 2 2 rfl, pay3_at, dotRow_third _ _ _ _ _ _ ⟨k.val, by omega⟩ (by simp),
    z_wc m c t q _ b s hb hs, uTile_at m c t q k b s hb hs, blk_taps, blk_taps, blk_taps, taps_at, taps_at, taps_at, blk_wo, wo_at]
  rfl

theorem aTile_at (t : Fin cfg0.N) (q : Fin 512) (x : Fin 1024) (b : Fin 16) (s : Fin 2048) (hb : b.val = t.val / 4) (hs : s.val = t.val % 4 * 512 + q.val) :
    (outsAt0 m c t.val t.isLt).1 (ix2 q x) = ProjSpec.conv (argX m c) (argW m c) (argB m c) (argT m c) (argO m c) b s x := by
  rw [outs_eq]
  unfold left aTile
  refine (pay11_at _ _ _ q x).trans ?_
  rw [yTile_at m c t q x b s hb hs, pay9_at, z_wg m c t q _ b s hb hs, blk_bg, bg_at]
  rfl

theorem gate_at (t : Fin cfg0.N) (q : Fin 512) (x : Fin 1024) (b : Fin 16) (s : Fin 2048) (hb : b.val = t.val / 4) (hs : s.val = t.val % 4 * 512 + q.val) :
    (outsAt0 m c t.val t.isLt).2.1 (ix2 q x) = ProjSpec.gate (argX m c) (argW m c) (argB m c) b s ⟨1024 + x.val, by omega⟩ := by
  rw [outs_eq]
  unfold left
  refine (pay12_at _ _ q x).trans ?_
  rw [pay9_at, z_wg m c t q _ b s hb hs, blk_bg, bg_at]
  rfl

theorem query_out (t : Fin cfg0.N) (q y : Fin 512) (b : Fin 16) (s : Fin 2048) (hb : b.val = t.val / 4) (hs : s.val = t.val % 4 * 512 + q.val) :
    (outsAt0 m c t.val t.isLt).2.2.1 (ix2 q y) = ProjSpec.query (argX m c) (argW m c) cosA sinA b s y := by
  rw [outs_eq]
  unfold left
  refine (query_at _ _ _ _ _ q y).trans ?_
  rw [turn_eq m c t q _ s hs]
  simp only [z_wqkv m c t q _ b s hb hs]
  rfl

/-- A row's keys, rotated. -/
theorem key_row (t : Fin cfg0.N) (q y : Fin 512) (b : Fin 16) (s : Fin 2048) (hb : b.val = t.val / 4) (hs : s.val = t.val % 4 * 512 + q.val) :
    turn (fun y => dotRow (iblk m c 0 t) (iblk m c 2 t) q ⟨512 + y.val, by omega⟩) (fun y => iblk m c 7 t (ix2 q y)) (fun y => iblk m c 8 t (ix2 q y))
      (fun y => iblk m c 9 t (ix2 q y)) y = ProjSpec.key (argX m c) (argW m c) cosA sinA b s y := by
  rw [turn_eq m c t q _ s hs]
  unfold ProjSpec.key
  refine congrArg (fun v => ProjSpec.rope cosA sinA v s y) (funext fun y => ?_)
  rw [z_wqkv m c t q _ b s hb hs]
  exact congrArg (ProjSpec.z _ _ b s) (Fin.ext (by show 3072 + (512 + y.val) = 3584 + y.val; omega))

theorem key_out (t : Fin cfg0.N) (q y : Fin 512) (b : Fin 16) (s : Fin 2048) (hb : b.val = t.val / 4) (hs : s.val = t.val % 4 * 512 + q.val) :
    (outsAt0 m c t.val t.isLt).2.2.2.1 (ix2 q y) = ProjSpec.key (argX m c) (argW m c) cosA sinA b s y := by
  rw [outs_eq]
  unfold left
  exact (kTile_at _ _ _ _ _ q y).trans (key_row m c t q y b s hb hs)

theorem value_out (t : Fin cfg0.N) (a : Fin 2) (x : Fin 512) (i : Fin 256) (b : Fin 16) (s : Fin 2048) (hb : b.val = t.val / 4)
    (hs : s.val = t.val % 4 * 512 + (a.val * 256 + i.val)) :
    (outsAt0 m c t.val t.isLt).2.2.2.2.1 (ix3 a x i) = ProjSpec.value (argX m c) (argW m c) b s x := by
  rw [outs_eq]
  dsimp only [left]
  have e1 := vtTile_at (iblk m c 0 t) (iblk m c 2 t) a x i
  have e2 := z_wqkv m c t ⟨a.val * 256 + i.val, by omega⟩ ⟨1024 + x.val, by omega⟩ b s hb hs
  have e3 : (⟨3072 + (1024 + x.val), by omega⟩ : Fin 6656) = ⟨4096 + x.val, by omega⟩ := Fin.ext (by show 3072 + (1024 + x.val) = 4096 + x.val; omega)
  exact e1.trans (e2.trans (congrArg (ProjSpec.z (argX m c) (argW m c) b s) e3))

theorem mean_out (t : Fin cfg0.N) (a : Fin 2) (y : Fin 512) (n : Fin 128) (hn : n.val = t.val * 2 + a.val) :
    (outsAt0 m c t.val t.isLt).2.2.2.2.2.1 (ix3 a 0 y) = ProjSpec.mean (argX m c) (argW m c) cosA sinA n y := by
  have hN : t.val < 64 := lt_of_lt_of_eq t.isLt (show cfg0.N = 64 from N_0)
  rw [outs_eq]
  dsimp only [left]
  unfold ProjSpec.mean
  refine (meanTile_at (iblk m c 0 t) (iblk m c 2 t) (iblk m c 7 t) (iblk m c 8 t) (iblk m c 9 t) a y).trans
    (congrArg (fun e => Ideal.div e (Ideal.ofBits .f32 0x43800000#32)) (Finset.sum_congr rfl fun i _ => ?_))
  exact key_row m c t _ y _ _ (by show n.val / 8 = t.val / 4; omega) (by show n.val % 8 * 256 + i.val = t.val % 4 * 512 + (a.val * 256 + i.val); omega)

end Cert.Kernel2Ideal.Proj

end
-- ==== Proof.Proj.Result.lean ====
/-
  The kernel's six results, entry by entry: which grid point writes an entry back, and where it lies in that point's block.
-/
module

public import proofs.«01_k».proof.Proof.Gen.Kernel2Ideal.Value
public import proofs.«01_k».proof.Proof.Proj.Outs

@[expose] public section

set_option maxRecDepth 16384

noncomputable section

namespace Cert.Kernel2Ideal.Proj

open Idealize.ShloMosaic Idealize.ShloMosaic.TcCoe Idealize.ShloMosaic.Tactic Cert.Kernel2Ideal Cert.Kernel2Ideal.Gen Cert.Kernel2Ideal.Value

variable (m : (ℓ : Loc nD τ sig) → Buf (Elt Ideal) ℓ) (c : Dev nD)

theorem conv_result (r : Fin 32768) (x : Fin 1024) : G10 (F := Ideal) m c (ix2 r x)
    = ProjSpec.conv (argX m c) (argW m c) (argB m c) (argT m c) (argO m c) ⟨r.val / 2048, by omega⟩ ⟨r.val % 2048, by omega⟩ x := by
  have hp : pt10Of (ix2 r x) = r.val / 512 := by
    show 1 * (r.val / 512 - 0) + 1 * (x.val / 1024 - 0) = r.val / 512
    omega
  have hlt : pt10Of (ix2 r x) < cfg0.N := by
    rw [hp, show cfg0.N = 64 from N_0]
    omega
  have hl : loc10Of (ix2 r x) = ix2 (⟨r.val % 512, by omega⟩ : Fin 512) x := by
    funext a
    match a with
    | 0 => rfl
    | 1 => exact Fin.ext (Nat.mod_eq_of_lt x.isLt)
  unfold G10
  rw [dif_pos hlt, ← outsAt0_sweep m c _ hlt, hl]
  exact aTile_at m c ⟨pt10Of (ix2 r x), hlt⟩ _ x _ _ (by show r.val / 2048 = pt10Of (ix2 r x) / 4; rw [hp]; omega)
    (by show r.val % 2048 = pt10Of (ix2 r x) % 4 * 512 + r.val % 512; rw [hp]; omega)

theorem gate_result (r : Fin 32768) (x : Fin 1024) : G11 (F := Ideal) m c (ix2 r x)
    = ProjSpec.gate (argX m c) (argW m c) (argB m c) ⟨r.val / 2048, by omega⟩ ⟨r.val % 2048, by omega⟩ ⟨1024 + x.val, by omega⟩ := by
  have hp : pt11Of (ix2 r x) = r.val / 512 := by
    show 1 * (r.val / 512 - 0) + 1 * (x.val / 1024 - 0) = r.val / 512
    omega
  have hlt : pt11Of (ix2 r x) < cfg0.N := by
    rw [hp, show cfg0.N = 64 from N_0]
    omega
  have hl : loc11Of (ix2 r x) = ix2 (⟨r.val % 512, by omega⟩ : Fin 512) x := by
    funext a
    match a with
    | 0 => rfl
    | 1 => exact Fin.ext (Nat.mod_eq_of_lt x.isLt)
  unfold G11
  rw [dif_pos hlt, ← outsAt0_sweep m c _ hlt, hl]
  exact gate_at m c ⟨pt11Of (ix2 r x), hlt⟩ _ x _ _ (by show r.val / 2048 = pt11Of (ix2 r x) / 4; rw [hp]; omega)
    (by show r.val % 2048 = pt11Of (ix2 r x) % 4 * 512 + r.val % 512; rw [hp]; omega)

theorem query_result (r : Fin 32768) (x : Fin 512) : G12 (F := Ideal) m c (ix2 r x)
    = ProjSpec.query (argX m c) (argW m c) cosA sinA ⟨r.val / 2048, by omega⟩ ⟨r.val % 2048, by omega⟩ x := by
  have hp : pt12Of (ix2 r x) = r.val / 512 := by
    show 1 * (r.val / 512 - 0) + 1 * (x.val / 512 - 0) = r.val / 512
    omega
  have hlt : pt12Of (ix2 r x) < cfg0.N := by
    rw [hp, show cfg0.N = 64 from N_0]
    omega
  have hl : loc12Of (ix2 r x) = ix2 (⟨r.val % 512, by omega⟩ : Fin 512) x := by
    funext a
    match a with
    | 0 => rfl
    | 1 => exact Fin.ext (Nat.mod_eq_of_lt x.isLt)
  unfold G12
  rw [dif_pos hlt, ← outsAt0_sweep m c _ hlt, hl]
  exact query_out m c ⟨pt12Of (ix2 r x), hlt⟩ _ x _ _ (by show r.val / 2048 = pt12Of (ix2 r x) / 4; rw [hp]; omega)
    (by show r.val % 2048 = pt12Of (ix2 r x) % 4 * 512 + r.val % 512; rw [hp]; omega)

theorem key_result (r : Fin 32768) (x : Fin 512) : G13 (F := Ideal) m c (ix2 r x)
    = ProjSpec.key (argX m c) (argW m c) cosA sinA ⟨r.val / 2048, by omega⟩ ⟨r.val % 2048, by omega⟩ x := by
  have hp : pt13Of (ix2 r x) = r.val / 512 := by
    show 1 * (r.val / 512 - 0) + 1 * (x.val / 512 - 0) = r.val / 512
    omega
  have hlt : pt13Of (ix2 r x) < cfg0.N := by
    rw [hp, show cfg0.N = 64 from N_0]
    omega
  have hl : loc13Of (ix2 r x) = ix2 (⟨r.val % 512, by omega⟩ : Fin 512) x := by
    funext a
    match a with
    | 0 => rfl
    | 1 => exact Fin.ext (Nat.mod_eq_of_lt x.isLt)
  unfold G13
  rw [dif_pos hlt, ← outsAt0_sweep m c _ hlt, hl]
  exact key_out m c ⟨pt13Of (ix2 r x), hlt⟩ _ x _ _ (by show r.val / 2048 = pt13Of (ix2 r x) / 4; rw [hp]; omega)
    (by show r.val % 2048 = pt13Of (ix2 r x) % 4 * 512 + r.val % 512; rw [hp]; omega)

theorem value_result (n : Fin 128) (x : Fin 512) (a : Fin 256) : G14 (F := Ideal) m c (ix3 n x a)
    = ProjSpec.value (argX m c) (argW m c) ⟨n.val / 8, by omega⟩ ⟨n.val % 8 * 256 + a.val, by omega⟩ x := by
  have hp : pt14Of (ix3 n x a) = n.val / 2 := by
    show 1 * (n.val / 2 - 0) + 1 * (x.val / 512 - 0) + 1 * (a.val / 256 - 0) = n.val / 2
    omega
  have hlt : pt14Of (ix3 n x a) < cfg0.N := by
    rw [hp, show cfg0.N = 64 from N_0]
    omega
  have hl : loc14Of (ix3 n x a) = ix3 (⟨n.val % 2, by omega⟩ : Fin 2) x a := by
    funext i
    match i with
    | 0 => rfl
    | 1 => exact Fin.ext (Nat.mod_eq_of_lt x.isLt)
    | 2 => exact Fin.ext (Nat.mod_eq_of_lt a.isLt)
  unfold G14
  rw [dif_pos hlt, ← outsAt0_sweep m c _ hlt, hl]
  exact value_out m c ⟨pt14Of (ix3 n x a), hlt⟩ _ x a _ _ (by show n.val / 8 = pt14Of (ix3 n x a) / 4; rw [hp]; omega)
    (by show n.val % 8 * 256 + a.val = pt14Of (ix3 n x a) % 4 * 512 + (n.val % 2 * 256 + a.val); rw [hp]; omega)

theorem mean_result (n : Fin 128) (y : Fin 512) : G15 (F := Ideal) m c (ix3 n 0 y)
    = ProjSpec.mean (argX m c) (argW m c) cosA sinA n y := by
  have hp : pt15Of (ix3 n 0 y) = n.val / 2 := by
    show 1 * (n.val / 2 - 0) + 1 * (0 / 1 - 0) + 1 * (y.val / 512 - 0) = n.val / 2
    omega
  have hlt : pt15Of (ix3 n 0 y) < cfg0.N := by
    rw [hp, show cfg0.N = 64 from N_0]
    omega
  have hl : loc15Of (ix3 n 0 y) = ix3 (⟨n.val % 2, by omega⟩ : Fin 2) 0 y := by
    funext i
    match i with
    | 0 => rfl
    | 1 => rfl
    | 2 => exact Fin.ext (Nat.mod_eq_of_lt y.isLt)
  unfold G15
  rw [dif_pos hlt, ← outsAt0_sweep m c _ hlt, hl]
  exact mean_out m c ⟨pt15Of (ix3 n 0 y), hlt⟩ _ y n (by show n.val = pt15Of (ix3 n 0 y) * 2 + n.val % 2; rw [hp]; omega)

end Cert.Kernel2Ideal.Proj

end
-- ==== Proof.Proj.Ref.lean ====
/-
  The reference's results entry by entry, at exact numbers.
-/
module

public import proofs.«01_k».proof.Proof.Gen.Reference2Ideal.Run
public import proofs.«01_k».proof.Proof.Proj.Spec
public import Idealize.ShloMosaic.Lib.Claim

@[expose] public section

set_option maxRecDepth 16384

noncomputable section

namespace Cert.Reference2Ideal.Proj

open Idealize.ShloMosaic Idealize.ShloMosaic.TcCoe Idealize.ShloMosaic.Tactic Cert.Reference2Ideal Cert.Reference2Ideal.Gen Cert.Reference2Ideal.Value

section Terms

variable {F : FTy → Type} [FloatOps F]

/-- The projection. -/
def proj (X : FVec F S16x2048x1024 .f32) (W : FVec F S1x1024x6656 .f32) : FVec F S16x2048x6656 .f32 :=
  Host.dotGeneral dot_S16x2048x1024_S1024x6656_S16x2048x6656_2_0_01_1_n_n none X (shapeCast _ W shapeCasts_S1x1024x6656_S1024x6656)

/-- The angles. -/
def angles : FVec F S2048x8 .f32 :=
  mulf (broadcastInDim S2048x8 ![0, 1] bcast_S2048x1_S2048x8_0_1 (broadcastInDim S2048x1 ![0] bcast_S2048_S2048x1_0 (sitofp .f32 (iotaInDim S2048 32 0)))) (broadcastInDim S2048x8 ![0, 1] bcast_S1x8_S2048x8_0_1 (broadcastInDim S1x8 ![1] bcast_S8_S1x8_1 (Host.powf (broadcastInDim S8 ![] bcast_S_S8 (constant S_ .f32 0x48F42400#32)) (Host.divf (mulf (Host.negf (sitofp .f32 (iotaInDim S8 32 0))) (broadcastInDim S8 ![] bcast_S_S8 (constant S_ .f32 0x40000000#32))) (broadcastInDim S8 ![] bcast_S_S8 (constant S_ .f32 0x41800000#32))))))

/-- The keys and the queries, head by head. -/
def heads (d : FVec F S16x2048x6656 .f32) : FVec F S16x8x2048x64 .f32 :=
  transpose S16x8x2048x64 [0, 2, 1, 3] (shapeCast _ (extractStridedSlice S16x2048x512 ![0, 0, 3584] d slices_S16x2048x6656_S16x2048x512_0_0_3584) shapeCasts_S16x2048x512_S16x2048x8x64) transposes_S16x2048x8x64_S16x8x2048x64_0_2_1_3
def headsQ (d : FVec F S16x2048x6656 .f32) : FVec F S16x8x2048x64 .f32 :=
  transpose S16x8x2048x64 [0, 2, 1, 3] (shapeCast _ (extractStridedSlice S16x2048x512 ![0, 0, 3072] d slices_S16x2048x6656_S16x2048x512_0_0_3072) shapeCasts_S16x2048x512_S16x2048x8x64) transposes_S16x2048x8x64_S16x8x2048x64_0_2_1_3

/-- The rotation. -/
def rotated (h : FVec F S16x8x2048x64 .f32) : FVec F S16x8x2048x64 .f32 :=
  ((concatenate S16x8x2048x64 3 [⟨S16x8x2048x8, ((subf (mulf (extractStridedSlice S16x8x2048x8 ![0, 0, 0, 0] h slices_S16x8x2048x64_S16x8x2048x8_0_0_0_0) (broadcastInDim S16x8x2048x8 ![0, 1, 2, 3] bcast_S1x1x2048x8_S16x8x2048x8_0_1_2_3 (broadcastInDim S1x1x2048x8 ![2, 3] bcast_S2048x8_S1x1x2048x8_2_3 (Host.cos angles)))) (mulf (extractStridedSlice S16x8x2048x8 ![0, 0, 0, 8] h slices_S16x8x2048x64_S16x8x2048x8_0_0_0_8) (broadcastInDim S16x8x2048x8 ![0, 1, 2, 3] bcast_S1x1x2048x8_S16x8x2048x8_0_1_2_3 (broadcastInDim S1x1x2048x8 ![2, 3] bcast_S2048x8_S1x1x2048x8_2_3 (Host.sin angles))))) : (⟨S16x8x2048x8, .f32⟩ : BufTy).Contents (Elt F))⟩, ⟨S16x8x2048x8, ((addf (mulf (extractStridedSlice S16x8x2048x8 ![0, 0, 0, 8] h slices_S16x8x2048x64_S16x8x2048x8_0_0_0_8) (broadcastInDim S16x8x2048x8 ![0, 1, 2, 3] bcast_S1x1x2048x8_S16x8x2048x8_0_1_2_3 (broadcastInDim S1x1x2048x8 ![2, 3] bcast_S2048x8_S1x1x2048x8_2_3 (Host.cos angles)))) (mulf (extractStridedSlice S16x8x2048x8 ![0, 0, 0, 0] h slices_S16x8x2048x64_S16x8x2048x8_0_0_0_0) (broadcastInDim S16x8x2048x8 ![0, 1, 2, 3] bcast_S1x1x2048x8_S16x8x2048x8_0_1_2_3 (broadcastInDim S1x1x2048x8 ![2, 3] bcast_S2048x8_S1x1x2048x8_2_3 (Host.sin angles))))) : (⟨S16x8x2048x8, .f32⟩ : BufTy).Contents (Elt F))⟩, ⟨S16x8x2048x48, ((extractStridedSlice S16x8x2048x48 ![0, 0, 0, 16] h slices_S16x8x2048x64_S16x8x2048x48_0_0_0_16) : (⟨S16x8x2048x48, .f32⟩ : BufTy).Contents (Elt F))⟩] concatenates_S16x8x2048x8_S16x8x2048x8_S16x8x2048x48_S16x8x2048x64_d3 : (⟨S16x8x2048x64, .f32⟩ : BufTy).Contents (Elt F)))

/-- Heads put back side by side. -/
def flat (h : FVec F S16x8x2048x64 .f32) : FVec F S32768x512 .f32 :=
  shapeCast _ (transpose S16x2048x8x64 [0, 2, 1, 3] h transposes_S16x8x2048x64_S16x2048x8x64_0_2_1_3) shapeCasts_S16x2048x8x64_S32768x512

/-- The gates. -/
def gates (d : FVec F S16x2048x6656 .f32) (B : FVec F S1x2048 .f32) : FVec F S16x2048x2048 .f32 :=
  Host.divf (broadcastInDim S16x2048x2048 ![] bcast_S_S16x2048x2048 (constant S_ .f32 0x3F800000#32)) (addf (broadcastInDim S16x2048x2048 ![] bcast_S_S16x2048x2048 (constant S_ .f32 0x3F800000#32)) (Host.exp (Host.negf (addf (extractStridedSlice S16x2048x2048 ![0, 0, 4608] d slices_S16x2048x6656_S16x2048x2048_0_0_4608) (broadcastInDim S16x2048x2048 ![0, 1, 2] bcast_S1x1x2048_S16x2048x2048_0_1_2 (broadcastInDim S1x1x2048 ![2] bcast_S2048_S1x1x2048_2 (shapeCast _ B shapeCasts_S1x2048_S2048)))))))

/-- The product of two projections, two zero rows put before every sequence. -/
def padded (d : FVec F S16x2048x6656 .f32) : FVec F S16x2050x1024 .f32 :=
  pad S16x2050x1024 ![0, 2, 0] ![0, 0, 0] ![0, 0, 0] (mulf (extractStridedSlice S16x2048x1024 ![0, 0, 1024] d slices_S16x2048x6656_S16x2048x1024_0_0_1024) (extractStridedSlice S16x2048x1024 ![0, 0, 2048] d slices_S16x2048x6656_S16x2048x1024_0_0_2048)) (sitofp .f32 (constantI S_ 32 0#32)) pads_S16x2048x1024_S16x2050x1024_000_200_000 h_S_

/-- The short convolution, times the first projection. -/
def branched (d : FVec F S16x2048x6656 .f32) (p : FVec F S16x2050x1024 .f32) (T : FVec F S1x3x1024 .f32) : FVec F S16x2048x1024 .f32 :=
  mulf (extractStridedSlice S16x2048x1024 ![0, 0, 0] d slices_S16x2048x6656_S16x2048x1024_0_0_0) (addf (addf (addf (broadcastInDim S16x2048x1024 ![] bcast_S_S16x2048x1024 (constant S_ .f32 0x00000000#32)) (mulf (extractStridedSlice S16x2048x1024 ![0, 0, 0] p slices_S16x2050x1024_S16x2048x1024_0_0_0) (broadcastInDim S16x2048x1024 ![0, 1, 2] bcast_S1x1x1024_S16x2048x1024_0_1_2 (broadcastInDim S1x1x1024 ![2] bcast_S1024_S1x1x1024_2 (shapeCast _ (extractStridedSlice S1x1024 ![0, 0] (shapeCast _ T shapeCasts_S1x3x1024_S3x1024) slices_S3x1024_S1x1024_0_0) shapeCasts_S1x1024_S1024))))) (mulf (extractStridedSlice S16x2048x1024 ![0, 1, 0] p slices_S16x2050x1024_S16x2048x1024_0_1_0) (broadcastInDim S16x2048x1024 ![0, 1, 2] bcast_S1x1x1024_S16x2048x1024_0_1_2 (broadcastInDim S1x1x1024 ![2] bcast_S1024_S1x1x1024_2 (shapeCast _ (extractStridedSlice S1x1024 ![1, 0] (shapeCast _ T shapeCasts_S1x3x1024_S3x1024) slices_S3x1024_S1x1024_1_0) shapeCasts_S1x1024_S1024))))) (mulf (extractStridedSlice S16x2048x1024 ![0, 2, 0] p slices_S16x2050x1024_S16x2048x1024_0_2_0) (broadcastInDim S16x2048x1024 ![0, 1, 2] bcast_S1x1x1024_S16x2048x1024_0_1_2 (broadcastInDim S1x1x1024 ![2] bcast_S1024_S1x1x1024_2 (shapeCast _ (extractStridedSlice S1x1024 ![2, 0] (shapeCast _ T shapeCasts_S1x3x1024_S3x1024) slices_S3x1024_S1x1024_2_0) shapeCasts_S1x1024_S1024)))))

variable (m : (ℓ : Loc nD τ sig) → Buf (Elt F) ℓ) (c : Dev nD)

/-- The tokens, the input weights, the gates' bias, the taps and the output weights. -/
abbrev argX : FVec F S16x2048x1024 .f32 := m ((c.tc : Thread nD τ).loc main_arg0)
abbrev argW : FVec F S1x1024x6656 .f32 := m ((c.tc : Thread nD τ).loc main_arg1)
abbrev argB : FVec F S1x2048 .f32 := m ((c.tc : Thread nD τ).loc main_arg2)
abbrev argT : FVec F S1x3x1024 .f32 := m ((c.tc : Thread nD τ).loc main_arg3)
abbrev argO : FVec F S1x1024x1024 .f32 := m ((c.tc : Thread nD τ).loc main_arg4)

/-- The second half of the gates, and the values block by block. -/
def gateRes (d : FVec F S16x2048x6656 .f32) (B : FVec F S1x2048 .f32) : FVec F S32768x1024 .bf16 :=
  truncf .bf16 (shapeCast _ (extractStridedSlice S16x2048x1024 ![0, 0, 1024] (gates d B) slices_S16x2048x2048_S16x2048x1024_0_0_1024) shapeCasts_S16x2048x1024_S32768x1024) bitsLt_bf16_f32
def valueRes (d : FVec F S16x2048x6656 .f32) : FVec F S128x512x256 .bf16 :=
  truncf .bf16 (transpose S128x512x256 [0, 2, 1] (shapeCast _ (extractStridedSlice S16x2048x512 ![0, 0, 4096] d slices_S16x2048x6656_S16x2048x512_0_0_4096) shapeCasts_S16x2048x512_S128x256x512) transposes_S128x256x512_S128x512x256_0_2_1) bitsLt_bf16_f32

/-- The gated branch projected out, the mean keys and the scaled queries. -/
def convRes (g : FVec F S16x2048x2048 .f32) (y : FVec F S16x2048x1024 .f32) (O : FVec F S1x1024x1024 .f32) : FVec F S32768x1024 .bf16 :=
  truncf .bf16 (shapeCast _ (mulf (extractStridedSlice S16x2048x1024 ![0, 0, 0] g slices_S16x2048x2048_S16x2048x1024_0_0_0)
    (Host.dotGeneral dot_S16x2048x1024_S1024x1024_S16x2048x1024_2_0_01_1_n_n none y (shapeCast _ O shapeCasts_S1x1024x1024_S1024x1024))) shapeCasts_S16x2048x1024_S32768x1024) bitsLt_bf16_f32
def meanRes (k : FVec F S32768x512 .f32) : FVec F S128x1x512 .f32 :=
  Host.divf (broadcastInDim S128x1x512 ![0, 2] bcast_S128x512_S128x1x512_0_2
    (Host.reduceAdd (shapeCast S128x256x512 k shapeCasts_S32768x512_S128x256x512)
      (constant S_ .f32 0x00000000#32) reducesTo_S128x256x512_S128x512_d1 h_S_)) (broadcastInDim S128x1x512 ![] bcast_S_S128x1x512 (constant S_ .f32 0x43800000#32))
def queryRes (q : FVec F S32768x512 .f32) : FVec F S32768x512 .bf16 :=
  truncf .bf16 (mulf q (broadcastInDim S32768x512 ![] bcast_S_S32768x512 (constant S_ .f32 0x3E000000#32))) bitsLt_bf16_f32

theorem res_conv : (res_main_v135 m c : FVec F S32768x1024 .bf16) = convRes (gates (proj (argX m c) (argW m c)) (argB m c))
    (branched (proj (argX m c) (argW m c)) (padded (proj (argX m c) (argW m c))) (argT m c)) (argO m c) := rfl

theorem res_query : (res_main_v140 m c : FVec F S32768x512 .bf16) = queryRes (flat (rotated (headsQ (proj (argX m c) (argW m c))))) := rfl

theorem res_key : (res_main_v141 m c : FVec F S32768x512 .bf16) = truncf .bf16 (flat (rotated (heads (proj (argX m c) (argW m c))))) bitsLt_bf16_f32 := rfl

theorem res_mean : (res_main_v130 m c : FVec F S128x1x512 .f32) = meanRes (flat (rotated (heads (proj (argX m c) (argW m c))))) := rfl

end Terms

variable (X : FVec Ideal S16x2048x1024 .f32) (W : FVec Ideal S1x1024x6656 .f32) (B : FVec Ideal S1x2048 .f32) (T : FVec Ideal S1x3x1024 .f32)

/-- The angles' cosines and sines. -/
def cosA (s : Fin 2048) (i : Fin 8) : EReal := Host.cos (F := Ideal) angles (ix2 s i)
def sinA (s : Fin 2048) (i : Fin 8) : EReal := Host.sin (F := Ideal) angles (ix2 s i)

theorem proj_at (b : Fin 16) (s : Fin 2048) (j : Fin 6656) : proj (F := Ideal) X W (ix3 b s j) = ProjSpec.z X W b s j := by
  unfold ProjSpec.z
  pointwise [proj]

theorem heads_at (d : FVec Ideal S16x2048x6656 .f32) (b : Fin 16) (g : Fin 8) (s : Fin 2048) (e : Fin 64) :
    heads (F := Ideal) d (ix4 b g s e) = d (ix3 b s ⟨3584 + (g.val * 64 + e.val), by omega⟩) := by
  pointwise [heads]

theorem headsQ_at (d : FVec Ideal S16x2048x6656 .f32) (b : Fin 16) (g : Fin 8) (s : Fin 2048) (e : Fin 64) :
    headsQ (F := Ideal) d (ix4 b g s e) = d (ix3 b s ⟨3072 + (g.val * 64 + e.val), by omega⟩) := by
  pointwise [headsQ]

theorem flat_at (h : FVec Ideal S16x8x2048x64 .f32) (r : Fin 32768) (y : Fin 512) :
    flat (F := Ideal) h (ix2 r y) = h (ix4 ⟨r.val / 2048, by omega⟩ ⟨y.val / 64, by omega⟩ ⟨r.val % 2048, by omega⟩ ⟨y.val % 64, by omega⟩) := by
  pointwise [flat]

theorem rotated_at (h : FVec Ideal S16x8x2048x64 .f32) (b : Fin 16) (g : Fin 8) (s : Fin 2048) (e : Fin 64) :
    rotated (F := Ideal) h (ix4 b g s e) = if h1 : e.val < 8
      then @HSub.hSub EReal EReal EReal _ (@HMul.hMul EReal EReal EReal _ (h (ix4 b g s e)) (cosA s ⟨e.val, h1⟩))
        (@HMul.hMul EReal EReal EReal _ (h (ix4 b g s ⟨8 + e.val, by omega⟩)) (sinA s ⟨e.val, h1⟩))
      else if h2 : e.val - 8 < 8
      then @HAdd.hAdd EReal EReal EReal _ (@HMul.hMul EReal EReal EReal _ (h (ix4 b g s ⟨8 + (e.val - 8), by omega⟩)) (cosA s ⟨e.val - 8, h2⟩))
        (@HMul.hMul EReal EReal EReal _ (h (ix4 b g s ⟨e.val - 8, by omega⟩)) (sinA s ⟨e.val - 8, h2⟩))
      else h (ix4 b g s ⟨16 + (e.val - 8 - 8), by omega⟩) := by
  unfold cosA sinA rotated
  generalize (angles (F := Ideal)) = A
  pointwise []

theorem gates_at (d : FVec Ideal S16x2048x6656 .f32) (b : Fin 16) (s : Fin 2048) (j : Fin 2048) : gates (F := Ideal) d B (ix3 b s j)
    = Ideal.div 1 (1 + Ideal.exp (-((d (ix3 b s ⟨4608 + j.val, by omega⟩) : EReal) + (B (ix2 0 j) : EReal)))) := by
  pointwise [gates]

theorem gateRes_at (d : FVec Ideal S16x2048x6656 .f32) (r : Fin 32768) (x : Fin 1024) : gateRes (F := Ideal) d B (ix2 r x)
    = gates (F := Ideal) d B (ix3 ⟨r.val / 2048, by omega⟩ ⟨r.val % 2048, by omega⟩ ⟨1024 + x.val, by omega⟩) := by
  pointwise [gateRes]

theorem valueRes_at (d : FVec Ideal S16x2048x6656 .f32) (n : Fin 128) (x : Fin 512) (a : Fin 256) : valueRes (F := Ideal) d (ix3 n x a)
    = d (ix3 ⟨n.val / 8, by omega⟩ ⟨n.val % 8 * 256 + a.val, by omega⟩ ⟨4096 + x.val, by omega⟩) := by
  pointwise [valueRes]

theorem padded_at (d : ℕ) (hd : d ≤ 2) (b : Fin 16) (s : Fin 2048) (x : Fin 1024) (s' : Fin 2050) (hs : s'.val + d = s.val + 2) :
    padded (F := Ideal) (proj X W) (ix3 b s' x) = ProjSpec.back X W d b s x := by
  have h0 : (FloatOps.sitofp (F := Ideal) FTy.f32 0#32 : EReal) = 0 := by
    show (((0#32 : BitVec 32).toInt : ℝ) : EReal) = 0
    simp
  unfold ProjSpec.back ProjSpec.u
  pointwise [padded, proj_at]
  by_cases h : d ≤ s.val
  · have e : (⟨s'.val - 2, by omega⟩ : Fin 2048) = ⟨s.val - d, by omega⟩ := Fin.ext (by show s'.val - 2 = s.val - d; omega)
    rw [dif_pos (by omega), dif_pos h]
    simp only [e]
  · rw [dif_neg (by omega), dif_neg h]
    exact h0

theorem branched_at (b : Fin 16) (s : Fin 2048) (x : Fin 1024) :
    branched (F := Ideal) (proj X W) (padded (proj X W)) T (ix3 b s x) = ProjSpec.branch X W T b s x := by
  have hp : ∀ (d : ℕ) (hd : d ≤ 2) (s' : Fin 2050) (hs : s'.val + d = s.val + 2), padded (F := Ideal) (proj X W) (ix3 b s' x) = ProjSpec.back X W d b s x :=
    fun d hd s' hs => padded_at X W d hd b s x s' hs
  have hu : ProjSpec.back X W 0 b s x = ProjSpec.u X W b s x := by
    unfold ProjSpec.back
    rw [dif_pos (Nat.zero_le _)]
    rfl
  unfold ProjSpec.branch
  have e : branched (F := Ideal) (proj X W) (padded (proj X W)) T (ix3 b s x) = @HMul.hMul EReal EReal EReal _ (proj (F := Ideal) X W (ix3 b s ⟨x.val, by omega⟩))
      (@HAdd.hAdd EReal EReal EReal _ (@HAdd.hAdd EReal EReal EReal _
        (@HMul.hMul EReal EReal EReal _ (padded (F := Ideal) (proj X W) (ix3 b ⟨s.val, by omega⟩ x)) (T (ix3 0 0 x)))
        (@HMul.hMul EReal EReal EReal _ (padded (F := Ideal) (proj X W) (ix3 b ⟨1 + s.val, by omega⟩ x)) (T (ix3 0 1 x))))
        (@HMul.hMul EReal EReal EReal _ (padded (F := Ideal) (proj X W) (ix3 b ⟨2 + s.val, by omega⟩ x)) (T (ix3 0 2 x)))) := by
    generalize padded (F := Ideal) (proj X W) = p
    generalize proj (F := Ideal) X W = d
    pointwise [branched]
  rw [e, hp 2 (by omega) _ (by show s.val + 2 = s.val + 2; rfl), hp 1 (by omega) _ (by show 1 + s.val + 1 = s.val + 2; omega),
    hp 0 (by omega) _ (by show 2 + s.val + 0 = s.val + 2; omega), hu, proj_at, mul_comm (ProjSpec.back X W 2 b s x), mul_comm (ProjSpec.back X W 1 b s x),
    mul_comm (ProjSpec.u X W b s x)]

theorem convRes_at (g : FVec Ideal S16x2048x2048 .f32) (y : FVec Ideal S16x2048x1024 .f32) (O : FVec Ideal S1x1024x1024 .f32) (r : Fin 32768) (x : Fin 1024) :
    convRes (F := Ideal) g y O (ix2 r x) = @HMul.hMul EReal EReal EReal _ (g (ix3 ⟨r.val / 2048, by omega⟩ ⟨r.val % 2048, by omega⟩ ⟨x.val, by omega⟩))
      (∑ k : Fin 1024, @HMul.hMul EReal EReal EReal _ (y (ix3 ⟨r.val / 2048, by omega⟩ ⟨r.val % 2048, by omega⟩ k)) (O (ix3 0 k x))) := by
  pointwise [convRes]

theorem meanRes_at (k : FVec Ideal S32768x512 .f32) (n : Fin 128) (y : Fin 512) : meanRes (F := Ideal) k (ix3 n 0 y)
    = Ideal.div (∑ a : Fin 256, (k (ix2 ⟨n.val * 256 + a.val, by omega⟩ y) : EReal)) (Ideal.ofBits .f32 0x43800000#32) := by
  pointwise [meanRes]

theorem queryRes_at (q : FVec Ideal S32768x512 .f32) (r : Fin 32768) (y : Fin 512) : queryRes (F := Ideal) q (ix2 r y)
    = @HMul.hMul EReal EReal EReal _ (q (ix2 r y)) (Ideal.ofBits .f32 0x3E000000#32) := by
  pointwise [queryRes]

/-- The rotated heads side by side are the rotation of the row. -/
theorem rope_at (h : FVec Ideal S16x8x2048x64 .f32) (v : Fin 16 → Fin 2048 → Fin 512 → EReal)
    (hv : ∀ b g s e, h (ix4 b g s e) = v b s ⟨g.val * 64 + e.val, by omega⟩) (r : Fin 32768) (y : Fin 512) (b : Fin 16) (s : Fin 2048) (hb : b.val = r.val / 2048)
    (hs : s.val = r.val % 2048) :
    flat (F := Ideal) (rotated h) (ix2 r y) = ProjSpec.rope cosA sinA (v b s) s y := by
  have eb : (⟨r.val / 2048, by omega⟩ : Fin 16) = b := Fin.ext hb.symm
  have es : (⟨r.val % 2048, by omega⟩ : Fin 2048) = s := Fin.ext hs.symm
  rw [flat_at, rotated_at]
  simp only [hv, eb, es]
  unfold ProjSpec.rope
  by_cases h1 : y.val % 64 < 8
  · rw [dif_pos h1, dif_pos h1]
    have e1 : (⟨y.val / 64 * 64 + y.val % 64, by omega⟩ : Fin 512) = y := Fin.ext (by show y.val / 64 * 64 + y.val % 64 = y.val; omega)
    have e2 : (⟨y.val / 64 * 64 + (8 + y.val % 64), by omega⟩ : Fin 512) = ⟨y.val + 8, by omega⟩ :=
      Fin.ext (by show y.val / 64 * 64 + (8 + y.val % 64) = y.val + 8; omega)
    rw [e1, e2]
  · rw [dif_neg h1, dif_neg h1]
    by_cases h2 : y.val % 64 < 16
    · rw [dif_pos (by omega), dif_pos h2]
      have e1 : (⟨y.val / 64 * 64 + (8 + (y.val % 64 - 8)), by omega⟩ : Fin 512) = y := Fin.ext (by show y.val / 64 * 64 + (8 + (y.val % 64 - 8)) = y.val; omega)
      have e2 : (⟨y.val / 64 * 64 + (y.val % 64 - 8), by omega⟩ : Fin 512) = ⟨y.val - 8, by omega⟩ :=
        Fin.ext (by show y.val / 64 * 64 + (y.val % 64 - 8) = y.val - 8; omega)
      rw [e1, e2]
    · rw [dif_neg (by omega), dif_neg h2]
      exact congrArg (v b s) (Fin.ext (by show y.val / 64 * 64 + (16 + (y.val % 64 - 8 - 8)) = y.val; omega))

theorem key_at (r : Fin 32768) (y : Fin 512) (b : Fin 16) (s : Fin 2048) (hb : b.val = r.val / 2048) (hs : s.val = r.val % 2048) :
    flat (F := Ideal) (rotated (heads (proj X W))) (ix2 r y) = ProjSpec.key X W cosA sinA b s y :=
  rope_at _ (fun b s y => ProjSpec.z X W b s ⟨3584 + y.val, by omega⟩) (fun b g s e => (heads_at _ b g s e).trans (proj_at X W b s _)) r y b s hb hs

theorem query_at (r : Fin 32768) (y : Fin 512) (b : Fin 16) (s : Fin 2048) (hb : b.val = r.val / 2048) (hs : s.val = r.val % 2048) :
    flat (F := Ideal) (rotated (headsQ (proj X W))) (ix2 r y) = ProjSpec.rope cosA sinA (fun y => ProjSpec.z X W b s ⟨3072 + y.val, by omega⟩) s y :=
  rope_at _ (fun b s y => ProjSpec.z X W b s ⟨3072 + y.val, by omega⟩) (fun b g s e => (headsQ_at _ b g s e).trans (proj_at X W b s _)) r y b s hb hs

variable (m : (ℓ : Loc nD τ sig) → Buf (Elt Ideal) ℓ) (c : Dev nD)

/-- The six results, entry by entry. -/
theorem conv_entry (r : Fin 32768) (x : Fin 1024) : (res_main_v135 (F := Ideal) m c : FVec Ideal S32768x1024 .bf16) (ix2 r x)
    = ProjSpec.conv (argX m c) (argW m c) (argB m c) (argT m c) (argO m c) ⟨r.val / 2048, by omega⟩ ⟨r.val % 2048, by omega⟩ x := by
  refine (congrFun (res_conv m c) (ix2 r x)).trans ((convRes_at _ _ _ r x).trans ?_)
  rw [gates_at, proj_at]
  simp only [branched_at]
  rfl

theorem gate_entry (r : Fin 32768) (x : Fin 1024) : gateRes (F := Ideal) (proj (argX m c) (argW m c)) (argB m c) (ix2 r x)
    = ProjSpec.gate (argX m c) (argW m c) (argB m c) ⟨r.val / 2048, by omega⟩ ⟨r.val % 2048, by omega⟩ ⟨1024 + x.val, by omega⟩ := by
  rw [gateRes_at, gates_at, proj_at]
  rfl

theorem query_entry (r : Fin 32768) (y : Fin 512) : (res_main_v140 (F := Ideal) m c : FVec Ideal S32768x512 .bf16) (ix2 r y)
    = ProjSpec.query (argX m c) (argW m c) cosA sinA ⟨r.val / 2048, by omega⟩ ⟨r.val % 2048, by omega⟩ y := by
  refine (congrFun (res_query m c) (ix2 r y)).trans ((queryRes_at _ r y).trans ?_)
  rw [query_at _ _ r y ⟨r.val / 2048, by omega⟩ ⟨r.val % 2048, by omega⟩ rfl rfl]
  rfl

theorem key_entry (r : Fin 32768) (y : Fin 512) : (res_main_v141 (F := Ideal) m c : FVec Ideal S32768x512 .bf16) (ix2 r y)
    = ProjSpec.key (argX m c) (argW m c) cosA sinA ⟨r.val / 2048, by omega⟩ ⟨r.val % 2048, by omega⟩ y :=
  (congrFun (res_key m c) (ix2 r y)).trans (key_at _ _ r y _ _ rfl rfl)

theorem value_entry (n : Fin 128) (x : Fin 512) (a : Fin 256) : valueRes (F := Ideal) (proj (argX m c) (argW m c)) (ix3 n x a)
    = ProjSpec.value (argX m c) (argW m c) ⟨n.val / 8, by omega⟩ ⟨n.val % 8 * 256 + a.val, by omega⟩ x := by
  rw [valueRes_at, proj_at]
  rfl

theorem mean_entry (n : Fin 128) (y : Fin 512) : (res_main_v130 (F := Ideal) m c : FVec Ideal S128x1x512 .f32) (ix3 n 0 y)
    = ProjSpec.mean (argX m c) (argW m c) cosA sinA n y := by
  refine (congrFun (res_mean m c) (ix3 n 0 y)).trans ((meanRes_at _ n y).trans ?_)
  have e : ∀ a : Fin 256, flat (F := Ideal) (rotated (heads (proj (argX m c) (argW m c)))) (ix2 ⟨n.val * 256 + a.val, by omega⟩ y)
      = ProjSpec.key (argX m c) (argW m c) cosA sinA ⟨n.val / 8, by omega⟩ ⟨n.val % 8 * 256 + a.val, by omega⟩ y :=
    fun a => key_at _ _ _ y _ _ (by show n.val / 8 = (n.val * 256 + a.val) / 2048; omega) (by show n.val % 8 * 256 + a.val = (n.val * 256 + a.val) % 2048; omega)
  simp only [e]
  rfl

end Cert.Reference2Ideal.Proj

end
-- ==== Proof.Proj.Algebraic.lean ====
/-
  The two programs' results agree: from launches on the same arguments the kernel and the reference leave the same six arrays.
-/
module

public import proofs.«01_k».proof.Defs
public import proofs.«01_k».proof.Proof.Proj.Result
public import proofs.«01_k».proof.Proof.Proj.Ref

@[expose] public section

set_option maxRecDepth 16384

noncomputable section

namespace Cert.Kernel2Ideal.Proj

open Idealize.ShloMosaic Idealize.ShloMosaic.TcCoe Idealize.ShloMosaic.Tactic Idealize.SL.Sem Cert.Kernel2Ideal Cert.Kernel2Ideal.Gen Cert.Kernel2Ideal.Value

/-- A launch memory of the kernel, and one of the reference. -/
abbrev MemK := (ℓ : Loc Cert.Kernel2Ideal.nD Cert.Kernel2Ideal.τ Cert.Kernel2Ideal.sig) → Buf (Elt Ideal) ℓ
abbrev MemR := (ℓ : Loc Cert.Reference2Ideal.nD Cert.Reference2Ideal.τ Cert.Reference2Ideal.sig) → Buf (Elt Ideal) ℓ

/-- The two launches hold the same arguments on every device. -/
def Same (m : MemK) (m' : MemR) : Prop := ∀ c : Dev nD, Cert.Reference2Ideal.Proj.argX m' c = argX m c ∧ Cert.Reference2Ideal.Proj.argW m' c = argW m c
  ∧ Cert.Reference2Ideal.Proj.argB m' c = argB m c ∧ Cert.Reference2Ideal.Proj.argT m' c = argT m c ∧ Cert.Reference2Ideal.Proj.argO m' c = argO m c

theorem cos_same : Cert.Reference2Ideal.Proj.cosA = cosA := rfl

theorem sin_same : Cert.Reference2Ideal.Proj.sinA = sinA := rfl

variable (m : MemK) (m' : MemR) (h : Same m m') (c : Dev nD)
include h

theorem conv_same : (Cert.Reference2Ideal.Value.res_main_v135 (F := Ideal) m' c : FVec Ideal S32768x1024 .bf16) = G10 (F := Ideal) m c := by
  obtain ⟨hx, hw, hb, ht, ho⟩ := h c
  funext i
  rw [eq_ix2 i]
  refine (Cert.Reference2Ideal.Proj.conv_entry m' c (i 0) (i 1)).trans (Eq.trans ?_ (conv_result m c (i 0) (i 1)).symm)
  rw [hx, hw, hb, ht, ho]

theorem gate_same : Cert.Reference2Ideal.Proj.gateRes (F := Ideal) (Cert.Reference2Ideal.Proj.proj (Cert.Reference2Ideal.Proj.argX m' c) (Cert.Reference2Ideal.Proj.argW m' c)) (Cert.Reference2Ideal.Proj.argB m' c) = G11 (F := Ideal) m c := by
  obtain ⟨hx, hw, hb, ht, ho⟩ := h c
  funext i
  rw [eq_ix2 i]
  refine (Cert.Reference2Ideal.Proj.gate_entry m' c (i 0) (i 1)).trans (Eq.trans ?_ (gate_result m c (i 0) (i 1)).symm)
  rw [hx, hw, hb]

theorem query_same : (Cert.Reference2Ideal.Value.res_main_v140 (F := Ideal) m' c : FVec Ideal S32768x512 .bf16) = G12 (F := Ideal) m c := by
  obtain ⟨hx, hw, hb, ht, ho⟩ := h c
  funext i
  rw [eq_ix2 i]
  refine (Cert.Reference2Ideal.Proj.query_entry m' c (i 0) (i 1)).trans (Eq.trans ?_ (query_result m c (i 0) (i 1)).symm)
  rw [hx, hw, cos_same, sin_same]

theorem key_same : (Cert.Reference2Ideal.Value.res_main_v141 (F := Ideal) m' c : FVec Ideal S32768x512 .bf16) = G13 (F := Ideal) m c := by
  obtain ⟨hx, hw, hb, ht, ho⟩ := h c
  funext i
  rw [eq_ix2 i]
  refine (Cert.Reference2Ideal.Proj.key_entry m' c (i 0) (i 1)).trans (Eq.trans ?_ (key_result m c (i 0) (i 1)).symm)
  rw [hx, hw, cos_same, sin_same]

theorem value_same : Cert.Reference2Ideal.Proj.valueRes (F := Ideal) (Cert.Reference2Ideal.Proj.proj (Cert.Reference2Ideal.Proj.argX m' c) (Cert.Reference2Ideal.Proj.argW m' c)) = G14 (F := Ideal) m c := by
  obtain ⟨hx, hw, hb, ht, ho⟩ := h c
  funext i
  rw [eq_ix3 i]
  refine (Cert.Reference2Ideal.Proj.value_entry m' c (i 0) (i 1) (i 2)).trans (Eq.trans ?_ (value_result m c (i 0) (i 1) (i 2)).symm)
  rw [hx, hw]

theorem mean_same : (Cert.Reference2Ideal.Value.res_main_v130 (F := Ideal) m' c : FVec Ideal S128x1x512 .f32) = G15 (F := Ideal) m c := by
  obtain ⟨hx, hw, hb, ht, ho⟩ := h c
  funext i
  have e : i = ix3 (i 0) (0 : Fin 1) (i 2) := (eq_ix3 i).trans (congrArg (fun y : Fin 1 => ix3 (i 0) y (i 2)) (Subsingleton.elim _ _))
  rw [e]
  refine (Cert.Reference2Ideal.Proj.mean_entry m' c (i 0) (i 2)).trans (Eq.trans ?_ (mean_result m c (i 0) (i 2)).symm)
  rw [hx, hw, cos_same, sin_same]

omit h in
/-- The value claim. -/
theorem algebraic : Cert.algebraic_Kernel2Ideal_Reference2Ideal := fun m ρ m' ρ' _ hag =>
  ⟨fun c => G10 m c, fun c => G11 m c, fun c => G12 m c, fun c => G13 m c, fun c => G14 m c, fun c => G15 m c, Cert.Kernel2Ideal.Value.run (F := Ideal) m ρ,
    (θ_run _ _ _).mono (fun _ h c =>
      have hs : Same m m' := hag
      have hc := h c
      ⟨hc.1.trans (conv_same m m' hs c), hc.2.1.trans (gate_same m m' hs c), hc.2.2.1.trans (query_same m m' hs c), hc.2.2.2.1.trans (key_same m m' hs c),
        hc.2.2.2.2.1.trans (value_same m m' hs c), hc.2.2.2.2.2.1.trans (mean_same m m' hs c), hc.2.2.2.2.2.2⟩)
      (Cert.Reference2Ideal.Value.run (F := Ideal) m' ρ')⟩

end Cert.Kernel2Ideal.Proj

end
-- ==== Proof.Post.Same.lean ====
/-
  The kernel and its ideal reading have the same text, so one run gives both frames.
-/
module

public import proofs.«01_k».proof.Defs
public import proofs.«01_k».proof.Proof.Gen.Kernel3
public import proofs.«01_k».proof.Proof.Gen.Kernel3Ideal.Frame

@[expose] public section

set_option maxRecDepth 16384

noncomputable section

namespace Cert.Kernel3Ideal.Post

open Idealize.ShloMosaic Idealize.ShloMosaic.TcCoe Idealize.ShloMosaic.Tactic Idealize.SL.Sem

set_option smartUnfolding false in
/-- The two programs' procedures are the same. -/
theorem defs_eq : Cert.Kernel3.defs (F := Bits) = Cert.Kernel3Ideal.defs (F := Bits) := rfl

set_option maxHeartbeats 1000000 in
/-- Their main programs are the same. -/
theorem main_eq : Cert.Kernel3.main (F := Bits) = Cert.Kernel3Ideal.main (F := Bits) := by
  delta Cert.Kernel3.main Cert.Kernel3Ideal.main
  rfl

set_option smartUnfolding false in
set_option maxHeartbeats 1000000 in
/-- The kernel's frame is the run of its ideal reading, taken at the bits. -/
theorem frame_kernel : Cert.quiescent_Kernel3 := fun m ρ _ => by
  rw [main_eq, defs_eq]
  exact Cert.Kernel3Ideal.Gen.frame (F := Bits) m ρ

end Cert.Kernel3Ideal.Post

end
-- ==== Proof.Post.Spec.lean ====
/-
  What follows the attention, for one token, at exact numbers: its results as functions of the token's rows and of the weights. Both
  programs' results are read as these.
-/
module

public import Idealize.ShloMosaic.Lib.Pointwise
public import Idealize.ShloMosaic.Lib.ValueIdx

@[expose] public section

set_option maxRecDepth 16384

noncomputable section

namespace Cert.PostSpec

open Idealize.ShloMosaic

/-- The residual's factor, the row's length and the normalisation's small constant. -/
abbrev dn : EReal := Ideal.ofBits .f32 0x3F9837F0#32
abbrev len : EReal := Ideal.ofBits .f32 0x44800000#32
abbrev eps : EReal := Ideal.ofBits .f32 0x3727C5AC#32

/-- The token plus its mix: the attention's row projected, gated, added to the convolution branch and projected. -/
def tok (o : Fin 512 → EReal) (a g x : Fin 1024 → EReal) (WA : Fin 512 → Fin 1024 → EReal) (WM : Fin 1024 → Fin 1024 → EReal) (j : Fin 1024) : EReal :=
  dn * x j + ∑ k : Fin 1024, (a k + g k * ∑ i : Fin 512, o i * WA i k) * WM k j

/-- A row less its mean. -/
def centred (v : Fin 1024 → EReal) (j : Fin 1024) : EReal := v j - Ideal.div (∑ k : Fin 1024, v k) len

/-- A centred row over its deviation, scaled and shifted. -/
def scaled (c ga be : Fin 1024 → EReal) (j : Fin 1024) : EReal :=
  c j * Ideal.rsqrt (Ideal.div (∑ k : Fin 1024, c k * c k) len + eps) * ga j + be j

/-- The normalised token. -/
def h (o : Fin 512 → EReal) (a g x : Fin 1024 → EReal) (WA : Fin 512 → Fin 1024 → EReal) (WM : Fin 1024 → Fin 1024 → EReal) (ga be : Fin 1024 → EReal)
    (j : Fin 1024) : EReal := scaled (centred (tok o a g x WA WM)) ga be j

/-- A row against a column of a matrix. -/
def dot {n : ℕ} (v : Fin 1024 → EReal) (W : Fin 1024 → Fin n → EReal) (e : Fin n) : EReal := ∑ k : Fin 1024, v k * W k e

/-- The shared expert's hidden row. -/
def hidden (v : Fin 1024 → EReal) (W1 W3 : Fin 1024 → Fin 256 → EReal) (e : Fin 256) : EReal :=
  dot v W1 e * Ideal.div 1 (1 + Ideal.exp (-(dot v W1 e))) * dot v W3 e

/-- The token plus the shared expert's result. -/
def base (v : Fin 1024 → EReal) (W1 W3 : Fin 1024 → Fin 256 → EReal) (W2 : Fin 256 → Fin 1024 → EReal) (j : Fin 1024) : EReal :=
  dn * v j + ∑ e : Fin 256, hidden v W1 W3 e * W2 e j

/-- The normalised token `r`, from the arguments. -/
def hAt (O : FVec Ideal ⟨2, ![32768, 512]⟩ .bf16) (A : FVec Ideal ⟨2, ![32768, 1024]⟩ .bf16) (G : FVec Ideal ⟨2, ![32768, 1024]⟩ .bf16) (X : FVec Ideal ⟨3, ![16, 2048, 1024]⟩ .f32) (WA : FVec Ideal ⟨3, ![1, 512, 1024]⟩ .f32) (WM : FVec Ideal ⟨3, ![1, 1024, 1024]⟩ .f32) (Ga : FVec Ideal ⟨2, ![1, 1024]⟩ .f32) (Be : FVec Ideal ⟨2, ![1, 1024]⟩ .f32)
    (r : Fin 32768) : Fin 1024 → EReal :=
  h (fun i => O (ix2 r i)) (fun k => A (ix2 r k)) (fun k => G (ix2 r k)) (fun k => X (ix3 ⟨r.val / 2048, by omega⟩ ⟨r.val % 2048, by omega⟩ k))
    (fun i j => WA (ix3 0 i j)) (fun k j => WM (ix3 0 k j)) (fun j => Ga (ix2 0 j)) (fun j => Be (ix2 0 j))

/-- The token plus the shared expert's result, and the router's score of expert `e`, from the normalised token and the weights. -/
def baseAt (v : Fin 1024 → EReal) (W1 : FVec Ideal ⟨3, ![1, 1024, 256]⟩ .f32) (W3 : FVec Ideal ⟨3, ![1, 1024, 256]⟩ .f32) (W2 : FVec Ideal ⟨3, ![1, 256, 1024]⟩ .f32) (j : Fin 1024) : EReal :=
  base v (fun k e => W1 (ix3 0 k e)) (fun k e => W3 (ix3 0 k e)) (fun e j => W2 (ix3 0 e j)) j
def logitAt (v : Fin 1024 → EReal) (WR : FVec Ideal ⟨3, ![1, 1024, 256]⟩ .f32) (e : Fin 256) : EReal := dot v (fun k e => WR (ix3 0 k e)) e

/-- The column of the normalised token at place `(p, l)` of the experts' layout: the row's halves interleaved 128 columns by 128. -/
def col (p : Fin 8) (l : Fin 128) : Fin 1024 := ⟨p.val % 2 * 512 + p.val / 2 * 128 + l.val, by omega⟩

end Cert.PostSpec

end
-- ==== Proof.Post.Entry.lean ====
/-
  The kernel's values of one tile at exact numbers, entry by entry, over the tile's blocks.
-/
module

public import proofs.«01_k».proof.Proof.Gen.Kernel3Ideal.Value
public import proofs.«01_k».proof.Proof.Post.Spec
public import Idealize.ShloMosaic.Lib.Claim
public import Idealize.ShloMosaic.Lib.Pipeline.Value

@[expose] public section

set_option maxRecDepth 16384

noncomputable section

namespace Cert.Kernel3Ideal.Post

open Idealize.ShloMosaic Idealize.ShloMosaic.TcCoe Idealize.ShloMosaic.Tactic Cert.Kernel3Ideal Cert.Kernel3Ideal.Gen

/-- Row `q` of a tile, and a matrix, as functions of the coordinates. -/
def row {n : ℕ} {e : FTy} (x : FVec Ideal ⟨2, ![512, n]⟩ e) (q : Fin 512) (k : Fin n) : EReal := x (ix2 q k)
def mat {p n : ℕ} {e : FTy} (w : FVec Ideal ⟨2, ![p, n]⟩ e) (k : Fin p) (j : Fin n) : EReal := w (ix2 k j)
def one {n : ℕ} {e : FTy} (w : FVec Ideal ⟨2, ![1, n]⟩ e) (j : Fin n) : EReal := w (ix2 0 j)

theorem pay5_at (o : FVec Ideal S512x512 .bf16) (wa : FVec Ideal S512x1024 .bf16) (a g : FVec Ideal S512x1024 .bf16) (wm : FVec Ideal S1024x1024 .bf16)
    (x : FVec Ideal S512x1024 .f32) (q : Fin 512) (j : Fin 1024) :
    k0_pay5 (F := Ideal) o wa a g wm x (ix2 q j) = PostSpec.centred (PostSpec.tok (row o q) (row a q) (row g q) (row x q) (mat wa) (mat wm)) j := by
  unfold PostSpec.centred PostSpec.tok PostSpec.dn PostSpec.len row mat
  pointwise [k0_pay5]

theorem pay6_at (o : FVec Ideal S512x512 .bf16) (wa : FVec Ideal S512x1024 .bf16) (a g : FVec Ideal S512x1024 .bf16) (wm : FVec Ideal S1024x1024 .bf16)
    (x : FVec Ideal S512x1024 .f32) (q : Fin 512) :
    k0_pay6 (F := Ideal) o wa a g wm x (ix2 q 0) = Ideal.div (∑ k : Fin 1024, row (k0_pay5 (F := Ideal) o wa a g wm x) q k * row (k0_pay5 (F := Ideal) o wa a g wm x) q k) PostSpec.len := by
  unfold PostSpec.len row
  pointwise [k0_pay6]

theorem pay8_at (ga be : FVec Ideal S1x1024 .f32) (d : FVec Ideal S512x1024 .f32) (v : FVec Ideal S512x1 .f32) (q : Fin 512) (j : Fin 1024) :
    k0_pay8 (F := Ideal) (k0_pay3 ga) (k0_pay4 be) d v (k0_pay7 (F := Ideal)) (ix2 q j)
      = row d q j * Ideal.rsqrt (@HAdd.hAdd EReal EReal EReal _ (v (ix2 q 0)) PostSpec.eps) * one ga j + one be j := by
  unfold PostSpec.eps row one
  pointwise [k0_pay8, k0_pay3, k0_pay4, k0_pay7]

/-- The five values the rest of the tile reads, at a tile's row: the tile's normalised row. -/
abbrev nrm (ga be : FVec Ideal S1x1024 .f32) (d : FVec Ideal S512x1024 .f32) (v : FVec Ideal S512x1 .f32) : FVec Ideal S512x1024 .f32 :=
  k0_pay8 (F := Ideal) (k0_pay3 ga) (k0_pay4 be) d v (k0_pay7 (F := Ideal))

theorem pay9_at (ga be : FVec Ideal S1x1024 .f32) (d : FVec Ideal S512x1024 .f32) (v : FVec Ideal S512x1 .f32) (w1 w3 : FVec Ideal S1024x256 .bf16)
    (w2 : FVec Ideal S256x1024 .bf16) (q : Fin 512) (j : Fin 1024) :
    k0_pay9 (F := Ideal) (k0_pay3 ga) (k0_pay4 be) d v (k0_pay7 (F := Ideal)) w1 w3 w2 (ix2 q j)
      = PostSpec.base (row (nrm ga be d v) q) (mat w1) (mat w3) (mat w2) j := by
  unfold PostSpec.base PostSpec.hidden PostSpec.dot PostSpec.dn row mat nrm
  generalize hn : k0_pay8 (F := Ideal) (k0_pay3 ga) (k0_pay4 be) d v (k0_pay7 (F := Ideal)) = n
  unfold k0_pay9
  rw [hn]
  pointwise []
  simp only [zero_sub]

theorem pay2_at (n : FVec Ideal S512x1024 .f32) (wr : FVec Ideal S256x1024 .f32) (e : Fin 256) (q : Fin 512) :
    k0_pay2 (F := Ideal) n wr (ix2 e q) = ∑ k : Fin 1024, mat wr e k * row n q k := by
  unfold row mat
  pointwise [k0_pay2]

theorem pay1_at (ga be : FVec Ideal S1x1024 .f32) (d : FVec Ideal S512x1024 .f32) (v : FVec Ideal S512x1 .f32) (q : Fin 512) (p : Fin 8) (l : Fin 128) :
    k0_pay1 (F := Ideal) (nrm ga be d v) (k0_pay10 (k0_pay3 ga) (k0_pay4 be) d v (k0_pay7 (F := Ideal))) (k0_pay11 (k0_pay3 ga) (k0_pay4 be) d v (k0_pay7 (F := Ideal)))
      (k0_pay12 (k0_pay3 ga) (k0_pay4 be) d v (k0_pay7 (F := Ideal))) (k0_pay13 (k0_pay3 ga) (k0_pay4 be) d v (k0_pay7 (F := Ideal)))
      (k0_pay14 (k0_pay3 ga) (k0_pay4 be) d v (k0_pay7 (F := Ideal))) (k0_pay15 (k0_pay3 ga) (k0_pay4 be) d v (k0_pay7 (F := Ideal))) (ix3 q p l)
      = row (nrm ga be d v) q ⟨p.val % 2 * 512 + p.val / 2 * 128 + l.val, by omega⟩ := by
  unfold row nrm k0_pay10 k0_pay11 k0_pay12 k0_pay13 k0_pay14 k0_pay15
  generalize k0_pay8 (F := Ideal) (k0_pay3 ga) (k0_pay4 be) d v (k0_pay7 (F := Ideal)) = n
  match p with
  | ⟨0, _⟩ => pointwise [k0_pay1]
  | ⟨1, _⟩ => pointwise [k0_pay1]
  | ⟨2, _⟩ => pointwise [k0_pay1]
  | ⟨3, _⟩ => pointwise [k0_pay1]
  | ⟨4, _⟩ => pointwise [k0_pay1]
  | ⟨5, _⟩ => pointwise [k0_pay1]
  | ⟨6, _⟩ => pointwise [k0_pay1]
  | ⟨7, _⟩ => pointwise [k0_pay1]

end Cert.Kernel3Ideal.Post

end
-- ==== Proof.Post.Tile.lean ====
/-
  What one grid point writes, entry by entry, over the blocks it reads.
-/
module

public import proofs.«01_k».proof.Proof.Post.Entry

@[expose] public section

set_option maxRecDepth 16384

noncomputable section

namespace Cert.Kernel3Ideal.Post

open Idealize.ShloMosaic Idealize.ShloMosaic.TcCoe Idealize.ShloMosaic.Tactic Cert.Kernel3Ideal Cert.Kernel3Ideal.Gen

variable (x0 : FVec Ideal S512x512 .bf16) (x1 x2 : FVec Ideal S512x1024 .bf16) (x3 : FVec Ideal S512x1024 .f32) (x4 : FVec Ideal S512x1024 .bf16)
  (x5 : FVec Ideal S1024x1024 .bf16) (x6 x7 : FVec Ideal S1x1024 .f32) (x8 x9 : FVec Ideal S1024x256 .bf16) (x10 : FVec Ideal S256x1024 .bf16) (x11 : FVec Ideal S256x1024 .f32)

/-- The tile's normalised row `q`. -/
abbrev hRow (q : Fin 512) : Fin 1024 → EReal :=
  PostSpec.h (row x0 q) (row x1 q) (row x2 q) (row x3 q) (mat x4) (mat x5) (one x6) (one x7)

theorem nrm_row (q : Fin 512) :
    row (nrm x6 x7 (k0_pay5 (F := Ideal) x0 x4 x1 x2 x5 x3) (k0_pay6 (F := Ideal) x0 x4 x1 x2 x5 x3)) q = hRow x0 x1 x2 x3 x4 x5 x6 x7 q := by
  have hc : row (k0_pay5 (F := Ideal) x0 x4 x1 x2 x5 x3) q = PostSpec.centred (PostSpec.tok (row x0 q) (row x1 q) (row x2 q) (row x3 q) (mat x4) (mat x5)) :=
    funext fun j => pay5_at x0 x4 x1 x2 x5 x3 q j
  funext j
  refine (pay8_at x6 x7 _ _ q j).trans ?_
  rw [pay6_at, hc]
  rfl

private theorem hz : (![0, 0] : Fin 2 → ℕ) = fun _ => 0 := funext fun a => by fin_cases a <;> rfl
private theorem hz3 : (![0, 0, 0] : Fin 3 → ℕ) = fun _ => 0 := funext fun a => by fin_cases a <;> rfl

theorem out12_at (q : Fin 512) (j : Fin 1024) : out0_12 (F := Ideal) x0 x1 x2 x3 x4 x5 x6 x7 x8 x9 x10 x11 (ix2 q j)
    = PostSpec.base (hRow x0 x1 x2 x3 x4 x5 x6 x7 q) (mat x8) (mat x9) (mat x10) j := by
  unfold_out out0_12
  unfold r0_0 r0_1 r0_2 r0_3 r0_4 r0_5
  simp only [View.canon_cons_unit_zero (S := S512x1024) hz, View.ld_unit_zero (S := S512x1024) hz, View.ld_unit_zero (S := S512x512) hz,
    View.ld_unit_zero (S := S1024x1024) hz, View.ld_unit_zero (S := S1x1024) hz, View.ld_unit_zero (S := S1024x256) hz, View.ld_unit_zero (S := S256x1024) hz]
  exact (pay9_at _ _ _ _ _ _ _ q j).trans (congrArg (fun v => PostSpec.base v (mat x8) (mat x9) (mat x10) j) (nrm_row x0 x1 x2 x3 x4 x5 x6 x7 q))

theorem out13_at (q : Fin 512) (p : Fin 8) (l : Fin 128) : out0_13 (F := Ideal) x0 x1 x2 x3 x4 x5 x6 x7 x8 x9 x10 x11 (ix3 q p l)
    = hRow x0 x1 x2 x3 x4 x5 x6 x7 q ⟨p.val % 2 * 512 + p.val / 2 * 128 + l.val, by omega⟩ := by
  unfold_out out0_13
  unfold r0_0 r0_1 r0_2 r0_3 r0_6
  simp only [View.canon_cons_unit_zero (S := S512x8x128) hz3, View.ld_unit_zero (S := S512x1024) hz, View.ld_unit_zero (S := S512x512) hz,
    View.ld_unit_zero (S := S1024x1024) hz, View.ld_unit_zero (S := S1x1024) hz]
  exact (pay1_at _ _ _ _ q p l).trans (congrFun (nrm_row x0 x1 x2 x3 x4 x5 x6 x7 q) _)

theorem out14_at (e : Fin 256) (q : Fin 512) : out0_14 (F := Ideal) x0 x1 x2 x3 x4 x5 x6 x7 x8 x9 x10 x11 (ix2 e q)
    = PostSpec.dot (hRow x0 x1 x2 x3 x4 x5 x6 x7 q) (fun k e => mat x11 e k) e := by
  unfold_out out0_14
  unfold r0_0 r0_1 r0_2 r0_3 r0_5 r0_7
  simp only [View.canon_cons_unit_zero (S := S256x512) hz, View.ld_unit_zero (S := S512x1024) hz, View.ld_unit_zero (S := S512x512) hz,
    View.ld_unit_zero (S := S1024x1024) hz, View.ld_unit_zero (S := S1x1024) hz, View.ld_unit_zero (S := S256x1024) hz]
  refine (pay2_at _ _ e q).trans (Finset.sum_congr rfl fun k _ => (mul_comm _ _).trans ?_)
  exact congrArg (fun y : EReal => @HMul.hMul EReal EReal EReal _ y (mat x11 e k)) (congrFun (nrm_row x0 x1 x2 x3 x4 x5 x6 x7 q) k)

end Cert.Kernel3Ideal.Post

end
-- ==== Proof.Post.Blocks.lean ====
/-
  The entries of the blocks a grid point reads, as entries of the program's arguments.
-/
module

public import proofs.«01_k».proof.Proof.Gen.Kernel3Ideal.Value
public import Idealize.ShloMosaic.Lib.Pointwise
public import Idealize.ShloMosaic.Lib.ValueIdx
public import Idealize.ShloMosaic.Lib.Claim
public import Idealize.ShloMosaic.Lib.StableHlo.RunRead
public import Idealize.ShloMosaic.Lib.Pipeline.Value

@[expose] public section

set_option maxRecDepth 16384

noncomputable section

namespace Cert.Kernel3Ideal.Post

open Idealize.ShloMosaic Idealize.ShloMosaic.TcCoe Idealize.ShloMosaic.Tactic Cert.Kernel3Ideal Cert.Kernel3Ideal.Gen

variable (m : (ℓ : Loc nD τ sig) → Buf (Elt Ideal) ℓ) (c : Dev nD)

/-- The attention's rows, the convolution branch, the gates, the tokens, the two output weights, the normalisation's scale and shift, the
    shared expert's three weights and the router's. -/
abbrev argO : FVec Ideal S32768x512 .bf16 := m ((c : Thread nD τ).loc main_arg0)
abbrev argA : FVec Ideal S32768x1024 .bf16 := m ((c : Thread nD τ).loc main_arg1)
abbrev argG : FVec Ideal S32768x1024 .bf16 := m ((c : Thread nD τ).loc main_arg2)
abbrev argX : FVec Ideal S16x2048x1024 .f32 := m ((c : Thread nD τ).loc main_arg3)
abbrev argWA : FVec Ideal S1x512x1024 .f32 := m ((c : Thread nD τ).loc main_arg4)
abbrev argWM : FVec Ideal S1x1024x1024 .f32 := m ((c : Thread nD τ).loc main_arg5)
abbrev argGa : FVec Ideal S1x1024 .f32 := m ((c : Thread nD τ).loc main_arg6)
abbrev argBe : FVec Ideal S1x1024 .f32 := m ((c : Thread nD τ).loc main_arg7)
abbrev argW1 : FVec Ideal S1x1024x256 .f32 := m ((c : Thread nD τ).loc main_arg8)
abbrev argW3 : FVec Ideal S1x1024x256 .f32 := m ((c : Thread nD τ).loc main_arg9)
abbrev argW2 : FVec Ideal S1x256x1024 .f32 := m ((c : Thread nD τ).loc main_arg10)
abbrev argWR : FVec Ideal S1x1024x256 .f32 := m ((c : Thread nD τ).loc main_arg11)

/-- The grid point's tile of rows; the weights are read whole. -/
theorem win_rows (t : Fin cfg0.N) : win0_0.index t 0 = t.val ∧ win0_0.index t 1 = 0 ∧ win0_1.index t 0 = t.val ∧ win0_1.index t 1 = 0 ∧ win0_2.index t 0 = t.val ∧ win0_2.index t 1 = 0 ∧ win0_3.index t 0 = t.val ∧ win0_3.index t 1 = 0 :=
  (by decide +kernel : ∀ t : Fin grid0.N, win0_0.index t 0 = t.val ∧ win0_0.index t 1 = 0 ∧ win0_1.index t 0 = t.val ∧ win0_1.index t 1 = 0 ∧ win0_2.index t 0 = t.val ∧ win0_2.index t 1 = 0 ∧ win0_3.index t 0 = t.val ∧ win0_3.index t 1 = 0) t

theorem win_whole (t : Fin cfg0.N) : (win0_4.index t 0 = 0 ∧ win0_4.index t 1 = 0) ∧ (win0_5.index t 0 = 0 ∧ win0_5.index t 1 = 0) ∧ (win0_6.index t 0 = 0 ∧ win0_6.index t 1 = 0) ∧ (win0_7.index t 0 = 0 ∧ win0_7.index t 1 = 0) ∧ (win0_8.index t 0 = 0 ∧ win0_8.index t 1 = 0) ∧ (win0_9.index t 0 = 0 ∧ win0_9.index t 1 = 0) ∧ (win0_10.index t 0 = 0 ∧ win0_10.index t 1 = 0) ∧ (win0_11.index t 0 = 0 ∧ win0_11.index t 1 = 0) :=
  (by decide +kernel : ∀ t : Fin grid0.N, (win0_4.index t 0 = 0 ∧ win0_4.index t 1 = 0) ∧ (win0_5.index t 0 = 0 ∧ win0_5.index t 1 = 0) ∧ (win0_6.index t 0 = 0 ∧ win0_6.index t 1 = 0) ∧ (win0_7.index t 0 = 0 ∧ win0_7.index t 1 = 0) ∧ (win0_8.index t 0 = 0 ∧ win0_8.index t 1 = 0) ∧ (win0_9.index t 0 = 0 ∧ win0_9.index t 1 = 0) ∧ (win0_10.index t 0 = 0 ∧ win0_10.index t 1 = 0) ∧ (win0_11.index t 0 = 0 ∧ win0_11.index t 1 = 0)) t

theorem win_out (t : Fin cfg0.N) : win0_12.index t 0 = t.val ∧ win0_12.index t 1 = 0 ∧ win0_13.index t 0 = t.val ∧ win0_13.index t 1 = 0 ∧ win0_13.index t 2 = 0 ∧ win0_14.index t 0 = 0 ∧ win0_14.index t 1 = t.val :=
  (by decide +kernel : ∀ t : Fin grid0.N, win0_12.index t 0 = t.val ∧ win0_12.index t 1 = 0 ∧ win0_13.index t 0 = t.val ∧ win0_13.index t 1 = 0 ∧ win0_13.index t 2 = 0 ∧ win0_14.index t 0 = 0 ∧ win0_14.index t 1 = t.val) t

theorem blk_o (t : Fin cfg0.N) (q : Fin 512) (k : Fin 512) (r : Fin 32768) (hr : r.val = t.val * 512 + q.val) : iblk m c 0 t (ix2 q k) = argO m c (ix2 r k) := by
  have h : (V m c main_arg0 : FVec Ideal S32768x512 .bf16) (ix2 r k) = argO m c (ix2 r k) := by
    exact congrFun (V_main_arg0 m c) (ix2 r k)
  refine Eq.trans ?_ h
  unfold iblk
  rw [View.read_apply]
  show V m c main_arg0 _ = _
  refine congrArg (V m c main_arg0) (funext fun a => Fin.ext ?_)
  have hi := win_rows t
  match a with
  | ⟨0, _⟩ => show win0_0.index t 0 * 512 + 1 * q.val = r.val; rw [hi.1]; omega
  | ⟨1, _⟩ => show win0_0.index t 1 * 512 + 1 * k.val = k.val; rw [hi.2.1]; omega

theorem blk_a (t : Fin cfg0.N) (q : Fin 512) (k : Fin 1024) (r : Fin 32768) (hr : r.val = t.val * 512 + q.val) : iblk m c 1 t (ix2 q k) = argA m c (ix2 r k) := by
  have h : (V m c main_arg1 : FVec Ideal S32768x1024 .bf16) (ix2 r k) = argA m c (ix2 r k) := by
    exact congrFun (V_main_arg1 m c) (ix2 r k)
  refine Eq.trans ?_ h
  unfold iblk
  rw [View.read_apply]
  show V m c main_arg1 _ = _
  refine congrArg (V m c main_arg1) (funext fun a => Fin.ext ?_)
  have hi := win_rows t
  match a with
  | ⟨0, _⟩ => show win0_1.index t 0 * 512 + 1 * q.val = r.val; rw [hi.2.2.1]; omega
  | ⟨1, _⟩ => show win0_1.index t 1 * 1024 + 1 * k.val = k.val; rw [hi.2.2.2.1]; omega

theorem blk_g (t : Fin cfg0.N) (q : Fin 512) (k : Fin 1024) (r : Fin 32768) (hr : r.val = t.val * 512 + q.val) : iblk m c 2 t (ix2 q k) = argG m c (ix2 r k) := by
  have h : (V m c main_arg2 : FVec Ideal S32768x1024 .bf16) (ix2 r k) = argG m c (ix2 r k) := by
    exact congrFun (V_main_arg2 m c) (ix2 r k)
  refine Eq.trans ?_ h
  unfold iblk
  rw [View.read_apply]
  show V m c main_arg2 _ = _
  refine congrArg (V m c main_arg2) (funext fun a => Fin.ext ?_)
  have hi := win_rows t
  match a with
  | ⟨0, _⟩ => show win0_2.index t 0 * 512 + 1 * q.val = r.val; rw [hi.2.2.2.2.1]; omega
  | ⟨1, _⟩ => show win0_2.index t 1 * 1024 + 1 * k.val = k.val; rw [hi.2.2.2.2.2.1]; omega

theorem blk_x (t : Fin cfg0.N) (q : Fin 512) (k : Fin 1024) (r : Fin 32768) (hr : r.val = t.val * 512 + q.val) : iblk m c 3 t (ix2 q k) = argX m c (ix3 ⟨r.val / 2048, by omega⟩ ⟨r.val % 2048, by omega⟩ k) := by
  have h : (V m c main_v0 : FVec Ideal S32768x1024 .f32) (ix2 r k) = argX m c (ix3 ⟨r.val / 2048, by omega⟩ ⟨r.val % 2048, by omega⟩ k) := by
    entry_read
    pointwise []
  refine Eq.trans ?_ h
  unfold iblk
  rw [View.read_apply]
  show V m c main_v0 _ = _
  refine congrArg (V m c main_v0) (funext fun a => Fin.ext ?_)
  have hi := win_rows t
  match a with
  | ⟨0, _⟩ => show win0_3.index t 0 * 512 + 1 * q.val = r.val; rw [hi.2.2.2.2.2.2.1]; omega
  | ⟨1, _⟩ => show win0_3.index t 1 * 1024 + 1 * k.val = k.val; rw [hi.2.2.2.2.2.2.2]; omega

theorem blk_wa (t : Fin cfg0.N) (k : Fin 512) (j : Fin 1024) : iblk m c 4 t (ix2 k j) = argWA m c (ix3 0 k j) := by
  have h : (V m c main_v2 : FVec Ideal S512x1024 .bf16) (ix2 k j) = argWA m c (ix3 0 k j) := by
    entry_read
    pointwise []
  refine Eq.trans ?_ h
  unfold iblk
  rw [View.read_apply]
  show V m c main_v2 _ = _
  refine congrArg (V m c main_v2) (funext fun a => Fin.ext ?_)
  have hi := (win_whole t).1
  match a with
  | ⟨0, _⟩ => show win0_4.index t 0 * 512 + 1 * k.val = k.val; rw [hi.1]; omega
  | ⟨1, _⟩ => show win0_4.index t 1 * 1024 + 1 * j.val = j.val; rw [hi.2]; omega

theorem blk_wm (t : Fin cfg0.N) (k : Fin 1024) (j : Fin 1024) : iblk m c 5 t (ix2 k j) = argWM m c (ix3 0 k j) := by
  have h : (V m c main_v4 : FVec Ideal S1024x1024 .bf16) (ix2 k j) = argWM m c (ix3 0 k j) := by
    entry_read
    pointwise []
  refine Eq.trans ?_ h
  unfold iblk
  rw [View.read_apply]
  show V m c main_v4 _ = _
  refine congrArg (V m c main_v4) (funext fun a => Fin.ext ?_)
  have hi := (win_whole t).2.1
  match a with
  | ⟨0, _⟩ => show win0_5.index t 0 * 1024 + 1 * k.val = k.val; rw [hi.1]; omega
  | ⟨1, _⟩ => show win0_5.index t 1 * 1024 + 1 * j.val = j.val; rw [hi.2]; omega

theorem blk_ga (t : Fin cfg0.N) (j : Fin 1024) : iblk m c 6 t (ix2 0 j) = argGa m c (ix2 0 j) := by
  have h : (V m c main_v6 : FVec Ideal S1x1024 .f32) (ix2 0 j) = argGa m c (ix2 0 j) := by
    entry_read
    pointwise []
  refine Eq.trans ?_ h
  unfold iblk
  rw [View.read_apply]
  show V m c main_v6 _ = _
  refine congrArg (V m c main_v6) (funext fun a => Fin.ext ?_)
  have hi := (win_whole t).2.2.1
  match a with
  | ⟨0, _⟩ => show win0_6.index t 0 * 1 + 1 * 0 = 0; rw [hi.1]
  | ⟨1, _⟩ => show win0_6.index t 1 * 1024 + 1 * j.val = j.val; rw [hi.2]; omega

theorem blk_be (t : Fin cfg0.N) (j : Fin 1024) : iblk m c 7 t (ix2 0 j) = argBe m c (ix2 0 j) := by
  have h : (V m c main_v8 : FVec Ideal S1x1024 .f32) (ix2 0 j) = argBe m c (ix2 0 j) := by
    entry_read
    pointwise []
  refine Eq.trans ?_ h
  unfold iblk
  rw [View.read_apply]
  show V m c main_v8 _ = _
  refine congrArg (V m c main_v8) (funext fun a => Fin.ext ?_)
  have hi := (win_whole t).2.2.2.1
  match a with
  | ⟨0, _⟩ => show win0_7.index t 0 * 1 + 1 * 0 = 0; rw [hi.1]
  | ⟨1, _⟩ => show win0_7.index t 1 * 1024 + 1 * j.val = j.val; rw [hi.2]; omega

theorem blk_w1 (t : Fin cfg0.N) (k : Fin 1024) (j : Fin 256) : iblk m c 8 t (ix2 k j) = argW1 m c (ix3 0 k j) := by
  have h : (V m c main_v10 : FVec Ideal S1024x256 .bf16) (ix2 k j) = argW1 m c (ix3 0 k j) := by
    entry_read
    pointwise []
  refine Eq.trans ?_ h
  unfold iblk
  rw [View.read_apply]
  show V m c main_v10 _ = _
  refine congrArg (V m c main_v10) (funext fun a => Fin.ext ?_)
  have hi := (win_whole t).2.2.2.2.1
  match a with
  | ⟨0, _⟩ => show win0_8.index t 0 * 1024 + 1 * k.val = k.val; rw [hi.1]; omega
  | ⟨1, _⟩ => show win0_8.index t 1 * 256 + 1 * j.val = j.val; rw [hi.2]; omega

theorem blk_w3 (t : Fin cfg0.N) (k : Fin 1024) (j : Fin 256) : iblk m c 9 t (ix2 k j) = argW3 m c (ix3 0 k j) := by
  have h : (V m c main_v12 : FVec Ideal S1024x256 .bf16) (ix2 k j) = argW3 m c (ix3 0 k j) := by
    entry_read
    pointwise []
  refine Eq.trans ?_ h
  unfold iblk
  rw [View.read_apply]
  show V m c main_v12 _ = _
  refine congrArg (V m c main_v12) (funext fun a => Fin.ext ?_)
  have hi := (win_whole t).2.2.2.2.2.1
  match a with
  | ⟨0, _⟩ => show win0_9.index t 0 * 1024 + 1 * k.val = k.val; rw [hi.1]; omega
  | ⟨1, _⟩ => show win0_9.index t 1 * 256 + 1 * j.val = j.val; rw [hi.2]; omega

theorem blk_w2 (t : Fin cfg0.N) (k : Fin 256) (j : Fin 1024) : iblk m c 10 t (ix2 k j) = argW2 m c (ix3 0 k j) := by
  have h : (V m c main_v14 : FVec Ideal S256x1024 .bf16) (ix2 k j) = argW2 m c (ix3 0 k j) := by
    entry_read
    pointwise []
  refine Eq.trans ?_ h
  unfold iblk
  rw [View.read_apply]
  show V m c main_v14 _ = _
  refine congrArg (V m c main_v14) (funext fun a => Fin.ext ?_)
  have hi := (win_whole t).2.2.2.2.2.2.1
  match a with
  | ⟨0, _⟩ => show win0_10.index t 0 * 256 + 1 * k.val = k.val; rw [hi.1]; omega
  | ⟨1, _⟩ => show win0_10.index t 1 * 1024 + 1 * j.val = j.val; rw [hi.2]; omega

theorem blk_wr (t : Fin cfg0.N) (k : Fin 256) (j : Fin 1024) : iblk m c 11 t (ix2 k j) = argWR m c (ix3 0 j k) := by
  have h : (V m c main_v16 : FVec Ideal S256x1024 .f32) (ix2 k j) = argWR m c (ix3 0 j k) := by
    entry_read
    pointwise []
  refine Eq.trans ?_ h
  unfold iblk
  rw [View.read_apply]
  show V m c main_v16 _ = _
  refine congrArg (V m c main_v16) (funext fun a => Fin.ext ?_)
  have hi := (win_whole t).2.2.2.2.2.2.2
  match a with
  | ⟨0, _⟩ => show win0_11.index t 0 * 256 + 1 * k.val = k.val; rw [hi.1]; omega
  | ⟨1, _⟩ => show win0_11.index t 1 * 1024 + 1 * j.val = j.val; rw [hi.2]; omega

end Cert.Kernel3Ideal.Post

end
-- ==== Proof.Post.Result.lean ====
/-
  The kernel's three results, entry by entry, from the program's arguments.
-/
module

public import proofs.«01_k».proof.Proof.Post.Tile
public import proofs.«01_k».proof.Proof.Post.Blocks

@[expose] public section

set_option maxRecDepth 16384

noncomputable section

namespace Cert.Kernel3Ideal.Post

open Idealize.ShloMosaic Idealize.ShloMosaic.TcCoe Idealize.ShloMosaic.Tactic Cert.Kernel3Ideal Cert.Kernel3Ideal.Gen Cert.Kernel3Ideal.Value

variable (m : (ℓ : Loc nD τ sig) → Buf (Elt Ideal) ℓ) (c : Dev nD)

/-- The normalised token of the kernel. -/
abbrev hv (r : Fin 32768) : Fin 1024 → EReal :=
  PostSpec.hAt (argO m c) (argA m c) (argG m c) (argX m c) (argWA m c) (argWM m c) (argGa m c) (argBe m c) r

theorem hRow_at (t : Fin cfg0.N) (q : Fin 512) (r : Fin 32768) (hr : r.val = t.val * 512 + q.val) : hRow (iblk m c 0 t) (iblk m c 1 t) (iblk m c 2 t) (iblk m c 3 t) (iblk m c 4 t) (iblk m c 5 t) (iblk m c 6 t) (iblk m c 7 t) q = hv m c r := by
  have e0 : row (e := .bf16) (iblk m c 0 t) q = fun k => argO m c (ix2 r k) := funext fun k => blk_o m c t q k r hr
  have e1 : row (e := .bf16) (iblk m c 1 t) q = fun k => argA m c (ix2 r k) := funext fun k => blk_a m c t q k r hr
  have e2 : row (e := .bf16) (iblk m c 2 t) q = fun k => argG m c (ix2 r k) := funext fun k => blk_g m c t q k r hr
  have e3 : row (e := .f32) (iblk m c 3 t) q = fun k => argX m c (ix3 ⟨r.val / 2048, by omega⟩ ⟨r.val % 2048, by omega⟩ k) := funext fun k => blk_x m c t q k r hr
  have e4 : mat (e := .bf16) (iblk m c 4 t) = fun k j => argWA m c (ix3 0 k j) := funext fun k => funext fun j => blk_wa m c t k j
  have e5 : mat (e := .bf16) (iblk m c 5 t) = fun k j => argWM m c (ix3 0 k j) := funext fun k => funext fun j => blk_wm m c t k j
  have e6 : one (e := .f32) (iblk m c 6 t) = fun j => argGa m c (ix2 0 j) := funext fun j => blk_ga m c t j
  have e7 : one (e := .f32) (iblk m c 7 t) = fun j => argBe m c (ix2 0 j) := funext fun j => blk_be m c t j
  unfold hRow hv PostSpec.hAt
  rw [e0, e1, e2, e3, e4, e5, e6, e7]

/-- The point of a row, and the row's place in its tile. -/
def pt (r : Fin 32768) : Fin cfg0.N := ⟨r.val / 512, show r.val / 512 < 64 by omega⟩
def pl (r : Fin 32768) : Fin 512 := ⟨r.val % 512, by omega⟩
theorem pt_pl (r : Fin 32768) : r.val = (pt r).val * 512 + (pl r).val := by
  show r.val = r.val / 512 * 512 + r.val % 512
  omega

theorem base_result (r : Fin 32768) (j : Fin 1024) : ((dats m 0 c).arrAt 12 cfg0.N : FVec Ideal S32768x1024 .f32) (ix2 r j)
    = PostSpec.baseAt (hv m c r) (argW1 m c) (argW3 m c) (argW2 m c) j := by
  have h := congrFun ((blocks12 m c (pt r) (flush0_12 (pt r))).trans (flushed12 m c (pt r))) (ix2 (pl r) j)
  rw [View.read_apply] at h
  have e8 : mat (e := .bf16) (iblk m c 8 (pt r)) = fun k j => argW1 m c (ix3 0 k j) := funext fun k => funext fun j => blk_w1 m c (pt r) k j
  have e9 : mat (e := .bf16) (iblk m c 9 (pt r)) = fun k j => argW3 m c (ix3 0 k j) := funext fun k => funext fun j => blk_w3 m c (pt r) k j
  have e10 : mat (e := .bf16) (iblk m c 10 (pt r)) = fun k j => argW2 m c (ix3 0 k j) := funext fun k => funext fun j => blk_w2 m c (pt r) k j
  have o := out12_at (iblk m c 0 (pt r)) (iblk m c 1 (pt r)) (iblk m c 2 (pt r)) (iblk m c 3 (pt r)) (iblk m c 4 (pt r)) (iblk m c 5 (pt r)) (iblk m c 6 (pt r)) (iblk m c 7 (pt r)) (iblk m c 8 (pt r)) (iblk m c 9 (pt r)) (iblk m c 10 (pt r)) (iblk m c 11 (pt r)) (pl r) j
  rw [hRow_at m c (pt r) (pl r) r (pt_pl r), e8, e9, e10] at o
  refine Eq.trans (congrArg ((dats m 0 c).arrAt 12 cfg0.N) (funext fun a => Fin.ext ?_)) (h.trans o)
  have hi := win_out (pt r)
  have hp := pt_pl r
  match a with
  | ⟨0, _⟩ => show r.val = win0_12.index (pt r) 0 * 512 + 1 * (pl r).val; rw [hi.1]; omega
  | ⟨1, _⟩ => show j.val = win0_12.index (pt r) 1 * 1024 + 1 * j.val; rw [hi.2.1]; omega

theorem ht_result (r : Fin 32768) (p : Fin 8) (l : Fin 128) : ((dats m 0 c).arrAt 13 cfg0.N : FVec Ideal S32768x8x128 .bf16) (ix3 r p l)
    = hv m c r (PostSpec.col p l) := by
  have h := congrFun ((blocks13 m c (pt r) (flush0_13 (pt r))).trans (flushed13 m c (pt r))) (ix3 (pl r) p l)
  rw [View.read_apply] at h
  have o := out13_at (iblk m c 0 (pt r)) (iblk m c 1 (pt r)) (iblk m c 2 (pt r)) (iblk m c 3 (pt r)) (iblk m c 4 (pt r)) (iblk m c 5 (pt r)) (iblk m c 6 (pt r)) (iblk m c 7 (pt r)) (iblk m c 8 (pt r)) (iblk m c 9 (pt r)) (iblk m c 10 (pt r)) (iblk m c 11 (pt r)) (pl r) p l
  rw [hRow_at m c (pt r) (pl r) r (pt_pl r)] at o
  refine Eq.trans (congrArg ((dats m 0 c).arrAt 13 cfg0.N) (funext fun a => Fin.ext ?_)) (h.trans o)
  have hi := win_out (pt r)
  have hp := pt_pl r
  match a with
  | ⟨0, _⟩ => show r.val = win0_13.index (pt r) 0 * 512 + 1 * (pl r).val; rw [hi.2.2.1]; omega
  | ⟨1, _⟩ => show p.val = win0_13.index (pt r) 1 * 8 + 1 * p.val; rw [hi.2.2.2.1]; omega
  | ⟨2, _⟩ => show l.val = win0_13.index (pt r) 2 * 128 + 1 * l.val; rw [hi.2.2.2.2.1]; omega

theorem logits_result (e : Fin 256) (r : Fin 32768) : ((dats m 0 c).arrAt 14 cfg0.N : FVec Ideal S256x32768 .f32) (ix2 e r)
    = PostSpec.logitAt (hv m c r) (argWR m c) e := by
  have h := congrFun ((blocks14 m c (pt r) (flush0_14 (pt r))).trans (flushed14 m c (pt r))) (ix2 e (pl r))
  rw [View.read_apply] at h
  have e11 : (fun k e => mat (e := .f32) (iblk m c 11 (pt r)) e k) = fun k j => argWR m c (ix3 0 k j) := funext fun k => funext fun j => blk_wr m c (pt r) j k
  have o := out14_at (iblk m c 0 (pt r)) (iblk m c 1 (pt r)) (iblk m c 2 (pt r)) (iblk m c 3 (pt r)) (iblk m c 4 (pt r)) (iblk m c 5 (pt r)) (iblk m c 6 (pt r)) (iblk m c 7 (pt r)) (iblk m c 8 (pt r)) (iblk m c 9 (pt r)) (iblk m c 10 (pt r)) (iblk m c 11 (pt r)) e (pl r)
  rw [hRow_at m c (pt r) (pl r) r (pt_pl r), e11] at o
  refine Eq.trans (congrArg ((dats m 0 c).arrAt 14 cfg0.N) (funext fun a => Fin.ext ?_)) (h.trans o)
  have hi := win_out (pt r)
  have hp := pt_pl r
  match a with
  | ⟨0, _⟩ => show e.val = win0_14.index (pt r) 0 * 256 + 1 * e.val; rw [hi.2.2.2.2.2.1]; omega
  | ⟨1, _⟩ => show r.val = win0_14.index (pt r) 1 * 512 + 1 * (pl r).val; rw [hi.2.2.2.2.2.2]; omega

end Cert.Kernel3Ideal.Post

end
-- ==== Proof.Post.Ref.lean ====
/-
  The reference's three results at exact numbers, entry by entry.
-/
module

public import proofs.«01_k».proof.Proof.Gen.Reference3Ideal.Run
public import proofs.«01_k».proof.Proof.Post.Spec
public import Idealize.ShloMosaic.Lib.Claim

@[expose] public section

set_option maxRecDepth 16384

noncomputable section

namespace Cert.Reference3Ideal.Post

open Idealize.ShloMosaic Idealize.ShloMosaic.TcCoe Idealize.ShloMosaic.Tactic Cert.Reference3Ideal Cert.Reference3Ideal.Gen Cert.Reference3Ideal.Value

section Terms

variable {F : FTy → Type} [FloatOps F]

/-- The tokens plus the mix. -/
def tokR (O : FVec F S32768x512 .bf16) (A : FVec F S32768x1024 .bf16) (G : FVec F S32768x1024 .bf16) (X : FVec F S16x2048x1024 .f32) (WA : FVec F S1x512x1024 .f32) (WM : FVec F S1x1024x1024 .f32) : FVec F S32768x1024 .f32 :=
  addf (mulf (broadcastInDim S32768x1024 ![] bcast_S_S32768x1024 (constant S_ .f32 0x3F9837F0#32)) (shapeCast _ X shapeCasts_S16x2048x1024_S32768x1024))
    (Host.dotGeneral dot_S32768x1024_S1024x1024_S32768x1024_1_0_0_1_n_n none (addf (extf .f32 A bitsLt_bf16_f32) (mulf (extf .f32 G bitsLt_bf16_f32)
      (Host.dotGeneral dot_S32768x512_S512x1024_S32768x1024_1_0_0_1_n_n none (extf .f32 O bitsLt_bf16_f32) (shapeCast _ WA shapeCasts_S1x512x1024_S512x1024))))
      (shapeCast _ WM shapeCasts_S1x1024x1024_S1024x1024))

/-- A row's mean, as a column. -/
def meanR (v : FVec F S32768x1024 .f32) : FVec F S32768x1 .f32 :=
  Host.divf (broadcastInDim S32768x1 ![0] bcast_S32768_S32768x1_0 (Host.reduceAdd v (constant S_ .f32 0x00000000#32) reducesTo_S32768x1024_S32768_d1 h_S_))
    (broadcastInDim S32768x1 ![] bcast_S_S32768x1 (constant S_ .f32 0x44800000#32))

def centredR (v : FVec F S32768x1024 .f32) : FVec F S32768x1024 .f32 :=
  subf v (broadcastInDim S32768x1024 ![0, 1] bcast_S32768x1_S32768x1024_0_1 (meanR v))

/-- The centred rows over their deviations, scaled and shifted. -/
def scaledR (d : FVec F S32768x1024 .f32) (Ga Be : FVec F S1x1024 .f32) : FVec F S32768x1024 .f32 :=
  addf (mulf (mulf d (broadcastInDim S32768x1024 ![0, 1] bcast_S32768x1_S32768x1024_0_1
      (Host.rsqrt (addf (meanR (mulf d d)) (broadcastInDim S32768x1 ![] bcast_S_S32768x1 (constant S_ .f32 0x3727C5AC#32))))))
    (broadcastInDim S32768x1024 ![0, 1] bcast_S1x1024_S32768x1024_0_1 (broadcastInDim S1x1024 ![1] bcast_S1024_S1x1024_1 (shapeCast _ Ga shapeCasts_S1x1024_S1024))))
    (broadcastInDim S32768x1024 ![0, 1] bcast_S1x1024_S32768x1024_0_1 (broadcastInDim S1x1024 ![1] bcast_S1024_S1x1024_1 (shapeCast _ Be shapeCasts_S1x1024_S1024)))

/-- The rows against a matrix. -/
def dotR (n : FVec F S32768x1024 .f32) (W : FVec F S1x1024x256 .f32) : FVec F S32768x256 .f32 :=
  Host.dotGeneral dot_S32768x1024_S1024x256_S32768x256_1_0_0_1_n_n none n (shapeCast _ W shapeCasts_S1x1024x256_S1024x256)

/-- The three results, from the normalised rows. -/
def baseR (n : FVec F S32768x1024 .f32) (W1 : FVec F S1x1024x256 .f32) (W3 : FVec F S1x1024x256 .f32) (W2 : FVec F S1x256x1024 .f32) : FVec F S32768x1024 .f32 :=
  addf (mulf (broadcastInDim S32768x1024 ![] bcast_S_S32768x1024 (constant S_ .f32 0x3F9837F0#32)) n)
    (Host.dotGeneral dot_S32768x256_S256x1024_S32768x1024_1_0_0_1_n_n none
      (mulf (mulf (dotR n W1) (Host.divf (broadcastInDim S32768x256 ![] bcast_S_S32768x256 (constant S_ .f32 0x3F800000#32))
        (addf (broadcastInDim S32768x256 ![] bcast_S_S32768x256 (constant S_ .f32 0x3F800000#32)) (Host.exp (Host.negf (dotR n W1)))))) (dotR n W3))
      (shapeCast _ W2 shapeCasts_S1x256x1024_S256x1024))
def htR (n : FVec F S32768x1024 .f32) : FVec F S32768x8x128 .bf16 :=
  truncf .bf16 (shapeCast _ (transpose S32768x4x2x128 [0, 2, 1, 3] (shapeCast _ n shapeCasts_S32768x1024_S32768x2x4x128) transposes_S32768x2x4x128_S32768x4x2x128_0_2_1_3)
    shapeCasts_S32768x4x2x128_S32768x8x128) bitsLt_bf16_f32
def logitsR (n : FVec F S32768x1024 .f32) (WR : FVec F S1x1024x256 .f32) : FVec F S256x32768 .f32 :=
  transpose S256x32768 [1, 0] (dotR n WR) transposes_S32768x256_S256x32768_1_0

variable (m : (ℓ : Loc nD τ sig) → Buf (Elt F) ℓ) (c : Dev nD)

/-- The attention's rows, the convolution branch, the gates, the tokens, the two output weights, the normalisation's scale and shift, the
    shared expert's three weights and the router's. -/
abbrev argO : FVec F S32768x512 .bf16 := m ((c.tc : Thread nD τ).loc main_arg0)
abbrev argA : FVec F S32768x1024 .bf16 := m ((c.tc : Thread nD τ).loc main_arg1)
abbrev argG : FVec F S32768x1024 .bf16 := m ((c.tc : Thread nD τ).loc main_arg2)
abbrev argX : FVec F S16x2048x1024 .f32 := m ((c.tc : Thread nD τ).loc main_arg3)
abbrev argWA : FVec F S1x512x1024 .f32 := m ((c.tc : Thread nD τ).loc main_arg4)
abbrev argWM : FVec F S1x1024x1024 .f32 := m ((c.tc : Thread nD τ).loc main_arg5)
abbrev argGa : FVec F S1x1024 .f32 := m ((c.tc : Thread nD τ).loc main_arg6)
abbrev argBe : FVec F S1x1024 .f32 := m ((c.tc : Thread nD τ).loc main_arg7)
abbrev argW1 : FVec F S1x1024x256 .f32 := m ((c.tc : Thread nD τ).loc main_arg8)
abbrev argW3 : FVec F S1x1024x256 .f32 := m ((c.tc : Thread nD τ).loc main_arg9)
abbrev argW2 : FVec F S1x256x1024 .f32 := m ((c.tc : Thread nD τ).loc main_arg10)
abbrev argWR : FVec F S1x1024x256 .f32 := m ((c.tc : Thread nD τ).loc main_arg11)

/-- The normalised rows. -/
def hR : FVec F S32768x1024 .f32 :=
  scaledR (centredR (tokR (argO m c) (argA m c) (argG m c) (argX m c) (argWA m c) (argWM m c))) (argGa m c) (argBe m c)

theorem res_base : (res_main_v49 m c : FVec F S32768x1024 .f32) = baseR (hR m c) (argW1 m c) (argW3 m c) (argW2 m c) := rfl

theorem res_ht : (res_main_v53 m c : FVec F S32768x8x128 .bf16) = htR (hR m c) := rfl

theorem res_logits : (res_main_v56 m c : FVec F S256x32768 .f32) = logitsR (hR m c) (argWR m c) := rfl

end Terms

theorem tok_at (O : FVec Ideal S32768x512 .bf16) (A : FVec Ideal S32768x1024 .bf16) (G : FVec Ideal S32768x1024 .bf16) (X : FVec Ideal S16x2048x1024 .f32) (WA : FVec Ideal S1x512x1024 .f32) (WM : FVec Ideal S1x1024x1024 .f32) (r : Fin 32768) (j : Fin 1024) :
    tokR (F := Ideal) O A G X WA WM (ix2 r j) = PostSpec.tok (fun i => O (ix2 r i)) (fun k => A (ix2 r k)) (fun k => G (ix2 r k))
      (fun k => X (ix3 ⟨r.val / 2048, by omega⟩ ⟨r.val % 2048, by omega⟩ k)) (fun i j => WA (ix3 0 i j)) (fun k j => WM (ix3 0 k j)) j := by
  unfold PostSpec.tok PostSpec.dn
  pointwise [tokR]

theorem mean_at (v : FVec Ideal S32768x1024 .f32) (r : Fin 32768) :
    meanR (F := Ideal) v (ix2 r 0) = Ideal.div (∑ k : Fin 1024, (v (ix2 r k) : EReal)) PostSpec.len := by
  unfold PostSpec.len
  pointwise [meanR]

theorem centred_at (v : FVec Ideal S32768x1024 .f32) (r : Fin 32768) (j : Fin 1024) :
    centredR (F := Ideal) v (ix2 r j) = PostSpec.centred (fun k => v (ix2 r k)) j := by
  unfold PostSpec.centred
  rw [← mean_at]
  generalize hm : meanR (F := Ideal) v = n
  unfold centredR
  rw [hm]
  pointwise []

theorem scaled_at (d : FVec Ideal S32768x1024 .f32) (Ga Be : FVec Ideal S1x1024 .f32) (r : Fin 32768) (j : Fin 1024) :
    scaledR (F := Ideal) d Ga Be (ix2 r j) = PostSpec.scaled (fun k => d (ix2 r k)) (fun j => Ga (ix2 0 j)) (fun j => Be (ix2 0 j)) j := by
  have e := mean_at (mulf d d) r
  unfold PostSpec.scaled PostSpec.eps
  generalize hm : meanR (F := Ideal) (mulf d d) = n at e
  unfold scaledR
  rw [hm]
  refine Eq.trans ?_ (congrArg (fun y : EReal => @HMul.hMul EReal EReal EReal _ (@HMul.hMul EReal EReal EReal _ (d (ix2 r j)) (Ideal.rsqrt (@HAdd.hAdd EReal EReal EReal _ y (Ideal.ofBits .f32 0x3727C5AC#32)))) (Ga (ix2 0 j)) + (Be (ix2 0 j) : EReal)) e)
  pointwise []

theorem h_at (m : (ℓ : Loc nD τ sig) → Buf (Elt Ideal) ℓ) (c : Dev nD) (r : Fin 32768) (j : Fin 1024) :
    hR (F := Ideal) m c (ix2 r j) = PostSpec.hAt (argO m c) (argA m c) (argG m c) (argX m c) (argWA m c) (argWM m c) (argGa m c) (argBe m c) r j := by
  unfold hR PostSpec.hAt PostSpec.h
  rw [scaled_at]
  refine congrArg (fun v => PostSpec.scaled v (fun j => argGa m c (ix2 0 j)) (fun j => argBe m c (ix2 0 j)) j) (funext fun k => ?_)
  rw [centred_at]
  exact congrArg (fun v => PostSpec.centred v k) (funext fun i => tok_at _ _ _ _ _ _ r i)

theorem dot_at (n : FVec Ideal S32768x1024 .f32) (W : FVec Ideal S1x1024x256 .f32) (r : Fin 32768) (e : Fin 256) :
    dotR (F := Ideal) n W (ix2 r e) = PostSpec.dot (fun k => n (ix2 r k)) (fun k e => W (ix3 0 k e)) e := by
  unfold PostSpec.dot
  pointwise [dotR]

theorem base_at (n : FVec Ideal S32768x1024 .f32) (W1 : FVec Ideal S1x1024x256 .f32) (W3 : FVec Ideal S1x1024x256 .f32) (W2 : FVec Ideal S1x256x1024 .f32) (r : Fin 32768) (j : Fin 1024) :
    baseR (F := Ideal) n W1 W3 W2 (ix2 r j) = PostSpec.baseAt (fun k => n (ix2 r k)) W1 W3 W2 j := by
  unfold PostSpec.baseAt PostSpec.base PostSpec.hidden PostSpec.dn
  simp only [← dot_at]
  unfold baseR
  generalize dotR (F := Ideal) n W1 = s1
  generalize dotR (F := Ideal) n W3 = s3
  pointwise []

theorem ht_at (n : FVec Ideal S32768x1024 .f32) (r : Fin 32768) (p : Fin 8) (l : Fin 128) : htR (F := Ideal) n (ix3 r p l) = n (ix2 r (PostSpec.col p l)) := by
  unfold PostSpec.col
  pointwise [htR]

theorem logits_at (n : FVec Ideal S32768x1024 .f32) (WR : FVec Ideal S1x1024x256 .f32) (e : Fin 256) (r : Fin 32768) :
    logitsR (F := Ideal) n WR (ix2 e r) = PostSpec.logitAt (fun k => n (ix2 r k)) WR e := by
  unfold PostSpec.logitAt
  rw [← dot_at]
  pointwise [logitsR]

/-- The normalised token of the reference. -/
abbrev hv (m : (ℓ : Loc nD τ sig) → Buf (Elt Ideal) ℓ) (c : Dev nD) (r : Fin 32768) : Fin 1024 → EReal :=
  PostSpec.hAt (argO m c) (argA m c) (argG m c) (argX m c) (argWA m c) (argWM m c) (argGa m c) (argBe m c) r

variable (m : (ℓ : Loc nD τ sig) → Buf (Elt Ideal) ℓ) (c : Dev nD)

theorem h_row (r : Fin 32768) : (fun k => hR (F := Ideal) m c (ix2 r k)) = hv m c r := funext fun k => h_at m c r k

theorem base_entry (r : Fin 32768) (j : Fin 1024) : (res_main_v49 m c : FVec Ideal S32768x1024 .f32) (ix2 r j)
    = PostSpec.baseAt (hv m c r) (argW1 m c) (argW3 m c) (argW2 m c) j := by
  rw [res_base, base_at, h_row]

theorem ht_entry (r : Fin 32768) (p : Fin 8) (l : Fin 128) : (res_main_v53 m c : FVec Ideal S32768x8x128 .bf16) (ix3 r p l) = hv m c r (PostSpec.col p l) := by
  rw [res_ht, ht_at, h_at]

theorem logits_entry (e : Fin 256) (r : Fin 32768) : (res_main_v56 m c : FVec Ideal S256x32768 .f32) (ix2 e r) = PostSpec.logitAt (hv m c r) (argWR m c) e := by
  rw [res_logits, logits_at, h_row]

end Cert.Reference3Ideal.Post

end
-- ==== Proof.Post.Algebraic.lean ====
/-
  The two programs' results agree: from launches on the same arguments the kernel and the reference leave the same three arrays.
-/
module

public import proofs.«01_k».proof.Defs
public import proofs.«01_k».proof.Proof.Post.Result
public import proofs.«01_k».proof.Proof.Post.Ref

@[expose] public section

set_option maxRecDepth 16384

noncomputable section

namespace Cert.Kernel3Ideal.Post

open Idealize.ShloMosaic Idealize.ShloMosaic.TcCoe Idealize.ShloMosaic.Tactic Idealize.SL.Sem Cert.Kernel3Ideal Cert.Kernel3Ideal.Gen

/-- A launch memory of the kernel, and one of the reference. -/
abbrev MemK := (ℓ : Loc Cert.Kernel3Ideal.nD Cert.Kernel3Ideal.τ Cert.Kernel3Ideal.sig) → Buf (Elt Ideal) ℓ
abbrev MemR := (ℓ : Loc Cert.Reference3Ideal.nD Cert.Reference3Ideal.τ Cert.Reference3Ideal.sig) → Buf (Elt Ideal) ℓ

/-- The two launches hold the same arguments on every device. -/
def Same (m : MemK) (m' : MemR) : Prop := ∀ c : Dev nD, Cert.Reference3Ideal.Post.argO m' c = argO m c
  ∧ Cert.Reference3Ideal.Post.argA m' c = argA m c
  ∧ Cert.Reference3Ideal.Post.argG m' c = argG m c
  ∧ Cert.Reference3Ideal.Post.argX m' c = argX m c
  ∧ Cert.Reference3Ideal.Post.argWA m' c = argWA m c
  ∧ Cert.Reference3Ideal.Post.argWM m' c = argWM m c
  ∧ Cert.Reference3Ideal.Post.argGa m' c = argGa m c
  ∧ Cert.Reference3Ideal.Post.argBe m' c = argBe m c
  ∧ Cert.Reference3Ideal.Post.argW1 m' c = argW1 m c
  ∧ Cert.Reference3Ideal.Post.argW3 m' c = argW3 m c
  ∧ Cert.Reference3Ideal.Post.argW2 m' c = argW2 m c
  ∧ Cert.Reference3Ideal.Post.argWR m' c = argWR m c

variable (m : MemK) (m' : MemR) (h : Same m m') (c : Dev nD)
include h

theorem hv_same (r : Fin 32768) : Cert.Reference3Ideal.Post.hv m' c r = hv m c r := by
  obtain ⟨h0, h1, h2, h3, h4, h5, h6, h7, -⟩ := h c
  unfold Cert.Reference3Ideal.Post.hv hv
  rw [h0, h1, h2, h3, h4, h5, h6, h7]

theorem base_same : (Cert.Reference3Ideal.Value.res_main_v49 (F := Ideal) m' c : FVec Ideal S32768x1024 .f32) = (dats m 0 c).arrAt 12 cfg0.N := by
  obtain ⟨-, -, -, -, -, -, -, -, h8, h9, h10, -⟩ := h c
  have e : ∀ (r : Fin 32768) (j : Fin 1024), PostSpec.baseAt (Cert.Reference3Ideal.Post.hv m' c r) (Cert.Reference3Ideal.Post.argW1 m' c) (Cert.Reference3Ideal.Post.argW3 m' c)
      (Cert.Reference3Ideal.Post.argW2 m' c) j = PostSpec.baseAt (hv m c r) (argW1 m c) (argW3 m c) (argW2 m c) j := fun r j => by
    rw [hv_same m m' h c, h8, h9, h10]
  funext i
  rw [eq_ix2 i]
  exact (Cert.Reference3Ideal.Post.base_entry m' c (i 0) (i 1)).trans ((e (i 0) (i 1)).trans (base_result m c (i 0) (i 1)).symm)

theorem ht_same : (Cert.Reference3Ideal.Value.res_main_v53 (F := Ideal) m' c : FVec Ideal S32768x8x128 .bf16) = (dats m 0 c).arrAt 13 cfg0.N := by
  funext i
  rw [eq_ix3 i]
  exact (Cert.Reference3Ideal.Post.ht_entry m' c (i 0) (i 1) (i 2)).trans ((congrFun (hv_same m m' h c (i 0)) _).trans (ht_result m c (i 0) (i 1) (i 2)).symm)

theorem logits_same : (Cert.Reference3Ideal.Value.res_main_v56 (F := Ideal) m' c : FVec Ideal S256x32768 .f32) = (dats m 0 c).arrAt 14 cfg0.N := by
  obtain ⟨-, -, -, -, -, -, -, -, -, -, -, h11⟩ := h c
  have e' : ∀ (e : Fin 256) (r : Fin 32768), PostSpec.logitAt (Cert.Reference3Ideal.Post.hv m' c r) (Cert.Reference3Ideal.Post.argWR m' c) e
      = PostSpec.logitAt (hv m c r) (argWR m c) e := fun e r => by
    rw [hv_same m m' h c, h11]
  funext i
  rw [eq_ix2 i]
  exact (Cert.Reference3Ideal.Post.logits_entry m' c (i 0) (i 1)).trans ((e' (i 0) (i 1)).trans (logits_result m c (i 0) (i 1)).symm)

omit h in
/-- The value claim. -/
theorem algebraic : Cert.algebraic_Kernel3Ideal_Reference3Ideal := fun m ρ m' ρ' _ hag =>
  ⟨fun c => (dats m 0 c).arrAt 12 cfg0.N, fun c => (dats m 0 c).arrAt 13 cfg0.N, fun c => (dats m 0 c).arrAt 14 cfg0.N,
    Cert.Kernel3Ideal.Value.run_blocks (F := Ideal) m ρ,
    (θ_run _ _ _).mono (fun _ h c =>
      have hs : Same m m' := hag
      have hc := h c
      ⟨hc.1.trans (base_same m m' hs c), hc.2.1.trans (ht_same m m' hs c), hc.2.2.1.trans (logits_same m m' hs c), hc.2.2.2⟩)
      (Cert.Reference3Ideal.Value.run (F := Ideal) m' ρ')⟩

end Cert.Kernel3Ideal.Post

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Att.KernelFrame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal
public import proofs.«01_k».proof.Proof.Att.Frame
public import proofs.«01_k».proof.Proof.Att.Algebraic
public import proofs.«01_k».proof.Proof.Proj.Same
public import proofs.«01_k».proof.Proof.Proj.Algebraic
public import proofs.«01_k».proof.Proof.Post.Same
public import proofs.«01_k».proof.Proof.Post.Algebraic
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import Idealize.ShloMosaic.Adequacy
public import Idealize.ShloMosaic.Init

@[expose] public section

noncomputable section

namespace Cert.Proof

open Idealize.ShloMosaic Idealize.SL.Sem Cert.Kernel

/-- The reference at `Ideal` runs and leaves its arguments and every semaphore counter as they were. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m ρ)

/-- The precondition’s side conditions. -/
theorem pre_facts : Cert.Pre_finite_scores.Facts :=
  ⟨by decide, by decide, by decide⟩

/-- The projection kernel at `Ideal` runs and leaves its arguments and every semaphore counter as they were. -/
theorem frame_kernel2_ideal : Cert.quiescent_Kernel2Ideal := fun m ρ _ => Cert.Kernel2Ideal.Gen.frame (F := Ideal) m ρ

/-- The projection reference at `Ideal` runs and leaves its arguments and every semaphore counter as they were. -/
theorem frame_reference2 : Cert.quiescent_Reference2Ideal := fun m ρ _ =>
  (θ_run Cert.Reference2Ideal.defs _ _).mono (fun r h => ⟨fun c => (h c).2.2.2.2.2.2, sem_eq_zero_of_no_sems (by decide) r.2⟩)
    (Cert.Reference2Ideal.Value.run (F := Ideal) m ρ)

/-- The call after the attention at `Ideal` runs and leaves its arguments and every semaphore counter as they were. -/
theorem frame_kernel3_ideal : Cert.quiescent_Kernel3Ideal := fun m ρ _ => Cert.Kernel3Ideal.Gen.frame (F := Ideal) m ρ

/-- Its reference at `Ideal` runs and leaves its arguments and every semaphore counter as they were. -/
theorem frame_reference3 : Cert.quiescent_Reference3Ideal := fun m ρ _ =>
  (θ_run Cert.Reference3Ideal.defs _ _).mono (fun r h => ⟨fun c => (h c).2.2.2, sem_eq_zero_of_no_sems (by decide) r.2⟩)
    (Cert.Reference3Ideal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, pre_facts,
  fun m ρ _ => Cert.Kernel.Att.frame m ρ, fun m ρ _ => Cert.KernelIdeal.Att.frame m ρ, fun m ρ _ => Cert.KernelIdeal.Att.frame m ρ,
  fun m ρ _ => frame_reference m ρ, fun m ρ _ => frame_reference m ρ,
  Cert.Kernel2Ideal.Proj.frame_kernel, frame_kernel2_ideal, frame_reference2,
  Cert.Kernel3Ideal.Post.frame_kernel, frame_kernel3_ideal, frame_reference3,
  IdealRules.named_const.statement Cert.KernelIdeal.κ "mask" .f32 0xF149F2CA#32 ⊥ rfl,
  Cert.KernelIdeal.Att.algebraic, trivial, Cert.Kernel2Ideal.Proj.algebraic,
  trivial, Cert.Kernel3Ideal.Post.algebraic⟩

end Cert.Proof

end
